-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![4, 1024, 2, 128]⟩ ⟨4, ![4, 16384, 2, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![4, 1024, 2, 128]⟩ ⟨4, ![4, 16384, 2, 128]⟩ 1 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S4x1024x2x128 : Shape := ⟨4, ![4, 1024, 2, 128]⟩
abbrev S4x256x8x128 : Shape := ⟨4, ![4, 256, 8, 128]⟩
abbrev S4x256x16 : Shape := ⟨3, ![4, 256, 16]⟩
abbrev S15x4x16x8x128 : Shape := ⟨5, ![15, 4, 16, 8, 128]⟩
abbrev S15x4x16x16 : Shape := ⟨4, ![15, 4, 16, 16]⟩
abbrev S60 : Shape := ⟨1, ![60]⟩
abbrev S15 : Shape := ⟨1, ![15]⟩
abbrev S_ : Shape := ⟨0, ![]⟩
abbrev S1x256x1024 : Shape := ⟨3, ![1, 256, 1024]⟩
abbrev S256x1024 : Shape := ⟨2, ![256, 1024]⟩
abbrev S256x128 : Shape := ⟨2, ![256, 128]⟩
abbrev S1024x128 : Shape := ⟨2, ![1024, 128]⟩
abbrev S1x1024x1x128 : Shape := ⟨4, ![1, 1024, 1, 128]⟩
abbrev S1024 : Shape := ⟨1, ![1024]⟩
abbrev S1024x1 : Shape := ⟨2, ![1024, 1]⟩
abbrev S256x1 : Shape := ⟨2, ![256, 1]⟩
abbrev S256x1x128 : Shape := ⟨3, ![256, 1, 128]⟩
abbrev S256x8x128 : Shape := ⟨3, ![256, 8, 128]⟩
abbrev S1x256x8x128 : Shape := ⟨4, ![1, 256, 8, 128]⟩
abbrev S256x16 : Shape := ⟨2, ![256, 16]⟩
abbrev S1x256x16 : Shape := ⟨3, ![1, 256, 16]⟩
abbrev S1 : Shape := ⟨1, ![1]⟩
abbrev S1x1x16x8x128 : Shape := ⟨5, ![1, 1, 16, 8, 128]⟩
abbrev S16x8x128 : Shape := ⟨3, ![16, 8, 128]⟩
abbrev S1x16x8x128 : Shape := ⟨4, ![1, 16, 8, 128]⟩
abbrev S1x4x16x16 : Shape := ⟨4, ![1, 4, 16, 16]⟩
abbrev S4x16x16 : Shape := ⟨3, ![4, 16, 16]⟩
abbrev S15x4x16x8 : Shape := ⟨4, ![15, 4, 16, 8]⟩
abbrev S4x16x8x128 : Shape := ⟨4, ![4, 16, 8, 128]⟩
abbrev S4x16x8 : Shape := ⟨3, ![4, 16, 8]⟩
abbrev S1x4x16x8 : Shape := ⟨4, ![1, 4, 16, 8]⟩
abbrev S15x4x16x8x1 : Shape := ⟨5, ![15, 4, 16, 8, 1]⟩
abbrev S4x16x8x1 : Shape := ⟨4, ![4, 16, 8, 1]⟩
abbrev S4x16x1024 : Shape := ⟨3, ![4, 16, 1024]⟩
abbrev S1x16x1024 : Shape := ⟨3, ![1, 16, 1024]⟩
abbrev S16x1024 : Shape := ⟨2, ![16, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4x256x1024, .bf16⟩
  | .hbm, ⟨1, _⟩ => ⟨S1024x1024, .bf16⟩
  | .hbm, ⟨2, _⟩ => ⟨S1024x1024, .bf16⟩
  | .hbm, ⟨3, _⟩ => ⟨S4x1024x2x128, .bf16⟩
  | .hbm, ⟨4, _⟩ => ⟨S4x1024x2x128, .bf16⟩
  | .hbm, ⟨5, _⟩ => ⟨S4x256x1024, .f32⟩
  | .local _ .vmem, ⟨0, _⟩ => ⟨S4x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S4x1024x2x128, .bf16⟩
  | .local _ .vmem, ⟨4, _⟩ => ⟨S4x1024x2x128, .bf16⟩
  | .local _ .vmem, ⟨5, _⟩ => ⟨S4x256x1024, .f32⟩
  | .local _ .vmem, ⟨6, _⟩ => ⟨S4x256x8x128, .bf16⟩
  | .local _ .vmem, ⟨7, _⟩ => ⟨S4x256x16, .f32⟩
  | .local _ .vmem, ⟨8, _⟩ => ⟨S15x4x16x8x128, .bf16⟩
  | .local _ .vmem, ⟨9, _⟩ => ⟨S15x4x16x16, .f32⟩
  | .local _ .vmem, ⟨10, _⟩ => ⟨S4x256x1024, .bf16⟩
  | _, _ => ⟨S4x256x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 186 → Bool
  | ⟨i, _⟩ => dmaSemScopedAt i

abbrev sig : RefSig :=
  (ofTc nBuf bufTy 1 186 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_98 : BitVec 32) : Fin 4 → Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v155 : BitVec 32 := Scalar.addi v2 c1_i32_98
  let c16_i32_99 : BitVec 32 := 16#32
  let v156 : BitVec 32 := Scalar.remsi v155 c16_i32_99
  let c16_i32_100 : BitVec 32 := 16#32
  let v157 : BitVec 32 := Scalar.muli v156 c16_i32_100
  let c0_i32_111 : BitVec 32 := 0#32
  let c0_i32_112 : BitVec 32 := 0#32
  ![0, v157.toNat, 0, 0]
def k0_dev16 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_98 : BitVec 32 := 1#32
  let v155 : BitVec 32 := Scalar.addi v2 c1_i32_98
  let c16_i32_99 : BitVec 32 := 16#32
  let v156 : BitVec 32 := Scalar.remsi v155 c16_i32_99
  let c1_i32_106 : BitVec 32 := 1#32
  let v158 : BitVec 32 := Scalar.muli v156 c1_i32_106
  let v159 : BitVec 32 := Scalar.addi c0_i32_107 v158
  v159.toNat
def k0_dev17 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let v168 : BitVec 32 := Scalar.addi v2 c2_i32_113
  let c16_i32_114 : BitVec 32 := 16#32
  let v169 : BitVec 32 := Scalar.remsi v168 c16_i32_114
  let c1_i32_121 : BitVec 32 := 1#32
  let v171 : BitVec 32 := Scalar.muli v169 c1_i32_121
  let v172 : BitVec 32 := Scalar.addi c0_i32_122 v171
  v172.toNat
def k0_dev18 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_128 : BitVec 32 := 3#32
  let v181 : BitVec 32 := Scalar.addi v2 c3_i32_128
  let c16_i32_129 : BitVec 32 := 16#32
  let v182 : BitVec 32 := Scalar.remsi v181 c16_i32_129
  let c1_i32_136 : BitVec 32 := 1#32
  let v184 : BitVec 32 := Scalar.muli v182 c1_i32_136
  let v185 : BitVec 32 := Scalar.addi c0_i32_137 v184
  v185.toNat
def k0_dev19 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v194 : BitVec 32 := Scalar.addi v2 c4_i32_143
  let c16_i32_144 : BitVec 32 := 16#32
  let v195 : BitVec 32 := Scalar.remsi v194 c16_i32_144
  let c1_i32_151 : BitVec 32 := 1#32
  let v197 : BitVec 32 := Scalar.muli v195 c1_i32_151
  let v198 : BitVec 32 := Scalar.addi c0_i32_152 v197
  v198.toNat
def k0_dev20 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_158 : BitVec 32 := 5#32
  let v207 : BitVec 32 := Scalar.addi v2 c5_i32_158
  let c16_i32_159 : BitVec 32 := 16#32
  let v208 : BitVec 32 := Scalar.remsi v207 c16_i32_159
  let c1_i32_166 : BitVec 32 := 1#32
  let v210 : BitVec 32 := Scalar.muli v208 c1_i32_166
  let v211 : BitVec 32 := Scalar.addi c0_i32_167 v210
  v211.toNat
def k0_dev21 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_173 : BitVec 32 := 6#32
  let v220 : BitVec 32 := Scalar.addi v2 c6_i32_173
  let c16_i32_174 : BitVec 32 := 16#32
  let v221 : BitVec 32 := Scalar.remsi v220 c16_i32_174
  let c1_i32_180 : BitVec 32 := 1#32
  let v223 : BitVec 32 := Scalar.muli v221 c1_i32_180
  let v224 : BitVec 32 := Scalar.addi c0_i32_181 v223
  v224.toNat
def k0_dev22 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_187 : BitVec 32 := 7#32
  let v233 : BitVec 32 := Scalar.addi v2 c7_i32_187
  let c16_i32_188 : BitVec 32 := 16#32
  let v234 : BitVec 32 := Scalar.remsi v233 c16_i32_188
  let c1_i32_194 : BitVec 32 := 1#32
  let v236 : BitVec 32 := Scalar.muli v234 c1_i32_194
  let v237 : BitVec 32 := Scalar.addi c0_i32_195 v236
  v237.toNat
def k0_dev23 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_201 : BitVec 32 := 8#32
  let v246 : BitVec 32 := Scalar.addi v2 c8_i32_201
  let c16_i32_202 : BitVec 32 := 16#32
  let v247 : BitVec 32 := Scalar.remsi v246 c16_i32_202
  let c1_i32_208 : BitVec 32 := 1#32
  let v249 : BitVec 32 := Scalar.muli v247 c1_i32_208
  let v250 : BitVec 32 := Scalar.addi c0_i32_209 v249
  v250.toNat
def k0_dev24 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_215 : BitVec 32 := 9#32
  let v259 : BitVec 32 := Scalar.addi v2 c9_i32_215
  let c16_i32_216 : BitVec 32 := 16#32
  let v260 : BitVec 32 := Scalar.remsi v259 c16_i32_216
  let c1_i32_222 : BitVec 32 := 1#32
  let v262 : BitVec 32 := Scalar.muli v260 c1_i32_222
  let v263 : BitVec 32 := Scalar.addi c0_i32_223 v262
  v263.toNat
def k0_dev25 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_229 : BitVec 32 := 10#32
  let v272 : BitVec 32 := Scalar.addi v2 c10_i32_229
  let c16_i32_230 : BitVec 32 := 16#32
  let v273 : BitVec 32 := Scalar.remsi v272 c16_i32_230
  let c1_i32_236 : BitVec 32 := 1#32
  let v275 : BitVec 32 := Scalar.muli v273 c1_i32_236
  let v276 : BitVec 32 := Scalar.addi c0_i32_237 v275
  v276.toNat
def k0_dev26 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_243 : BitVec 32 := 11#32
  let v285 : BitVec 32 := Scalar.addi v2 c11_i32_243
  let c16_i32_244 : BitVec 32 := 16#32
  let v286 : BitVec 32 := Scalar.remsi v285 c16_i32_244
  let c1_i32_250 : BitVec 32 := 1#32
  let v288 : BitVec 32 := Scalar.muli v286 c1_i32_250
  let v289 : BitVec 32 := Scalar.addi c0_i32_251 v288
  v289.toNat
def k0_dev27 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_257 : BitVec 32 := 12#32
  let v298 : BitVec 32 := Scalar.addi v2 c12_i32_257
  let c16_i32_258 : BitVec 32 := 16#32
  let v299 : BitVec 32 := Scalar.remsi v298 c16_i32_258
  let c1_i32_264 : BitVec 32 := 1#32
  let v301 : BitVec 32 := Scalar.muli v299 c1_i32_264
  let v302 : BitVec 32 := Scalar.addi c0_i32_265 v301
  v302.toNat
def k0_dev28 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_271 : BitVec 32 := 13#32
  let v311 : BitVec 32 := Scalar.addi v2 c13_i32_271
  let c16_i32_272 : BitVec 32 := 16#32
  let v312 : BitVec 32 := Scalar.remsi v311 c16_i32_272
  let c1_i32_278 : BitVec 32 := 1#32
  let v314 : BitVec 32 := Scalar.muli v312 c1_i32_278
  let v315 : BitVec 32 := Scalar.addi c0_i32_279 v314
  v315.toNat
def k0_dev29 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_285 : BitVec 32 := 14#32
  let v324 : BitVec 32 := Scalar.addi v2 c14_i32_285
  let c16_i32_286 : BitVec 32 := 16#32
  let v325 : BitVec 32 := Scalar.remsi v324 c16_i32_286
  let c1_i32_292 : BitVec 32 := 1#32
  let v327 : BitVec 32 := Scalar.muli v325 c1_i32_292
  let v328 : BitVec 32 := Scalar.addi c0_i32_293 v327
  v328.toNat
def k0_dev30 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_299 : BitVec 32 := 15#32
  let v337 : BitVec 32 := Scalar.addi v2 c15_i32_299
  let c16_i32_300 : BitVec 32 := 16#32
  let v338 : BitVec 32 := Scalar.remsi v337 c16_i32_300
  let c1_i32_306 : BitVec 32 := 1#32
  let v340 : BitVec 32 := Scalar.muli v338 c1_i32_306
  let v341 : BitVec 32 := Scalar.addi c0_i32_307 v340
  v341.toNat
def k0_off2 (d0 : Dev nD) (c1_i32_350 : BitVec 32) : Fin 4 → Nat :=
  let c1_i32_353 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v438 : BitVec 32 := Scalar.addi v2 c1_i32_350
  let c16_i32_351 : BitVec 32 := 16#32
  let v439 : BitVec 32 := Scalar.remsi v438 c16_i32_351
  let c16_i32_352 : BitVec 32 := 16#32
  let v440 : BitVec 32 := Scalar.muli v439 c16_i32_352
  let c0_i32_363 : BitVec 32 := 0#32
  let c0_i32_364 : BitVec 32 := 0#32
  ![1, v440.toNat, 0, 0]
def k0_dev31 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_350 : BitVec 32 := 1#32
  let v438 : BitVec 32 := Scalar.addi v2 c1_i32_350
  let c16_i32_351 : BitVec 32 := 16#32
  let v439 : BitVec 32 := Scalar.remsi v438 c16_i32_351
  let c1_i32_358 : BitVec 32 := 1#32
  let v441 : BitVec 32 := Scalar.muli v439 c1_i32_358
  let v442 : BitVec 32 := Scalar.addi c0_i32_359 v441
  v442.toNat
def k0_dev32 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_365 : BitVec 32 := 2#32
  let v451 : BitVec 32 := Scalar.addi v2 c2_i32_365
  let c16_i32_366 : BitVec 32 := 16#32
  let v452 : BitVec 32 := Scalar.remsi v451 c16_i32_366
  let c1_i32_373 : BitVec 32 := 1#32
  let v454 : BitVec 32 := Scalar.muli v452 c1_i32_373
  let v455 : BitVec 32 := Scalar.addi c0_i32_374 v454
  v455.toNat
def k0_dev33 (d0 : Dev nD) : Nat :=
  let c0_i32_389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_380 : BitVec 32 := 3#32
  let v464 : BitVec 32 := Scalar.addi v2 c3_i32_380
  let c16_i32_381 : BitVec 32 := 16#32
  let v465 : BitVec 32 := Scalar.remsi v464 c16_i32_381
  let c1_i32_388 : BitVec 32 := 1#32
  let v467 : BitVec 32 := Scalar.muli v465 c1_i32_388
  let v468 : BitVec 32 := Scalar.addi c0_i32_389 v467
  v468.toNat
def k0_dev34 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_395 : BitVec 32 := 4#32
  let v477 : BitVec 32 := Scalar.addi v2 c4_i32_395
  let c16_i32_396 : BitVec 32 := 16#32
  let v478 : BitVec 32 := Scalar.remsi v477 c16_i32_396
  let c1_i32_403 : BitVec 32 := 1#32
  let v480 : BitVec 32 := Scalar.muli v478 c1_i32_403
  let v481 : BitVec 32 := Scalar.addi c0_i32_404 v480
  v481.toNat
def k0_dev35 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_410 : BitVec 32 := 5#32
  let v490 : BitVec 32 := Scalar.addi v2 c5_i32_410
  let c16_i32_411 : BitVec 32 := 16#32
  let v491 : BitVec 32 := Scalar.remsi v490 c16_i32_411
  let c1_i32_417 : BitVec 32 := 1#32
  let v493 : BitVec 32 := Scalar.muli v491 c1_i32_417
  let v494 : BitVec 32 := Scalar.addi c0_i32_418 v493
  v494.toNat
def k0_dev36 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_424 : BitVec 32 := 6#32
  let v503 : BitVec 32 := Scalar.addi v2 c6_i32_424
  let c16_i32_425 : BitVec 32 := 16#32
  let v504 : BitVec 32 := Scalar.remsi v503 c16_i32_425
  let c1_i32_431 : BitVec 32 := 1#32
  let v506 : BitVec 32 := Scalar.muli v504 c1_i32_431
  let v507 : BitVec 32 := Scalar.addi c0_i32_432 v506
  v507.toNat
def k0_dev37 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_438 : BitVec 32 := 7#32
  let v516 : BitVec 32 := Scalar.addi v2 c7_i32_438
  let c16_i32_439 : BitVec 32 := 16#32
  let v517 : BitVec 32 := Scalar.remsi v516 c16_i32_439
  let c1_i32_445 : BitVec 32 := 1#32
  let v519 : BitVec 32 := Scalar.muli v517 c1_i32_445
  let v520 : BitVec 32 := Scalar.addi c0_i32_446 v519
  v520.toNat
def k0_dev38 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_452 : BitVec 32 := 8#32
  let v529 : BitVec 32 := Scalar.addi v2 c8_i32_452
  let c16_i32_453 : BitVec 32 := 16#32
  let v530 : BitVec 32 := Scalar.remsi v529 c16_i32_453
  let c1_i32_459 : BitVec 32 := 1#32
  let v532 : BitVec 32 := Scalar.muli v530 c1_i32_459
  let v533 : BitVec 32 := Scalar.addi c0_i32_460 v532
  v533.toNat
def k0_dev39 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_466 : BitVec 32 := 9#32
  let v542 : BitVec 32 := Scalar.addi v2 c9_i32_466
  let c16_i32_467 : BitVec 32 := 16#32
  let v543 : BitVec 32 := Scalar.remsi v542 c16_i32_467
  let c1_i32_473 : BitVec 32 := 1#32
  let v545 : BitVec 32 := Scalar.muli v543 c1_i32_473
  let v546 : BitVec 32 := Scalar.addi c0_i32_474 v545
  v546.toNat
def k0_dev40 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_480 : BitVec 32 := 10#32
  let v555 : BitVec 32 := Scalar.addi v2 c10_i32_480
  let c16_i32_481 : BitVec 32 := 16#32
  let v556 : BitVec 32 := Scalar.remsi v555 c16_i32_481
  let c1_i32_487 : BitVec 32 := 1#32
  let v558 : BitVec 32 := Scalar.muli v556 c1_i32_487
  let v559 : BitVec 32 := Scalar.addi c0_i32_488 v558
  v559.toNat
def k0_dev41 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_494 : BitVec 32 := 11#32
  let v568 : BitVec 32 := Scalar.addi v2 c11_i32_494
  let c16_i32_495 : BitVec 32 := 16#32
  let v569 : BitVec 32 := Scalar.remsi v568 c16_i32_495
  let c1_i32_501 : BitVec 32 := 1#32
  let v571 : BitVec 32 := Scalar.muli v569 c1_i32_501
  let v572 : BitVec 32 := Scalar.addi c0_i32_502 v571
  v572.toNat
def k0_dev42 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_508 : BitVec 32 := 12#32
  let v581 : BitVec 32 := Scalar.addi v2 c12_i32_508
  let c16_i32_509 : BitVec 32 := 16#32
  let v582 : BitVec 32 := Scalar.remsi v581 c16_i32_509
  let c1_i32_515 : BitVec 32 := 1#32
  let v584 : BitVec 32 := Scalar.muli v582 c1_i32_515
  let v585 : BitVec 32 := Scalar.addi c0_i32_516 v584
  v585.toNat
def k0_dev43 (d0 : Dev nD) : Nat :=
  let c0_i32_530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_522 : BitVec 32 := 13#32
  let v594 : BitVec 32 := Scalar.addi v2 c13_i32_522
  let c16_i32_523 : BitVec 32 := 16#32
  let v595 : BitVec 32 := Scalar.remsi v594 c16_i32_523
  let c1_i32_529 : BitVec 32 := 1#32
  let v597 : BitVec 32 := Scalar.muli v595 c1_i32_529
  let v598 : BitVec 32 := Scalar.addi c0_i32_530 v597
  v598.toNat
def k0_dev44 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_536 : BitVec 32 := 14#32
  let v607 : BitVec 32 := Scalar.addi v2 c14_i32_536
  let c16_i32_537 : BitVec 32 := 16#32
  let v608 : BitVec 32 := Scalar.remsi v607 c16_i32_537
  let c1_i32_543 : BitVec 32 := 1#32
  let v610 : BitVec 32 := Scalar.muli v608 c1_i32_543
  let v611 : BitVec 32 := Scalar.addi c0_i32_544 v610
  v611.toNat
def k0_dev45 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_550 : BitVec 32 := 15#32
  let v620 : BitVec 32 := Scalar.addi v2 c15_i32_550
  let c16_i32_551 : BitVec 32 := 16#32
  let v621 : BitVec 32 := Scalar.remsi v620 c16_i32_551
  let c1_i32_557 : BitVec 32 := 1#32
  let v623 : BitVec 32 := Scalar.muli v621 c1_i32_557
  let v624 : BitVec 32 := Scalar.addi c0_i32_558 v623
  v624.toNat
def k0_off3 (d0 : Dev nD) (c1_i32_600 : BitVec 32) : Fin 4 → Nat :=
  let c2_i32_603 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v721 : BitVec 32 := Scalar.addi v2 c1_i32_600
  let c16_i32_601 : BitVec 32 := 16#32
  let v722 : BitVec 32 := Scalar.remsi v721 c16_i32_601
  let c16_i32_602 : BitVec 32 := 16#32
  let v723 : BitVec 32 := Scalar.muli v722 c16_i32_602
  let c0_i32_613 : BitVec 32 := 0#32
  let c0_i32_614 : BitVec 32 := 0#32
  ![2, v723.toNat, 0, 0]
def k0_dev46 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_600 : BitVec 32 := 1#32
  let v721 : BitVec 32 := Scalar.addi v2 c1_i32_600
  let c16_i32_601 : BitVec 32 := 16#32
  let v722 : BitVec 32 := Scalar.remsi v721 c16_i32_601
  let c1_i32_608 : BitVec 32 := 1#32
  let v724 : BitVec 32 := Scalar.muli v722 c1_i32_608
  let v725 : BitVec 32 := Scalar.addi c0_i32_609 v724
  v725.toNat
def k0_dev47 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_615 : BitVec 32 := 2#32
  let v734 : BitVec 32 := Scalar.addi v2 c2_i32_615
  let c16_i32_616 : BitVec 32 := 16#32
  let v735 : BitVec 32 := Scalar.remsi v734 c16_i32_616
  let c1_i32_623 : BitVec 32 := 1#32
  let v737 : BitVec 32 := Scalar.muli v735 c1_i32_623
  let v738 : BitVec 32 := Scalar.addi c0_i32_624 v737
  v738.toNat
def k0_dev48 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_630 : BitVec 32 := 3#32
  let v747 : BitVec 32 := Scalar.addi v2 c3_i32_630
  let c16_i32_631 : BitVec 32 := 16#32
  let v748 : BitVec 32 := Scalar.remsi v747 c16_i32_631
  let c1_i32_638 : BitVec 32 := 1#32
  let v750 : BitVec 32 := Scalar.muli v748 c1_i32_638
  let v751 : BitVec 32 := Scalar.addi c0_i32_639 v750
  v751.toNat
def k0_dev49 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_645 : BitVec 32 := 4#32
  let v760 : BitVec 32 := Scalar.addi v2 c4_i32_645
  let c16_i32_646 : BitVec 32 := 16#32
  let v761 : BitVec 32 := Scalar.remsi v760 c16_i32_646
  let c1_i32_653 : BitVec 32 := 1#32
  let v763 : BitVec 32 := Scalar.muli v761 c1_i32_653
  let v764 : BitVec 32 := Scalar.addi c0_i32_654 v763
  v764.toNat
def k0_dev50 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_660 : BitVec 32 := 5#32
  let v773 : BitVec 32 := Scalar.addi v2 c5_i32_660
  let c16_i32_661 : BitVec 32 := 16#32
  let v774 : BitVec 32 := Scalar.remsi v773 c16_i32_661
  let c1_i32_667 : BitVec 32 := 1#32
  let v776 : BitVec 32 := Scalar.muli v774 c1_i32_667
  let v777 : BitVec 32 := Scalar.addi c0_i32_668 v776
  v777.toNat
def k0_dev51 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_674 : BitVec 32 := 6#32
  let v786 : BitVec 32 := Scalar.addi v2 c6_i32_674
  let c16_i32_675 : BitVec 32 := 16#32
  let v787 : BitVec 32 := Scalar.remsi v786 c16_i32_675
  let c1_i32_681 : BitVec 32 := 1#32
  let v789 : BitVec 32 := Scalar.muli v787 c1_i32_681
  let v790 : BitVec 32 := Scalar.addi c0_i32_682 v789
  v790.toNat
def k0_dev52 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_688 : BitVec 32 := 7#32
  let v799 : BitVec 32 := Scalar.addi v2 c7_i32_688
  let c16_i32_689 : BitVec 32 := 16#32
  let v800 : BitVec 32 := Scalar.remsi v799 c16_i32_689
  let c1_i32_695 : BitVec 32 := 1#32
  let v802 : BitVec 32 := Scalar.muli v800 c1_i32_695
  let v803 : BitVec 32 := Scalar.addi c0_i32_696 v802
  v803.toNat
def k0_dev53 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_702 : BitVec 32 := 8#32
  let v812 : BitVec 32 := Scalar.addi v2 c8_i32_702
  let c16_i32_703 : BitVec 32 := 16#32
  let v813 : BitVec 32 := Scalar.remsi v812 c16_i32_703
  let c1_i32_709 : BitVec 32 := 1#32
  let v815 : BitVec 32 := Scalar.muli v813 c1_i32_709
  let v816 : BitVec 32 := Scalar.addi c0_i32_710 v815
  v816.toNat
def k0_dev54 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_716 : BitVec 32 := 9#32
  let v825 : BitVec 32 := Scalar.addi v2 c9_i32_716
  let c16_i32_717 : BitVec 32 := 16#32
  let v826 : BitVec 32 := Scalar.remsi v825 c16_i32_717
  let c1_i32_723 : BitVec 32 := 1#32
  let v828 : BitVec 32 := Scalar.muli v826 c1_i32_723
  let v829 : BitVec 32 := Scalar.addi c0_i32_724 v828
  v829.toNat
def k0_dev55 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_730 : BitVec 32 := 10#32
  let v838 : BitVec 32 := Scalar.addi v2 c10_i32_730
  let c16_i32_731 : BitVec 32 := 16#32
  let v839 : BitVec 32 := Scalar.remsi v838 c16_i32_731
  let c1_i32_737 : BitVec 32 := 1#32
  let v841 : BitVec 32 := Scalar.muli v839 c1_i32_737
  let v842 : BitVec 32 := Scalar.addi c0_i32_738 v841
  v842.toNat
def k0_dev56 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_744 : BitVec 32 := 11#32
  let v851 : BitVec 32 := Scalar.addi v2 c11_i32_744
  let c16_i32_745 : BitVec 32 := 16#32
  let v852 : BitVec 32 := Scalar.remsi v851 c16_i32_745
  let c1_i32_751 : BitVec 32 := 1#32
  let v854 : BitVec 32 := Scalar.muli v852 c1_i32_751
  let v855 : BitVec 32 := Scalar.addi c0_i32_752 v854
  v855.toNat
def k0_dev57 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_758 : BitVec 32 := 12#32
  let v864 : BitVec 32 := Scalar.addi v2 c12_i32_758
  let c16_i32_759 : BitVec 32 := 16#32
  let v865 : BitVec 32 := Scalar.remsi v864 c16_i32_759
  let c1_i32_765 : BitVec 32 := 1#32
  let v867 : BitVec 32 := Scalar.muli v865 c1_i32_765
  let v868 : BitVec 32 := Scalar.addi c0_i32_766 v867
  v868.toNat
def k0_dev58 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_772 : BitVec 32 := 13#32
  let v877 : BitVec 32 := Scalar.addi v2 c13_i32_772
  let c16_i32_773 : BitVec 32 := 16#32
  let v878 : BitVec 32 := Scalar.remsi v877 c16_i32_773
  let c1_i32_779 : BitVec 32 := 1#32
  let v880 : BitVec 32 := Scalar.muli v878 c1_i32_779
  let v881 : BitVec 32 := Scalar.addi c0_i32_780 v880
  v881.toNat
def k0_dev59 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_786 : BitVec 32 := 14#32
  let v890 : BitVec 32 := Scalar.addi v2 c14_i32_786
  let c16_i32_787 : BitVec 32 := 16#32
  let v891 : BitVec 32 := Scalar.remsi v890 c16_i32_787
  let c1_i32_793 : BitVec 32 := 1#32
  let v893 : BitVec 32 := Scalar.muli v891 c1_i32_793
  let v894 : BitVec 32 := Scalar.addi c0_i32_794 v893
  v894.toNat
def k0_dev60 (d0 : Dev nD) : Nat :=
  let c0_i32_808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_800 : BitVec 32 := 15#32
  let v903 : BitVec 32 := Scalar.addi v2 c15_i32_800
  let c16_i32_801 : BitVec 32 := 16#32
  let v904 : BitVec 32 := Scalar.remsi v903 c16_i32_801
  let c1_i32_807 : BitVec 32 := 1#32
  let v906 : BitVec 32 := Scalar.muli v904 c1_i32_807
  let v907 : BitVec 32 := Scalar.addi c0_i32_808 v906
  v907.toNat
def k0_off4 (d0 : Dev nD) (c1_i32_850 : BitVec 32) : Fin 4 → Nat :=
  let c3_i32_853 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1004 : BitVec 32 := Scalar.addi v2 c1_i32_850
  let c16_i32_851 : BitVec 32 := 16#32
  let v1005 : BitVec 32 := Scalar.remsi v1004 c16_i32_851
  let c16_i32_852 : BitVec 32 := 16#32
  let v1006 : BitVec 32 := Scalar.muli v1005 c16_i32_852
  let c0_i32_863 : BitVec 32 := 0#32
  let c0_i32_864 : BitVec 32 := 0#32
  ![3, v1006.toNat, 0, 0]
def k0_dev61 (d0 : Dev nD) : Nat :=
  let c0_i32_859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_850 : BitVec 32 := 1#32
  let v1004 : BitVec 32 := Scalar.addi v2 c1_i32_850
  let c16_i32_851 : BitVec 32 := 16#32
  let v1005 : BitVec 32 := Scalar.remsi v1004 c16_i32_851
  let c1_i32_858 : BitVec 32 := 1#32
  let v1007 : BitVec 32 := Scalar.muli v1005 c1_i32_858
  let v1008 : BitVec 32 := Scalar.addi c0_i32_859 v1007
  v1008.toNat
def k0_dev62 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_865 : BitVec 32 := 2#32
  let v1017 : BitVec 32 := Scalar.addi v2 c2_i32_865
  let c16_i32_866 : BitVec 32 := 16#32
  let v1018 : BitVec 32 := Scalar.remsi v1017 c16_i32_866
  let c1_i32_873 : BitVec 32 := 1#32
  let v1020 : BitVec 32 := Scalar.muli v1018 c1_i32_873
  let v1021 : BitVec 32 := Scalar.addi c0_i32_874 v1020
  v1021.toNat
def k0_dev63 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_880 : BitVec 32 := 3#32
  let v1030 : BitVec 32 := Scalar.addi v2 c3_i32_880
  let c16_i32_881 : BitVec 32 := 16#32
  let v1031 : BitVec 32 := Scalar.remsi v1030 c16_i32_881
  let c1_i32_888 : BitVec 32 := 1#32
  let v1033 : BitVec 32 := Scalar.muli v1031 c1_i32_888
  let v1034 : BitVec 32 := Scalar.addi c0_i32_889 v1033
  v1034.toNat
def k0_dev64 (d0 : Dev nD) : Nat :=
  let c0_i32_904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_895 : BitVec 32 := 4#32
  let v1043 : BitVec 32 := Scalar.addi v2 c4_i32_895
  let c16_i32_896 : BitVec 32 := 16#32
  let v1044 : BitVec 32 := Scalar.remsi v1043 c16_i32_896
  let c1_i32_903 : BitVec 32 := 1#32
  let v1046 : BitVec 32 := Scalar.muli v1044 c1_i32_903
  let v1047 : BitVec 32 := Scalar.addi c0_i32_904 v1046
  v1047.toNat
def k0_dev65 (d0 : Dev nD) : Nat :=
  let c0_i32_918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_910 : BitVec 32 := 5#32
  let v1056 : BitVec 32 := Scalar.addi v2 c5_i32_910
  let c16_i32_911 : BitVec 32 := 16#32
  let v1057 : BitVec 32 := Scalar.remsi v1056 c16_i32_911
  let c1_i32_917 : BitVec 32 := 1#32
  let v1059 : BitVec 32 := Scalar.muli v1057 c1_i32_917
  let v1060 : BitVec 32 := Scalar.addi c0_i32_918 v1059
  v1060.toNat
def k0_dev66 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_924 : BitVec 32 := 6#32
  let v1069 : BitVec 32 := Scalar.addi v2 c6_i32_924
  let c16_i32_925 : BitVec 32 := 16#32
  let v1070 : BitVec 32 := Scalar.remsi v1069 c16_i32_925
  let c1_i32_931 : BitVec 32 := 1#32
  let v1072 : BitVec 32 := Scalar.muli v1070 c1_i32_931
  let v1073 : BitVec 32 := Scalar.addi c0_i32_932 v1072
  v1073.toNat
def k0_dev67 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_938 : BitVec 32 := 7#32
  let v1082 : BitVec 32 := Scalar.addi v2 c7_i32_938
  let c16_i32_939 : BitVec 32 := 16#32
  let v1083 : BitVec 32 := Scalar.remsi v1082 c16_i32_939
  let c1_i32_945 : BitVec 32 := 1#32
  let v1085 : BitVec 32 := Scalar.muli v1083 c1_i32_945
  let v1086 : BitVec 32 := Scalar.addi c0_i32_946 v1085
  v1086.toNat
def k0_dev68 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_952 : BitVec 32 := 8#32
  let v1095 : BitVec 32 := Scalar.addi v2 c8_i32_952
  let c16_i32_953 : BitVec 32 := 16#32
  let v1096 : BitVec 32 := Scalar.remsi v1095 c16_i32_953
  let c1_i32_959 : BitVec 32 := 1#32
  let v1098 : BitVec 32 := Scalar.muli v1096 c1_i32_959
  let v1099 : BitVec 32 := Scalar.addi c0_i32_960 v1098
  v1099.toNat
def k0_dev69 (d0 : Dev nD) : Nat :=
  let c0_i32_974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_966 : BitVec 32 := 9#32
  let v1108 : BitVec 32 := Scalar.addi v2 c9_i32_966
  let c16_i32_967 : BitVec 32 := 16#32
  let v1109 : BitVec 32 := Scalar.remsi v1108 c16_i32_967
  let c1_i32_973 : BitVec 32 := 1#32
  let v1111 : BitVec 32 := Scalar.muli v1109 c1_i32_973
  let v1112 : BitVec 32 := Scalar.addi c0_i32_974 v1111
  v1112.toNat
def k0_dev70 (d0 : Dev nD) : Nat :=
  let c0_i32_988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_980 : BitVec 32 := 10#32
  let v1121 : BitVec 32 := Scalar.addi v2 c10_i32_980
  let c16_i32_981 : BitVec 32 := 16#32
  let v1122 : BitVec 32 := Scalar.remsi v1121 c16_i32_981
  let c1_i32_987 : BitVec 32 := 1#32
  let v1124 : BitVec 32 := Scalar.muli v1122 c1_i32_987
  let v1125 : BitVec 32 := Scalar.addi c0_i32_988 v1124
  v1125.toNat
def k0_dev71 (d0 : Dev nD) : Nat :=
  let c0_i32_1002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_994 : BitVec 32 := 11#32
  let v1134 : BitVec 32 := Scalar.addi v2 c11_i32_994
  let c16_i32_995 : BitVec 32 := 16#32
  let v1135 : BitVec 32 := Scalar.remsi v1134 c16_i32_995
  let c1_i32_1001 : BitVec 32 := 1#32
  let v1137 : BitVec 32 := Scalar.muli v1135 c1_i32_1001
  let v1138 : BitVec 32 := Scalar.addi c0_i32_1002 v1137
  v1138.toNat
def k0_dev72 (d0 : Dev nD) : Nat :=
  let c0_i32_1016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1008 : BitVec 32 := 12#32
  let v1147 : BitVec 32 := Scalar.addi v2 c12_i32_1008
  let c16_i32_1009 : BitVec 32 := 16#32
  let v1148 : BitVec 32 := Scalar.remsi v1147 c16_i32_1009
  let c1_i32_1015 : BitVec 32 := 1#32
  let v1150 : BitVec 32 := Scalar.muli v1148 c1_i32_1015
  let v1151 : BitVec 32 := Scalar.addi c0_i32_1016 v1150
  v1151.toNat
def k0_dev73 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1022 : BitVec 32 := 13#32
  let v1160 : BitVec 32 := Scalar.addi v2 c13_i32_1022
  let c16_i32_1023 : BitVec 32 := 16#32
  let v1161 : BitVec 32 := Scalar.remsi v1160 c16_i32_1023
  let c1_i32_1029 : BitVec 32 := 1#32
  let v1163 : BitVec 32 := Scalar.muli v1161 c1_i32_1029
  let v1164 : BitVec 32 := Scalar.addi c0_i32_1030 v1163
  v1164.toNat
def k0_dev74 (d0 : Dev nD) : Nat :=
  let c0_i32_1044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1036 : BitVec 32 := 14#32
  let v1173 : BitVec 32 := Scalar.addi v2 c14_i32_1036
  let c16_i32_1037 : BitVec 32 := 16#32
  let v1174 : BitVec 32 := Scalar.remsi v1173 c16_i32_1037
  let c1_i32_1043 : BitVec 32 := 1#32
  let v1176 : BitVec 32 := Scalar.muli v1174 c1_i32_1043
  let v1177 : BitVec 32 := Scalar.addi c0_i32_1044 v1176
  v1177.toNat
def k0_dev75 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1050 : BitVec 32 := 15#32
  let v1186 : BitVec 32 := Scalar.addi v2 c15_i32_1050
  let c16_i32_1051 : BitVec 32 := 16#32
  let v1187 : BitVec 32 := Scalar.remsi v1186 c16_i32_1051
  let c1_i32_1057 : BitVec 32 := 1#32
  let v1189 : BitVec 32 := Scalar.muli v1187 c1_i32_1057
  let v1190 : BitVec 32 := Scalar.addi c0_i32_1058 v1189
  v1190.toNat
def k0_off5 (d0 : Dev nD) (c1_i32_1064 : BitVec 32) : Fin 3 → Nat :=
  let c0_i32_1075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1199 : BitVec 32 := Scalar.addi v2 c1_i32_1064
  let c16_i32_1065 : BitVec 32 := 16#32
  let v1200 : BitVec 32 := Scalar.remsi v1199 c16_i32_1065
  let c16_i32_1066 : BitVec 32 := 16#32
  let v1201 : BitVec 32 := Scalar.muli v1200 c16_i32_1066
  let c0_i32_1076 : BitVec 32 := 0#32
  ![0, v1201.toNat, 0]
def k0_dev76 (d0 : Dev nD) : Nat :=
  let c0_i32_1071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1064 : BitVec 32 := 1#32
  let v1199 : BitVec 32 := Scalar.addi v2 c1_i32_1064
  let c16_i32_1065 : BitVec 32 := 16#32
  let v1200 : BitVec 32 := Scalar.remsi v1199 c16_i32_1065
  let c1_i32_1070 : BitVec 32 := 1#32
  let v1202 : BitVec 32 := Scalar.muli v1200 c1_i32_1070
  let v1203 : BitVec 32 := Scalar.addi c0_i32_1071 v1202
  v1203.toNat
def k0_dev77 (d0 : Dev nD) : Nat :=
  let c0_i32_1084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1077 : BitVec 32 := 2#32
  let v1211 : BitVec 32 := Scalar.addi v2 c2_i32_1077
  let c16_i32_1078 : BitVec 32 := 16#32
  let v1212 : BitVec 32 := Scalar.remsi v1211 c16_i32_1078
  let c1_i32_1083 : BitVec 32 := 1#32
  let v1214 : BitVec 32 := Scalar.muli v1212 c1_i32_1083
  let v1215 : BitVec 32 := Scalar.addi c0_i32_1084 v1214
  v1215.toNat
def k0_dev78 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1090 : BitVec 32 := 3#32
  let v1223 : BitVec 32 := Scalar.addi v2 c3_i32_1090
  let c16_i32_1091 : BitVec 32 := 16#32
  let v1224 : BitVec 32 := Scalar.remsi v1223 c16_i32_1091
  let c1_i32_1096 : BitVec 32 := 1#32
  let v1226 : BitVec 32 := Scalar.muli v1224 c1_i32_1096
  let v1227 : BitVec 32 := Scalar.addi c0_i32_1097 v1226
  v1227.toNat
def k0_dev79 (d0 : Dev nD) : Nat :=
  let c0_i32_1110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1103 : BitVec 32 := 4#32
  let v1235 : BitVec 32 := Scalar.addi v2 c4_i32_1103
  let c16_i32_1104 : BitVec 32 := 16#32
  let v1236 : BitVec 32 := Scalar.remsi v1235 c16_i32_1104
  let c1_i32_1109 : BitVec 32 := 1#32
  let v1238 : BitVec 32 := Scalar.muli v1236 c1_i32_1109
  let v1239 : BitVec 32 := Scalar.addi c0_i32_1110 v1238
  v1239.toNat
def k0_dev80 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1116 : BitVec 32 := 5#32
  let v1247 : BitVec 32 := Scalar.addi v2 c5_i32_1116
  let c16_i32_1117 : BitVec 32 := 16#32
  let v1248 : BitVec 32 := Scalar.remsi v1247 c16_i32_1117
  let c1_i32_1122 : BitVec 32 := 1#32
  let v1250 : BitVec 32 := Scalar.muli v1248 c1_i32_1122
  let v1251 : BitVec 32 := Scalar.addi c0_i32_1123 v1250
  v1251.toNat
def k0_dev81 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1129 : BitVec 32 := 6#32
  let v1259 : BitVec 32 := Scalar.addi v2 c6_i32_1129
  let c16_i32_1130 : BitVec 32 := 16#32
  let v1260 : BitVec 32 := Scalar.remsi v1259 c16_i32_1130
  let c1_i32_1135 : BitVec 32 := 1#32
  let v1262 : BitVec 32 := Scalar.muli v1260 c1_i32_1135
  let v1263 : BitVec 32 := Scalar.addi c0_i32_1136 v1262
  v1263.toNat
def k0_dev82 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1142 : BitVec 32 := 7#32
  let v1271 : BitVec 32 := Scalar.addi v2 c7_i32_1142
  let c16_i32_1143 : BitVec 32 := 16#32
  let v1272 : BitVec 32 := Scalar.remsi v1271 c16_i32_1143
  let c1_i32_1148 : BitVec 32 := 1#32
  let v1274 : BitVec 32 := Scalar.muli v1272 c1_i32_1148
  let v1275 : BitVec 32 := Scalar.addi c0_i32_1149 v1274
  v1275.toNat
def k0_dev83 (d0 : Dev nD) : Nat :=
  let c0_i32_1162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1155 : BitVec 32 := 8#32
  let v1283 : BitVec 32 := Scalar.addi v2 c8_i32_1155
  let c16_i32_1156 : BitVec 32 := 16#32
  let v1284 : BitVec 32 := Scalar.remsi v1283 c16_i32_1156
  let c1_i32_1161 : BitVec 32 := 1#32
  let v1286 : BitVec 32 := Scalar.muli v1284 c1_i32_1161
  let v1287 : BitVec 32 := Scalar.addi c0_i32_1162 v1286
  v1287.toNat
def k0_dev84 (d0 : Dev nD) : Nat :=
  let c0_i32_1175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1168 : BitVec 32 := 9#32
  let v1295 : BitVec 32 := Scalar.addi v2 c9_i32_1168
  let c16_i32_1169 : BitVec 32 := 16#32
  let v1296 : BitVec 32 := Scalar.remsi v1295 c16_i32_1169
  let c1_i32_1174 : BitVec 32 := 1#32
  let v1298 : BitVec 32 := Scalar.muli v1296 c1_i32_1174
  let v1299 : BitVec 32 := Scalar.addi c0_i32_1175 v1298
  v1299.toNat
def k0_dev85 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1181 : BitVec 32 := 10#32
  let v1307 : BitVec 32 := Scalar.addi v2 c10_i32_1181
  let c16_i32_1182 : BitVec 32 := 16#32
  let v1308 : BitVec 32 := Scalar.remsi v1307 c16_i32_1182
  let c1_i32_1187 : BitVec 32 := 1#32
  let v1310 : BitVec 32 := Scalar.muli v1308 c1_i32_1187
  let v1311 : BitVec 32 := Scalar.addi c0_i32_1188 v1310
  v1311.toNat
def k0_dev86 (d0 : Dev nD) : Nat :=
  let c0_i32_1201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1194 : BitVec 32 := 11#32
  let v1319 : BitVec 32 := Scalar.addi v2 c11_i32_1194
  let c16_i32_1195 : BitVec 32 := 16#32
  let v1320 : BitVec 32 := Scalar.remsi v1319 c16_i32_1195
  let c1_i32_1200 : BitVec 32 := 1#32
  let v1322 : BitVec 32 := Scalar.muli v1320 c1_i32_1200
  let v1323 : BitVec 32 := Scalar.addi c0_i32_1201 v1322
  v1323.toNat
def k0_dev87 (d0 : Dev nD) : Nat :=
  let c0_i32_1214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1207 : BitVec 32 := 12#32
  let v1331 : BitVec 32 := Scalar.addi v2 c12_i32_1207
  let c16_i32_1208 : BitVec 32 := 16#32
  let v1332 : BitVec 32 := Scalar.remsi v1331 c16_i32_1208
  let c1_i32_1213 : BitVec 32 := 1#32
  let v1334 : BitVec 32 := Scalar.muli v1332 c1_i32_1213
  let v1335 : BitVec 32 := Scalar.addi c0_i32_1214 v1334
  v1335.toNat
def k0_dev88 (d0 : Dev nD) : Nat :=
  let c0_i32_1227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1220 : BitVec 32 := 13#32
  let v1343 : BitVec 32 := Scalar.addi v2 c13_i32_1220
  let c16_i32_1221 : BitVec 32 := 16#32
  let v1344 : BitVec 32 := Scalar.remsi v1343 c16_i32_1221
  let c1_i32_1226 : BitVec 32 := 1#32
  let v1346 : BitVec 32 := Scalar.muli v1344 c1_i32_1226
  let v1347 : BitVec 32 := Scalar.addi c0_i32_1227 v1346
  v1347.toNat
def k0_dev89 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1233 : BitVec 32 := 14#32
  let v1355 : BitVec 32 := Scalar.addi v2 c14_i32_1233
  let c16_i32_1234 : BitVec 32 := 16#32
  let v1356 : BitVec 32 := Scalar.remsi v1355 c16_i32_1234
  let c1_i32_1239 : BitVec 32 := 1#32
  let v1358 : BitVec 32 := Scalar.muli v1356 c1_i32_1239
  let v1359 : BitVec 32 := Scalar.addi c0_i32_1240 v1358
  v1359.toNat
def k0_dev90 (d0 : Dev nD) : Nat :=
  let c0_i32_1253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1246 : BitVec 32 := 15#32
  let v1367 : BitVec 32 := Scalar.addi v2 c15_i32_1246
  let c16_i32_1247 : BitVec 32 := 16#32
  let v1368 : BitVec 32 := Scalar.remsi v1367 c16_i32_1247
  let c1_i32_1252 : BitVec 32 := 1#32
  let v1370 : BitVec 32 := Scalar.muli v1368 c1_i32_1252
  let v1371 : BitVec 32 := Scalar.addi c0_i32_1253 v1370
  v1371.toNat
def k0_off6 (d0 : Dev nD) : Fin 4 → Nat :=
  let c0_2141 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_61 : BitVec 32 := 16#32
  let v64 : BitVec 32 := Scalar.muli v2 c16_i32_61
  let v1968 : Index := Scalar.indexCast v64
  let c0_2142 : Index := 0#32
  let c0_2143 : Index := 0#32
  ![0, v1968.toNat, 0, 0]
def k0_off7 (d0 : Dev nD) : Fin 3 → Nat :=
  let c0_2144 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_61 : BitVec 32 := 16#32
  let v64 : BitVec 32 := Scalar.muli v2 c16_i32_61
  let v1971 : Index := Scalar.indexCast v64
  let c0_2145 : Index := 0#32
  ![0, v1971.toNat, 0]
def k0_off8 (d0 : Dev nD) : Fin 3 → Nat :=
  let c0_2146 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_61 : BitVec 32 := 16#32
  let v64 : BitVec 32 := Scalar.muli v2 c16_i32_61
  let v1973 : Index := Scalar.indexCast v64
  let c8_2147 : Index := 8#32
  ![0, v1973.toNat, 8]
def k0_off9 (d0 : Dev nD) : Fin 3 → Nat :=
  let c0_2157 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_61 : BitVec 32 := 16#32
  let v64 : BitVec 32 := Scalar.muli v2 c16_i32_61
  let v2020 : Index := Scalar.indexCast v64
  let c0_2158 : Index := 0#32
  ![0, v2020.toNat, 0]
def k0_off10 (d0 : Dev nD) : Fin 3 → Nat :=
  let c0_i32_2165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_61 : BitVec 32 := 16#32
  let v64 : BitVec 32 := Scalar.muli v2 c16_i32_61
  let c0_i32_2166 : BitVec 32 := 0#32
  ![0, v64.toNat, 0]
def k0_dev91 (d0 : Dev nD) : Nat :=
  let c0_i32_2164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2159 : BitVec 32 := 1#32
  let v2024 : BitVec 32 := Scalar.addi v2 c1_i32_2159
  let c16_i32_2160 : BitVec 32 := 16#32
  let v2025 : BitVec 32 := Scalar.remsi v2024 c16_i32_2160
  let c1_i32_2163 : BitVec 32 := 1#32
  let v2026 : BitVec 32 := Scalar.muli v2025 c1_i32_2163
  let v2027 : BitVec 32 := Scalar.addi c0_i32_2164 v2026
  v2027.toNat
def k0_dev92 (d0 : Dev nD) : Nat :=
  let c0_i32_2174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2169 : BitVec 32 := 2#32
  let v2034 : BitVec 32 := Scalar.addi v2 c2_i32_2169
  let c16_i32_2170 : BitVec 32 := 16#32
  let v2035 : BitVec 32 := Scalar.remsi v2034 c16_i32_2170
  let c1_i32_2173 : BitVec 32 := 1#32
  let v2036 : BitVec 32 := Scalar.muli v2035 c1_i32_2173
  let v2037 : BitVec 32 := Scalar.addi c0_i32_2174 v2036
  v2037.toNat
def k0_dev93 (d0 : Dev nD) : Nat :=
  let c0_i32_2184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2179 : BitVec 32 := 3#32
  let v2044 : BitVec 32 := Scalar.addi v2 c3_i32_2179
  let c16_i32_2180 : BitVec 32 := 16#32
  let v2045 : BitVec 32 := Scalar.remsi v2044 c16_i32_2180
  let c1_i32_2183 : BitVec 32 := 1#32
  let v2046 : BitVec 32 := Scalar.muli v2045 c1_i32_2183
  let v2047 : BitVec 32 := Scalar.addi c0_i32_2184 v2046
  v2047.toNat
def k0_dev94 (d0 : Dev nD) : Nat :=
  let c0_i32_2194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2189 : BitVec 32 := 4#32
  let v2054 : BitVec 32 := Scalar.addi v2 c4_i32_2189
  let c16_i32_2190 : BitVec 32 := 16#32
  let v2055 : BitVec 32 := Scalar.remsi v2054 c16_i32_2190
  let c1_i32_2193 : BitVec 32 := 1#32
  let v2056 : BitVec 32 := Scalar.muli v2055 c1_i32_2193
  let v2057 : BitVec 32 := Scalar.addi c0_i32_2194 v2056
  v2057.toNat
def k0_dev95 (d0 : Dev nD) : Nat :=
  let c0_i32_2204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2199 : BitVec 32 := 5#32
  let v2064 : BitVec 32 := Scalar.addi v2 c5_i32_2199
  let c16_i32_2200 : BitVec 32 := 16#32
  let v2065 : BitVec 32 := Scalar.remsi v2064 c16_i32_2200
  let c1_i32_2203 : BitVec 32 := 1#32
  let v2066 : BitVec 32 := Scalar.muli v2065 c1_i32_2203
  let v2067 : BitVec 32 := Scalar.addi c0_i32_2204 v2066
  v2067.toNat
def k0_dev96 (d0 : Dev nD) : Nat :=
  let c0_i32_2214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2209 : BitVec 32 := 6#32
  let v2074 : BitVec 32 := Scalar.addi v2 c6_i32_2209
  let c16_i32_2210 : BitVec 32 := 16#32
  let v2075 : BitVec 32 := Scalar.remsi v2074 c16_i32_2210
  let c1_i32_2213 : BitVec 32 := 1#32
  let v2076 : BitVec 32 := Scalar.muli v2075 c1_i32_2213
  let v2077 : BitVec 32 := Scalar.addi c0_i32_2214 v2076
  v2077.toNat
def k0_dev97 (d0 : Dev nD) : Nat :=
  let c0_i32_2224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2219 : BitVec 32 := 7#32
  let v2084 : BitVec 32 := Scalar.addi v2 c7_i32_2219
  let c16_i32_2220 : BitVec 32 := 16#32
  let v2085 : BitVec 32 := Scalar.remsi v2084 c16_i32_2220
  let c1_i32_2223 : BitVec 32 := 1#32
  let v2086 : BitVec 32 := Scalar.muli v2085 c1_i32_2223
  let v2087 : BitVec 32 := Scalar.addi c0_i32_2224 v2086
  v2087.toNat
def k0_dev98 (d0 : Dev nD) : Nat :=
  let c0_i32_2234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2229 : BitVec 32 := 8#32
  let v2094 : BitVec 32 := Scalar.addi v2 c8_i32_2229
  let c16_i32_2230 : BitVec 32 := 16#32
  let v2095 : BitVec 32 := Scalar.remsi v2094 c16_i32_2230
  let c1_i32_2233 : BitVec 32 := 1#32
  let v2096 : BitVec 32 := Scalar.muli v2095 c1_i32_2233
  let v2097 : BitVec 32 := Scalar.addi c0_i32_2234 v2096
  v2097.toNat
def k0_dev99 (d0 : Dev nD) : Nat :=
  let c0_i32_2244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2239 : BitVec 32 := 9#32
  let v2104 : BitVec 32 := Scalar.addi v2 c9_i32_2239
  let c16_i32_2240 : BitVec 32 := 16#32
  let v2105 : BitVec 32 := Scalar.remsi v2104 c16_i32_2240
  let c1_i32_2243 : BitVec 32 := 1#32
  let v2106 : BitVec 32 := Scalar.muli v2105 c1_i32_2243
  let v2107 : BitVec 32 := Scalar.addi c0_i32_2244 v2106
  v2107.toNat
def k0_dev100 (d0 : Dev nD) : Nat :=
  let c0_i32_2254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2249 : BitVec 32 := 10#32
  let v2114 : BitVec 32 := Scalar.addi v2 c10_i32_2249
  let c16_i32_2250 : BitVec 32 := 16#32
  let v2115 : BitVec 32 := Scalar.remsi v2114 c16_i32_2250
  let c1_i32_2253 : BitVec 32 := 1#32
  let v2116 : BitVec 32 := Scalar.muli v2115 c1_i32_2253
  let v2117 : BitVec 32 := Scalar.addi c0_i32_2254 v2116
  v2117.toNat
def k0_dev101 (d0 : Dev nD) : Nat :=
  let c0_i32_2264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2259 : BitVec 32 := 11#32
  let v2124 : BitVec 32 := Scalar.addi v2 c11_i32_2259
  let c16_i32_2260 : BitVec 32 := 16#32
  let v2125 : BitVec 32 := Scalar.remsi v2124 c16_i32_2260
  let c1_i32_2263 : BitVec 32 := 1#32
  let v2126 : BitVec 32 := Scalar.muli v2125 c1_i32_2263
  let v2127 : BitVec 32 := Scalar.addi c0_i32_2264 v2126
  v2127.toNat
def k0_dev102 (d0 : Dev nD) : Nat :=
  let c0_i32_2274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2269 : BitVec 32 := 12#32
  let v2134 : BitVec 32 := Scalar.addi v2 c12_i32_2269
  let c16_i32_2270 : BitVec 32 := 16#32
  let v2135 : BitVec 32 := Scalar.remsi v2134 c16_i32_2270
  let c1_i32_2273 : BitVec 32 := 1#32
  let v2136 : BitVec 32 := Scalar.muli v2135 c1_i32_2273
  let v2137 : BitVec 32 := Scalar.addi c0_i32_2274 v2136
  v2137.toNat
def k0_dev103 (d0 : Dev nD) : Nat :=
  let c0_i32_2284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2279 : BitVec 32 := 13#32
  let v2144 : BitVec 32 := Scalar.addi v2 c13_i32_2279
  let c16_i32_2280 : BitVec 32 := 16#32
  let v2145 : BitVec 32 := Scalar.remsi v2144 c16_i32_2280
  let c1_i32_2283 : BitVec 32 := 1#32
  let v2146 : BitVec 32 := Scalar.muli v2145 c1_i32_2283
  let v2147 : BitVec 32 := Scalar.addi c0_i32_2284 v2146
  v2147.toNat
def k0_dev104 (d0 : Dev nD) : Nat :=
  let c0_i32_2294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2289 : BitVec 32 := 14#32
  let v2154 : BitVec 32 := Scalar.addi v2 c14_i32_2289
  let c16_i32_2290 : BitVec 32 := 16#32
  let v2155 : BitVec 32 := Scalar.remsi v2154 c16_i32_2290
  let c1_i32_2293 : BitVec 32 := 1#32
  let v2156 : BitVec 32 := Scalar.muli v2155 c1_i32_2293
  let v2157 : BitVec 32 := Scalar.addi c0_i32_2294 v2156
  v2157.toNat
def k0_dev105 (d0 : Dev nD) : Nat :=
  let c0_i32_2304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2299 : BitVec 32 := 15#32
  let v2164 : BitVec 32 := Scalar.addi v2 c15_i32_2299
  let c16_i32_2300 : BitVec 32 := 16#32
  let v2165 : BitVec 32 := Scalar.remsi v2164 c16_i32_2300
  let c1_i32_2303 : BitVec 32 := 1#32
  let v2166 : BitVec 32 := Scalar.muli v2165 c1_i32_2303
  let v2167 : BitVec 32 := Scalar.addi c0_i32_2304 v2166
  v2167.toNat
def k0_off11 (d0 : Dev nD) (c0_i32_2319 : BitVec 32) : Fin 3 → Nat :=
  let c0_2324 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2182 : BitVec 32 := Scalar.subi v2 c0_i32_2319
  let c1_i32_2320 : BitVec 32 := 1#32
  let v2183 : BitVec 32 := Scalar.subi v2182 c1_i32_2320
  let c16_i32_2321 : BitVec 32 := 16#32
  let v2184 : BitVec 32 := Scalar.addi v2183 c16_i32_2321
  let c16_i32_2322 : BitVec 32 := 16#32
  let v2185 : BitVec 32 := Scalar.remsi v2184 c16_i32_2322
  let c16_i32_2323 : BitVec 32 := 16#32
  let v2186 : BitVec 32 := Scalar.muli v2185 c16_i32_2323
  let v2187 : Index := Scalar.indexCast v2186
  let c0_2325 : Index := 0#32
  ![0, v2187.toNat, 0]
abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x2x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x1024 : Shape := ⟨2, ![1024, 1024]⟩
abbrev S4x16384x2x128 : Shape := ⟨4, ![4, 16384, 2, 128]⟩
abbrev S4x256x8x128 : Shape := ⟨4, ![4, 256, 8, 128]⟩
abbrev S4x16384x2x4x128 : Shape := ⟨5, ![4, 16384, 2, 4, 128]⟩
abbrev S4x16384x8x128 : Shape := ⟨4, ![4, 16384, 8, 128]⟩
abbrev S4x8x256x16384 : Shape := ⟨4, ![4, 8, 256, 16384]⟩
abbrev S_ : Shape := ⟨0, ![]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S4x256x8x1 : Shape := ⟨4, ![4, 256, 8, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S1024x1024, .bf16⟩
  | .hbm, ⟨2, _⟩ => ⟨S1024x1024, .bf16⟩
  | .hbm, ⟨3, _⟩ => ⟨S4x16384x2x128, .bf16⟩
  | .hbm, ⟨4, _⟩ => ⟨S4x16384x2x128, .bf16⟩
  | .hbm, ⟨5, _⟩ => ⟨S4x256x1024, .f32⟩
  | .hbm, ⟨6, _⟩ => ⟨S1024x1024, .f32⟩
  | .hbm, ⟨7, _⟩ => ⟨S1024x1024, .f32⟩
  | .hbm, ⟨8, _⟩ => ⟨S4x16384x2x128, .f32⟩
  | .hbm, ⟨9, _⟩ => ⟨S4x16384x2x128, .f32⟩
  | .hbm, ⟨10, _⟩ => ⟨S4x256x1024, .f32⟩
  | .hbm, ⟨11, _⟩ => ⟨S4x256x1024, .bf16⟩
  | .hbm, ⟨12, _⟩ => ⟨S4x256x1024, .f32⟩
  | .hbm, ⟨13, _⟩ => ⟨S4x256x8x128, .f32⟩
  | .hbm, ⟨14, _⟩ => ⟨S4x16384x2x4x128, .f32⟩
  | .hbm, ⟨15, _⟩ => ⟨S4x16384x8x128, .f32⟩
  | .hbm, ⟨16, _⟩ => ⟨S4x16384x2x4x128, .f32⟩
  | .hbm, ⟨17, _⟩ => ⟨S4x16384x8x128, .f32⟩
  | .hbm, ⟨18, _⟩ => ⟨S4x8x256x16384, .f32⟩
  | .hbm, ⟨19, _⟩ => ⟨S4x8x256x16384, .bf16⟩
  | .hbm, ⟨20, _⟩ => ⟨S4x8x256x16384, .f32⟩
  | .hbm, ⟨21, _⟩ => ⟨S_, .f32⟩
  | .hbm, ⟨22, _⟩ => ⟨S4x8x256x16384, .f32⟩
  | .hbm, ⟨23, _⟩ => ⟨S4x8x256x16384, .f32⟩
  | .hbm, ⟨24, _⟩ => ⟨S_, .f32⟩
  | .hbm, ⟨25, _⟩ => ⟨S4x8x256, .f32⟩
  | .hbm, ⟨26, _⟩ => ⟨S4x8x256x1, .f32⟩
  | .hbm, ⟨27, _⟩ => ⟨S4x8x256x16384, .f32⟩
  | .hbm, ⟨28, _⟩ => ⟨S4x8x256x16384, .f32⟩
  | .hbm, ⟨29, _⟩ => ⟨S4x8x256x16384, .f32⟩
  | .hbm, ⟨30, _⟩ => ⟨S_, .f32⟩
  | .hbm, ⟨31, _⟩ => ⟨S4x8x256, .f32⟩
  | .hbm, ⟨32, _⟩ => ⟨S4x8x256x1, .f32⟩
  | .hbm, ⟨33, _⟩ => ⟨S4x8x128x256, .f32⟩
  | .hbm, ⟨34, _⟩ => ⟨S4x256x8x128, .f32⟩
  | .hbm, ⟨35, _⟩ => ⟨S4x256x8x1, .f32⟩
  | .hbm, ⟨36, _⟩ => ⟨S4x256x8x128, .f32⟩
  | .hbm, ⟨37, _⟩ => ⟨S4x256x8x128, .f32⟩
  | .hbm, ⟨38, _⟩ => ⟨S4x256x1024, .f32⟩
  | .hbm, ⟨39, _⟩ => ⟨S4x256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.Kernel.Args.lean ====
/-
The kernel's parts at the launch's buffers and semaphores.
-/
module

public import proofs.«01_k».proof.Proof.Kernel.Ops

@[expose] public section

noncomputable section

namespace Cert.Kernel.Mesh

open Cert.Kernel Cert.Kernel.Gen

open Idealize.ShloMosaic

/-- A part of the kernel at the buffers and semaphores it is launched on. -/
abbrev on {β : Sort*}
    (f : (arg0 : Memref sig .tc .vmem S4x256x1024 .bf16) → arg0.IsWhole → (arg1 : Memref sig .tc .vmem S1024x1024 .bf16) → arg1.IsWhole →
      (arg2 : Memref sig .tc .vmem S1024x1024 .bf16) → arg2.IsWhole → (arg3 : Memref sig .tc .vmem S4x1024x2x128 .bf16) → arg3.IsWhole →
      (arg4 : Memref sig .tc .vmem S4x1024x2x128 .bf16) → arg4.IsWhole → (arg5 : Memref sig .tc .vmem S4x256x1024 .f32) → arg5.IsWhole →
      (arg6 : Memref sig .tc .vmem S4x256x8x128 .bf16) → arg6.IsWhole → (arg7 : Memref sig .tc .vmem S4x256x16 .f32) → arg7.IsWhole →
      (arg8 : Memref sig .tc .vmem S15x4x16x8x128 .bf16) → arg8.IsWhole → (arg9 : Memref sig .tc .vmem S15x4x16x16 .f32) → arg9.IsWhole →
      (arg10 : Memref sig .tc .vmem S4x256x1024 .bf16) → arg10.IsWhole →
      DmaSems sig S60 → DmaSems sig S60 → DmaSems sig S15 → DmaSems sig S15 → DmaSems sig S15 → DmaSems sig S15 → β) : β :=
  f A0 (Memref.isWhole_whole _) A1 (Memref.isWhole_whole _) A2 (Memref.isWhole_whole _) A3 (Memref.isWhole_whole _) A4 (Memref.isWhole_whole _)
    A5 (Memref.isWhole_whole _) A6 (Memref.isWhole_whole _) A7 (Memref.isWhole_whole _) A8 (Memref.isWhole_whole _) A9 (Memref.isWhole_whole _)
    A10 (Memref.isWhole_whole _) cc0_scratch5 cc0_scratch6 cc0_scratch7 cc0_scratch8 cc0_scratch9 cc0_scratch10

end Cert.Kernel.Mesh

end
-- ==== Proof.KernelIdeal.Proto.lean ====
/-
The exchange among the sixteen devices: who talks to whom, on which semaphore, about which rows of which buffer,
and the one-round schedule every semaphore cell follows.

A device's transfers are numbered by a phase and a hop. Phases 0–3 send the partial outputs of one batch each,
phase 4 sends the running maxima and sums, phase 5 sends the finished rows; hop `j` goes to the device `j + 1` places
ahead. What the buffers hold is a parameter (`Cont`): the protocol does not depend on what is computed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.ViewIndex
public import Idealize.ShloMosaic.Lib.ValueLayout
public import Idealize.ShloMosaic.Lib.Exec.Geometry

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the mesh's, whose duties are named by hops -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices and hops -/

/-- A transfer: its phase and its hop. -/
abbrev Item : Type := Fin 6 × Fin 15

/-- The place of a transfer in program order, the same for the sends, the receive waits and the send waits. -/
def rk (x : Item) : ℕ := 15 * x.1.val + x.2.val

theorem rk_inj : Function.Injective rk := by
  rintro ⟨k, j⟩ ⟨k', j'⟩ h
  simp only [rk] at h
  exact Prod.ext (Fin.ext (by simp only; omega)) (Fin.ext (by simp only; omega))

theorem rk_lt (x : Item) : rk x < 90 := by simp only [rk]; omega

/-- The device `j + 1` places ahead of `c`. -/
def peer (c : Dev nD) (j : Fin 15) : Dev nD := ⟨(c.val + (1 + j.val)) % 16, Nat.mod_lt _ (by decide)⟩

/-- The hop back. -/
def rev (j : Fin 15) : Fin 15 := ⟨14 - j.val, by omega⟩

theorem peer_val (c : Dev nD) (j : Fin 15) : (peer c j).val = (c.val + (1 + j.val)) % 16 := rfl
theorem dev_lt (c : Dev nD) : c.val < 16 := c.isLt

theorem rev_rev (j : Fin 15) : rev (rev j) = j := Fin.ext (by simp only [rev]; omega)
theorem peer_rev (c : Dev nD) (j : Fin 15) : peer (peer c j) (rev j) = c :=
  Fin.ext (by have := dev_lt c; simp only [peer, rev]; omega)
theorem peer_rev' (c : Dev nD) (j : Fin 15) : peer (peer c (rev j)) j = c := by
  have h := peer_rev c (rev j); rwa [rev_rev] at h

theorem peer_ne (c : Dev nD) (j : Fin 15) : peer c j ≠ c := fun h => by
  have h' := congrArg Fin.val h; have := dev_lt c; simp only [peer_val] at h'; omega
theorem peer_inj (c : Dev nD) : Function.Injective (peer c) := fun j j' h => by
  have h' := congrArg Fin.val h; have := dev_lt c; simp only [peer_val] at h'; exact Fin.ext (by omega)

/-- Hops in the opposite order. -/
def revEquiv : Fin 15 ≃ Fin 15 := ⟨rev, rev, rev_rev, rev_rev⟩
/-- Each device along one hop. -/
def peerEquiv (j : Fin 15) : Dev nD ≃ Dev nD := ⟨fun c => peer c j, fun c => peer c (rev j), fun c => peer_rev c j, fun c => peer_rev' c j⟩

omit [FloatOps F] in
/-- One index split off a separating conjunction, as an equation. -/
theorem bigSep_ins {I : Type} [DecidableEq I] {i : I} {s : Finset I} (h : i ∉ s) {Φ : I → sProp 𝕄} :
    bigSep (insert i s) Φ = iprop(Φ i ∗ bigSep s Φ) := bigSep_insert h

omit [FloatOps F] in
/-- A separating conjunction over the devices, as seen from `c`: itself and its fifteen peers. -/
theorem bigSep_dev (c : Dev nD) (Φ : Dev nD → sProp 𝕄) :
    bigSep Finset.univ Φ = iprop(Φ c ∗ bigSep Finset.univ fun j => Φ (peer c j)) := by
  have hu : (Finset.univ : Finset (Dev nD)) = insert c (Finset.univ.map ⟨peer c, peer_inj c⟩) := by
    ext d
    simp only [Finset.mem_univ, Finset.mem_insert, Finset.mem_map, true_and, Function.Embedding.coeFn_mk, true_iff]
    by_cases h : d = c
    · exact .inl h
    · refine .inr ⟨⟨(d.val + 15 - c.val) % 16, ?_⟩, Fin.ext ?_⟩
      · have := dev_lt c; have := dev_lt d
        have : d.val ≠ c.val := fun h' => h (Fin.ext h')
        omega
      · have := dev_lt c; have := dev_lt d
        have : d.val ≠ c.val := fun h' => h (Fin.ext h')
        simp only [peer_val]; omega
  rw [hu, bigSep_ins (by
    simp only [Finset.mem_map, Finset.mem_univ, true_and, Function.Embedding.coeFn_mk, not_exists]; exact fun j => peer_ne c j)]
  rw [bigSep_map]; rfl

/-! ## Separating conjunctions along a program order -/

section Order
variable {I : Type} [Fintype I] [DecidableEq I] (r : I → ℕ)

/-- What is still to come from place `n` on; -/
def rest (n : ℕ) (Φ : I → sProp 𝕄) : sProp 𝕄 := bigSep (Finset.univ.filter fun x => n ≤ r x) Φ
/-- what has gone before place `n`. -/
def gone (n : ℕ) (Φ : I → sProp 𝕄) : sProp 𝕄 := bigSep (Finset.univ.filter fun x => r x < n) Φ

variable {r} (hr : Function.Injective r)

include hr in
omit [FloatOps F] in
theorem rest_step {n : ℕ} (x : I) (hx : r x = n) (Φ : I → sProp 𝕄) : rest r n Φ = iprop(Φ x ∗ rest r (n + 1) Φ) := by
  subst hx
  unfold rest
  rw [show (Finset.univ.filter fun y => r x ≤ r y) = insert x (Finset.univ.filter fun y => r x + 1 ≤ r y) from by
    ext y; simp only [Finset.mem_filter, Finset.mem_univ, true_and, Finset.mem_insert]
    constructor
    · intro h
      rcases Nat.eq_or_lt_of_le h with e | e
      · exact .inl (hr e.symm)
      · exact .inr e
    · rintro (rfl | h)
      · exact le_rfl
      · omega]
  rw [bigSep_ins (by simp)]

include hr in
omit [FloatOps F] in
theorem gone_step {n : ℕ} (x : I) (hx : r x = n) (Φ : I → sProp 𝕄) : gone r (n + 1) Φ = iprop(Φ x ∗ gone r n Φ) := by
  subst hx
  unfold gone
  rw [show (Finset.univ.filter fun y => r y < r x + 1) = insert x (Finset.univ.filter fun y => r y < r x) from by
    ext y; simp only [Finset.mem_filter, Finset.mem_univ, true_and, Finset.mem_insert]
    constructor
    · intro h
      rcases Nat.eq_or_lt_of_le (Nat.le_of_lt_succ h) with e | e
      · exact .inl (hr e)
      · exact .inr e
    · rintro (rfl | h)
      · omega
      · omega]
  rw [bigSep_ins (by simp)]

omit [FloatOps F] in
theorem rest_zero (Φ : I → sProp 𝕄) : rest r 0 Φ = bigSep Finset.univ Φ := by
  unfold rest; simp
omit [FloatOps F] in
theorem gone_zero (Φ : I → sProp 𝕄) : gone r 0 Φ = iprop(emp) := by
  unfold gone; simp [bigSep_empty]; rfl
omit [FloatOps F] in
theorem gone_all {n : ℕ} (hn : ∀ x, r x < n) (Φ : I → sProp 𝕄) : gone r n Φ = bigSep Finset.univ Φ := by
  unfold gone; rw [Finset.filter_true_of_mem fun x _ => hn x]
omit [FloatOps F] in
theorem rest_none {n : ℕ} (hn : ∀ x, r x < n) (Φ : I → sProp 𝕄) : rest r n Φ = iprop(emp) := by
  unfold rest; rw [Finset.filter_false_of_mem fun x _ => by have := hn x; omega, bigSep_empty]; rfl

/-- The same over the tallies a device owes. -/
def owing (n : ℕ) (t : I → CellTallies nD τ sig Unit) : CellTallies nD τ sig Unit := ∑ x ∈ Finset.univ.filter (fun x => n ≤ r x), t x

end Order

theorem owing_step {I : Type} [Fintype I] [DecidableEq I] {r : I → ℕ} (hr : Function.Injective r) {n : ℕ} (x : I) (hx : r x = n)
    (t : I → CellTallies nD τ sig Unit) : owing (r := r) n t = owing (r := r) (n + 1) t + t x := by
  subst hx
  unfold owing
  rw [show (Finset.univ.filter fun y => r x ≤ r y) = insert x (Finset.univ.filter fun y => r x + 1 ≤ r y) from by
    ext y; simp only [Finset.mem_filter, Finset.mem_univ, true_and, Finset.mem_insert]
    constructor
    · intro h
      rcases Nat.eq_or_lt_of_le h with e | e
      · exact .inl (hr e.symm)
      · exact .inr e
    · rintro (rfl | h)
      · exact le_rfl
      · omega]
  rw [Finset.sum_insert (by simp), add_comm]

theorem owing_none {I : Type} [Fintype I] {r : I → ℕ} {n : ℕ} (hn : ∀ x, r x < n) (t : I → CellTallies nD τ sig Unit) :
    owing (r := r) n t = 0 := by
  unfold owing; rw [Finset.filter_false_of_mem fun x _ => by have := hn x; omega, Finset.sum_empty]

theorem owing_pos {I : Type} [Fintype I] {r : I → ℕ} {n : ℕ} {t : I → CellTallies nD τ sig Unit} {g : GSem nD τ sig} {u : Unit}
    (h : 0 < owing (r := r) n t g u) : ∃ x, n ≤ r x ∧ 0 < t x g u := by
  unfold owing at h
  rw [Finset.sum_apply, Finsupp.finset_sum_apply] at h
  obtain ⟨x, hx, hp⟩ := Finset.exists_ne_zero_of_sum_ne_zero (Nat.pos_iff_ne_zero.mp h)
  exact ⟨x, (Finset.mem_filter.mp hx).2, Nat.pos_of_ne_zero hp⟩

/-! ## Semaphores and cells -/

/-- The runtime's barrier semaphore. -/
abbrev barS : Sem sig := (SemArray.scalar (sig.barrier 0 rfl) : Sems sig S_).sem

/-- A transfer's semaphore at its sender; -/
def sndS (x : Item) : DmaSem sig :=
  (⟨if x.1.val < 4 then 6 + (4 * x.2.val + x.1.val) else if x.1.val = 4 then 126 + x.2.val else 156 + x.2.val, by split_ifs <;> omega⟩ : Fin 186)
/-- at its receiver. -/
def rcvS (x : Item) : DmaSem sig :=
  (⟨if x.1.val < 4 then 66 + (4 * x.2.val + x.1.val) else if x.1.val = 4 then 141 + x.2.val else 171 + x.2.val, by split_ifs <;> omega⟩ : Fin 186)

/-- The cells of one device: its barrier, and per transfer a sending and a receiving one. -/
abbrev KI : Type := Option (Bool × Item)

def csem : KI → SemLoc sig
  | none => .reg barS
  | some (false, x) => .dma (sndS x)
  | some (true, x) => .dma (rcvS x)

/-- The kernel's own scoped semaphores: all but the barrier. -/
def osem (k : Bool × Item) : SemLoc sig := csem (some k)

theorem snd_val (x : Item) : (sndS x : Fin 186).val
    = if x.1.val < 4 then 6 + (4 * x.2.val + x.1.val) else if x.1.val = 4 then 126 + x.2.val else 156 + x.2.val := rfl
theorem rcv_val (x : Item) : (rcvS x : Fin 186).val
    = if x.1.val < 4 then 66 + (4 * x.2.val + x.1.val) else if x.1.val = 4 then 141 + x.2.val else 171 + x.2.val := rfl

theorem csem_inj : Function.Injective csem := by
  rintro (_ | ⟨b, k, j⟩) (_ | ⟨b', k', j'⟩) h
  · rfl
  · cases b' <;> cases h
  · cases b <;> cases h
  · have hv : ∀ q q' : DmaSem sig, SemLoc.dma q = SemLoc.dma q' → (q : Fin 186).val = (q' : Fin 186).val := by
      intro q q' e; cases e; rfl
    have key : b = b' ∧ k.val = k'.val ∧ j.val = j'.val := by
      cases b <;> cases b' <;> have e := hv _ _ h <;> simp only [snd_val, rcv_val] at e <;> split_ifs at e <;>
        first | (exfalso; omega) | (refine ⟨rfl, ?_, ?_⟩ <;> omega)
    obtain ⟨rfl, hk, hj⟩ := key
    rw [Fin.ext hk, Fin.ext hj]

abbrev barCell (c : Dev nD) : GSem nD τ sig := ((c : Thread nD τ), .reg barS)
abbrev sndCell (c : Dev nD) (x : Item) : GSem nD τ sig := ((c : Thread nD τ), .dma (sndS x))
abbrev rcvCell (c : Dev nD) (x : Item) : GSem nD τ sig := ((c : Thread nD τ), .dma (rcvS x))
abbrev kcell (ck : Dev nD × KI) : GSem nD τ sig := ((ck.1 : Thread nD τ), csem ck.2)

theorem kcell_inj : Function.Injective kcell := by
  rintro ⟨c, k⟩ ⟨c', k'⟩ h
  have h1 : (c : Thread nD τ) = (c' : Thread nD τ) := congrArg Prod.fst h
  have h2 : csem k = csem k' := congrArg Prod.snd h
  have h1' : c = c' := congrArg Prod.fst h1
  rw [h1', csem_inj h2]

/-- Which of a device's cells a semaphore is, if any. -/
def dec (s : SemLoc sig) : Option KI := by
  classical exact if h : ∃ k, csem k = s then some h.choose else none

theorem dec_csem (k : KI) : dec (csem k) = some k := by
  classical
  unfold dec
  have h : ∃ k', csem k' = csem k := ⟨k, rfl⟩
  rw [dif_pos h]
  exact congrArg some (csem_inj h.choose_spec)

theorem dec_bar : dec (.reg barS) = some none := dec_csem none
theorem dec_snd (x : Item) : dec (.dma (sndS x)) = some (some (false, x)) := dec_csem (some (false, x))
theorem dec_rcv (x : Item) : dec (.dma (rcvS x)) = some (some (true, x)) := dec_csem (some (true, x))

theorem dec_some {s : SemLoc sig} {k : KI} (h : dec s = some k) : s = csem k := by
  classical
  unfold dec at h
  split_ifs at h with h'
  cases h
  exact h'.choose_spec.symm

/-! ## Buffers, row sets, contents -/

abbrev oL (c : Dev nD) : Loc nD τ sig := (c : Thread nD τ).loc cc0_scratch0
abbrev mlL (c : Dev nD) : Loc nD τ sig := (c : Thread nD τ).loc cc0_scratch1
abbrev roL (c : Dev nD) : Loc nD τ sig := (c : Thread nD τ).loc cc0_scratch2
abbrev rmL (c : Dev nD) : Loc nD τ sig := (c : Thread nD τ).loc cc0_scratch3
abbrev fbL (c : Dev nD) : Loc nD τ sig := (c : Thread nD τ).loc cc0_scratch4

/-- Batch `b`, the sixteen rows of device `d`, of the partial outputs; -/
def oSet (b d : ℕ) : Finset S4x256x8x128.Idx := Finset.univ.filter fun i => (i 0).val = b ∧ (i 1).val / 16 = d
/-- all batches, the rows of device `d`, of the maxima and sums; -/
def mlSet (d : ℕ) : Finset S4x256x16.Idx := Finset.univ.filter fun i => (i 1).val / 16 = d
/-- slot `j`, batch `b`, of the received partial outputs; -/
def roSet (j b : ℕ) : Finset S15x4x16x8x128.Idx := Finset.univ.filter fun i => (i 0).val = j ∧ (i 1).val = b
/-- slot `j` of the received maxima and sums; -/
def rmSet (j : ℕ) : Finset S15x4x16x16.Idx := Finset.univ.filter fun i => (i 0).val = j
/-- the rows of device `d` of the result. -/
def fbSet (d : ℕ) : Finset S4x256x1024.Idx := Finset.univ.filter fun i => (i 1).val / 16 = d

/-- What the devices send: the partial outputs, the maxima and sums (by device), and the finished rows (all devices'
    together: device `d` makes the rows `16 d, …, 16 d + 15`). -/
structure Cont (F : FTy → Type) where
  ob : Dev nD → Vec F S4x256x8x128 .bf16
  ml : Dev nD → Vec F S4x256x16 .f32
  fb : Vec F S4x256x1024 .bf16

/-- Row `r` of device `d`'s sixteen. -/
def row (d : Dev nD) (r : Fin 16) : Fin 256 := ⟨16 * d.val + r.val, by have := dev_lt d; omega⟩

/-- What slot `j` of device `d`'s receive buffer ends with: its rows of the partial outputs of the device behind hop `j`; -/
def Cont.ro (Γ : Cont F) (d : Dev nD) : Vec F S15x4x16x8x128 .bf16 := fun i =>
  Γ.ob (peer d (rev (i 0))) (ix4 (i 1 : Fin 4) (row d (i 2)) (i 3 : Fin 8) (i 4 : Fin 128))
/-- likewise for the maxima and sums. -/
def Cont.rm (Γ : Cont F) (d : Dev nD) : Vec F S15x4x16x16 .f32 := fun i =>
  Γ.ml (peer d (rev (i 0))) (ix3 (i 1 : Fin 4) (row d (i 2)) (i 3 : Fin 16))

variable (Γ : Cont F)

/-- What a transfer's source holds while it is under way: `c`'s rows for the addressed device, or a share of `c`'s own
    finished rows. -/
def srcPts (c : Dev nD) (x : Item) : sProp 𝕄 :=
  if x.1.val < 4 then oL c ↦[oSet x.1.val (peer c x.2).val]{fullShare} Γ.ob c
  else if x.1.val = 4 then mlL c ↦[mlSet (peer c x.2).val]{fullShare} Γ.ml c
  else fbL c ↦[fbSet c.val]{ShareLeaves.leaf 4 fullShare ⟨x.2.val, by omega⟩} Γ.fb

/-- The part of `d`'s memory a transfer lands in, at any contents; -/
def slotAny (d : Dev nD) (x : Item) : sProp 𝕄 :=
  if x.1.val < 4 then iprop(∃ f, roL d ↦[roSet x.2.val x.1.val]{fullShare} f)
  else if x.1.val = 4 then iprop(∃ f, rmL d ↦[rmSet x.2.val]{fullShare} f)
  else iprop(∃ f, fbL d ↦[fbSet (peer d (rev x.2)).val]{fullShare} f)

/-- landed. -/
def landPts (d : Dev nD) (x : Item) : sProp 𝕄 :=
  if x.1.val < 4 then roL d ↦[roSet x.2.val x.1.val]{fullShare} Γ.ro d
  else if x.1.val = 4 then rmL d ↦[rmSet x.2.val]{fullShare} Γ.rm d
  else fbL d ↦[fbSet (peer d (rev x.2)).val]{fullShare} Γ.fb

/-- What the peer along hop `j` hands over at the barrier: its six landing places for hop `j`. -/
def barPay (c : Dev nD) (j : Fin 15) : sProp 𝕄 := bigSep Finset.univ fun k : Fin 6 => slotAny (peer c j) (k, j)

omit [FloatOps F] in
instance srcPts_storable (c : Dev nD) (x : Item) : BI.Storable (upEmb : UEmb _ 𝕄) (srcPts Γ c x) := by
  unfold srcPts; (repeat' split) <;> infer_instance
omit [FloatOps F] in
instance slotAny_storable (c : Dev nD) (x : Item) : BI.Storable (upEmb : UEmb _ 𝕄) (slotAny (F := F) c x) := by
  unfold slotAny; (repeat' split) <;> infer_instance
omit [FloatOps F] in
instance landPts_storable (c : Dev nD) (x : Item) : BI.Storable (upEmb : UEmb _ 𝕄) (landPts Γ c x) := by
  unfold landPts; (repeat' split) <;> infer_instance
omit [FloatOps F] in
instance barPay_storable (c : Dev nD) (j : Fin 15) : BI.Storable (upEmb : UEmb _ 𝕄) (barPay (F := F) c j) := by
  unfold barPay; infer_instance

/-! ## The schedule -/

/-- The credit of one transfer: the same for every hop of a phase. -/
def NI (k : Fin 6) : ℕ :=
  if k.val < 4 then
    ((((Memref.whole cc0_scratch2 : Memref sig .tc .vmem S15x4x16x8x128 .bf16).slice (Rect.unit (s := S15x4x16x8x128) ![0, 0, 0, 0, 0] S1x1x16x8x128.size inb_S15x4x16x8x128_S1x1x16x8x128_0_0_0_0_0) (fun _ => rfl)).squeeze S16x8x128 squeezes_S1x1x16x8x128_S16x8x128)).view.dmaCredit
  else if k.val = 4 then
    (((Memref.whole cc0_scratch3 : Memref sig .tc .vmem S15x4x16x16 .f32).slice (Rect.unit (s := S15x4x16x16) ![0, 0, 0, 0] S1x4x16x16.size inb_S15x4x16x16_S1x4x16x16_0_0_0_0) (fun _ => rfl)).squeeze S4x16x16 squeezes_S1x4x16x16_S4x16x16).view.dmaCredit
  else
    ((Memref.whole cc0_scratch4 : Memref sig .tc .vmem S4x256x1024 .bf16).slice (Rect.unit (s := S4x256x1024) ![0, 0, 0] S4x16x1024.size (by decide)) (fun _ => rfl)).view.dmaCredit

theorem NI_pos (k : Fin 6) : 0 < NI k := by
  unfold NI; split_ifs
  · exact View.dmaCredit_pos _ (by decide)
  · exact View.dmaCredit_pos _ (by decide)
  · exact View.dmaCredit_pos _ (by decide)

/-- One round. A barrier cell has fifteen duties of one unit, one per hop; a transfer's two cells one duty each. -/
def Rd : Rounds.Schedule (GSem nD τ sig) (Fin 15) 𝕄 where
  duties g r := if r = 0 ∧ g.1.2 = .tc then (match dec g.2 with | none => ∅ | some none => Finset.univ | some (some _) => {0}) else ∅
  unitless _ := False
  amount g _ _ := match dec g.2 with | none => 1 | some none => 1 | some (some y) => NI y.2.1
  payload g _ d := match dec g.2 with
    | none => iprop(emp)
    | some none => barPay g.1.1 d
    | some (some (false, x)) => srcPts Γ g.1.1 x
    | some (some (true, x)) => landPts Γ g.1.1 x
  amount_pos g _ _ _ := by
    match dec g.2 with
    | none => exact Nat.one_pos
    | some none => exact Nat.one_pos
    | some (some y) => exact NI_pos _

omit [FloatOps F] in
instance Rd_payload_storable (g : GSem nD τ sig) (r : ℕ) (d : Fin 15) :
    BI.Storable (upEmb : UEmb _ 𝕄) ((Rd Γ).payload g r d) := by
  show BI.Storable upEmb (match dec g.2 with
    | none => iprop(emp)
    | some none => barPay g.1.1 d
    | some (some (false, x)) => srcPts Γ g.1.1 x
    | some (some (true, x)) => landPts Γ g.1.1 x)
  split <;> infer_instance

section Sched
variable (c : Dev nD) (x : Item)

omit [FloatOps F] in
theorem duties_bar : (Rd Γ).duties (barCell c) 0 = Finset.univ := by
  dsimp only [Rd]; rw [if_pos ⟨rfl, rfl⟩, dec_bar]
omit [FloatOps F] in
theorem duties_snd : (Rd Γ).duties (sndCell c x) 0 = {0} := by dsimp only [Rd]; rw [if_pos ⟨rfl, rfl⟩, dec_snd]
omit [FloatOps F] in
theorem duties_rcv : (Rd Γ).duties (rcvCell c x) 0 = {0} := by dsimp only [Rd]; rw [if_pos ⟨rfl, rfl⟩, dec_rcv]
omit [FloatOps F] in
theorem duties_later (g : GSem nD τ sig) : ∀ r, 1 ≤ r → (Rd Γ).duties g r = ∅ :=
  fun r hr => by dsimp only [Rd]; rw [if_neg fun h => by omega]
omit [FloatOps F] in
theorem amount_bar (d : Fin 15) : (Rd Γ).amount (barCell c) 0 d = 1 := by dsimp only [Rd]; rw [dec_bar]
omit [FloatOps F] in
theorem amount_snd (d : Fin 15) : (Rd Γ).amount (sndCell c x) 0 d = NI x.1 := by dsimp only [Rd]; rw [dec_snd]
omit [FloatOps F] in
theorem amount_rcv (d : Fin 15) : (Rd Γ).amount (rcvCell c x) 0 d = NI x.1 := by dsimp only [Rd]; rw [dec_rcv]
omit [FloatOps F] in
theorem payload_bar (d : Fin 15) : (Rd Γ).payload (barCell c) 0 d = barPay c d := by dsimp only [Rd]; rw [dec_bar]
omit [FloatOps F] in
theorem payload_snd (d : Fin 15) : (Rd Γ).payload (sndCell c x) 0 d = srcPts Γ c x := by dsimp only [Rd]; rw [dec_snd]
omit [FloatOps F] in
theorem payload_rcv (d : Fin 15) : (Rd Γ).payload (rcvCell c x) 0 d = landPts Γ c x := by dsimp only [Rd]; rw [dec_rcv]
omit [FloatOps F] in
theorem expect_bar : (Rd Γ).expect (barCell c) 0 = 15 := by
  unfold Schedule.expect Schedule.amountOf
  rw [duties_bar, Finset.sum_congr rfl fun d _ => amount_bar Γ c d, Finset.sum_const, Finset.card_univ, Fintype.card_fin, smul_eq_mul]
omit [FloatOps F] in
theorem expect_snd : (Rd Γ).expect (sndCell c x) 0 = NI x.1 := by
  unfold Schedule.expect Schedule.amountOf; rw [duties_snd, Finset.sum_singleton, amount_snd]
omit [FloatOps F] in
theorem expect_rcv : (Rd Γ).expect (rcvCell c x) 0 = NI x.1 := by
  unfold Schedule.expect Schedule.amountOf; rw [duties_rcv, Finset.sum_singleton, amount_rcv]
omit [FloatOps F] in
theorem rest_bar : bigSep ((Rd Γ).duties (barCell c) 0 \ ∅) (fun d => (Rd Γ).payload (barCell c) 0 d) = bigSep Finset.univ fun j => barPay c j := by
  rw [Finset.sdiff_empty, duties_bar]; exact bigSep_congr fun d _ => payload_bar Γ c d
omit [FloatOps F] in
theorem rest_snd : bigSep ((Rd Γ).duties (sndCell c x) 0 \ ∅) (fun d => (Rd Γ).payload (sndCell c x) 0 d) = srcPts Γ c x := by
  rw [Finset.sdiff_empty, duties_snd, bigSep_singleton, payload_snd]
omit [FloatOps F] in
theorem rest_rcv : bigSep ((Rd Γ).duties (rcvCell c x) 0 \ ∅) (fun d => (Rd Γ).payload (rcvCell c x) 0 d) = landPts Γ c x := by
  rw [Finset.sdiff_empty, duties_rcv, bigSep_singleton, payload_rcv]

end Sched

/-! ## What a device owes; the levels -/

/-- The receive credits of the transfers from place `n` on; -/
def owedX (c : Dev nD) (n : ℕ) : CellTallies nD τ sig Unit :=
  owing (r := rk) n fun x => tallyAt (rcvCell (peer c x.2) x) () (NI x.1)
/-- the barrier units of the hops from `n` on. -/
def owedB (c : Dev nD) (n : ℕ) : CellTallies nD τ sig Unit :=
  owing (r := Fin.val) n fun j : Fin 15 => tallyAt (barCell (peer c j)) () 1
def O₀ (c : Dev nD) : CellTallies nD τ sig Unit := owedX c 0 + owedB c 0

theorem owedX_step (c : Dev nD) {n : ℕ} (x : Item) (hx : rk x = n) :
    owedX c n = owedX c (n + 1) + tallyAt (rcvCell (peer c x.2) x) () (NI x.1) := owing_step rk_inj x hx _
theorem owedX_end (c : Dev nD) : owedX c 90 = 0 := owing_none rk_lt _
theorem owedB_step (c : Dev nD) {n : ℕ} (j : Fin 15) (hj : j.val = n) :
    owedB c n = owedB c (n + 1) + tallyAt (barCell (peer c j)) () 1 := owing_step Fin.val_injective j hj _
theorem owedB_end (c : Dev nD) : owedB c 15 = 0 := owing_none (fun j => j.isLt) _

theorem owedX_pos {c : Dev nD} {n : ℕ} {g : GSem nD τ sig} {u : Unit} (h : 0 < owedX c n g u) :
    ∃ x, n ≤ rk x ∧ g = rcvCell (peer c x.2) x := by
  obtain ⟨x, hx, hp⟩ := owing_pos h
  refine ⟨x, hx, ?_⟩
  rw [tallyAt_apply] at hp
  by_contra hn
  rw [if_neg fun h' => hn h'.1] at hp
  exact Nat.lt_irrefl 0 hp
theorem owedB_pos {c : Dev nD} {n : ℕ} {g : GSem nD τ sig} {u : Unit} (h : 0 < owedB c n g u) :
    ∃ j : Fin 15, g = barCell (peer c j) := by
  obtain ⟨x, hx, hp⟩ := owing_pos h
  refine ⟨x, ?_⟩
  rw [tallyAt_apply] at hp
  by_contra hn
  rw [if_neg fun h' => hn h'.1] at hp
  exact Nat.lt_irrefl 0 hp

def L (g : GSem nD τ sig) : Finset Unit := if g.1.2 = .tc then {()} else ∅
/-- Barrier cells at 1, the receiving cells of phases 0–4 at 2, of phase 5 at 3, all else at 0. -/
def lv (g : GSem nD τ sig) (_ : Unit) : ℕ := match dec g.2 with
  | none => 0
  | some none => 1
  | some (some (false, _)) => 0
  | some (some (true, x)) => if x.1.val < 5 then 2 else 3

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by simp only [lv, dec_bar]
theorem lv_snd (c : Dev nD) (x : Item) : lv (sndCell c x) () = 0 := by simp only [lv, dec_snd]
theorem lv_rcv (c : Dev nD) (x : Item) : lv (rcvCell c x) () = if x.1.val < 5 then 2 else 3 := by simp only [lv, dec_rcv]

omit [FloatOps F] in
/-- A wait on a cell of level `l` while owing only credits above it. -/
theorem mayWait_below (c : Dev nD) (sm : SemLoc sig) (l : ℕ) (hl : lv ((c : Thread nD τ), sm) () ≤ l) (O : CellTallies nD τ sig Unit)
    (hO : ∀ g u, 0 < O g u → (∃ (d : Dev nD) (s : SemLoc sig), g = ((d : Thread nD τ), s)) ∧ l < lv g ()) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by
      obtain ⟨⟨d, s, rfl⟩, -⟩ := hO g u hg
      rw [L_tc]; exact Finset.mem_singleton_self _)
    (fun p hp => by rw [Finset.mem_singleton.mp hp]; exact hl)
    (fun g u hg => (hO g u hg).2)

omit [FloatOps F] in
theorem mayWait_bar (c : Dev nD) : (levAts L lv : sProp 𝕄) ⊢ MayWait (c : Thread nD τ) (.reg barS) () (owedX c 0) :=
  mayWait_below c _ 1 (lv_bar c).le _ fun g u hg => by
    obtain ⟨x, -, rfl⟩ := owedX_pos hg
    exact ⟨⟨_, _, rfl⟩, by rw [lv_rcv]; split_ifs <;> decide⟩

omit [FloatOps F] in
theorem mayWait_rcv (c : Dev nD) (x : Item) (hx : x.1.val < 5) :
    (levAts L lv : sProp 𝕄) ⊢ MayWait (c : Thread nD τ) (.dma (rcvS x)) () (owedX c 75) :=
  mayWait_below c _ 2 (by rw [lv_rcv, if_pos hx]) _ fun g u hg => by
    obtain ⟨y, hy, rfl⟩ := owedX_pos hg
    refine ⟨⟨_, _, rfl⟩, ?_⟩
    have : ¬ y.1.val < 5 := by simp only [rk] at hy; omega
    rw [lv_rcv, if_neg this]; decide

omit [FloatOps F] in
theorem mayWait_none (c : Dev nD) (sm : SemLoc sig) : (levAts L lv : sProp 𝕄) ⊢ MayWait (c : Thread nD τ) sm () 0 := by
  rw [MayWait_zero]; iintro -; iempintro

omit [FloatOps F] in
theorem mayWait_stage (c : Dev nD) (sm : SemLoc sig) (h : dec sm = none) (O : CellTallies nD τ sig Unit) (hO : O = O₀ c ∨ O = 0) :
    (levAts L lv : sProp 𝕄) ⊢ MayWait (c : Thread nD τ) sm () O := by
  rcases hO with rfl | rfl
  · refine mayWait_below c _ 0 (by simp only [lv, h]; exact le_rfl) _ fun g u hg => ?_
    unfold O₀ at hg
    rw [Pi.add_apply, Finsupp.add_apply] at hg
    rcases Nat.eq_zero_or_pos (owedX c 0 g u) with h0 | h0
    · obtain ⟨j, rfl⟩ := owedB_pos (c := c) (n := 0) (g := g) (u := u) (by omega)
      exact ⟨⟨_, _, rfl⟩, by rw [lv_bar]; decide⟩
    · obtain ⟨x, -, rfl⟩ := owedX_pos h0
      exact ⟨⟨_, _, rfl⟩, by rw [lv_rcv]; split_ifs <;> decide⟩
  · exact mayWait_none c sm

end Cert.KernelIdeal.Mesh

end
-- ==== Proof.KernelIdeal.Views.lean ====
/-
The memory a transfer reads and the memory it lands in, as the program names them: which elements each slice covers,
what a landing leaves there, and the credit and the semaphores of a transfer.
-/
module

public import proofs.«01_k».proof.Proof.KernelIdeal.Proto

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's buffers -/

abbrev A0 : Memref sig .tc .vmem S4x256x1024 .bf16 := Memref.whole cc0_stg0_0
abbrev A1 : Memref sig .tc .vmem S1024x1024 .bf16 := Memref.whole cc0_stg1_0
abbrev A2 : Memref sig .tc .vmem S1024x1024 .bf16 := Memref.whole cc0_stg2_0
abbrev A3 : Memref sig .tc .vmem S4x1024x2x128 .bf16 := Memref.whole cc0_stg3_0
abbrev A4 : Memref sig .tc .vmem S4x1024x2x128 .bf16 := Memref.whole cc0_stg4_0
abbrev A5 : Memref sig .tc .vmem S4x256x1024 .f32 := Memref.whole cc0_stg5_0
abbrev A6 : Memref sig .tc .vmem S4x256x8x128 .bf16 := Memref.whole cc0_scratch0
abbrev A7 : Memref sig .tc .vmem S4x256x16 .f32 := Memref.whole cc0_scratch1
abbrev A8 : Memref sig .tc .vmem S15x4x16x8x128 .bf16 := Memref.whole cc0_scratch2
abbrev A9 : Memref sig .tc .vmem S15x4x16x16 .f32 := Memref.whole cc0_scratch3
abbrev A10 : Memref sig .tc .vmem S4x256x1024 .bf16 := Memref.whole cc0_scratch4

section Slices
variable {o4 : Fin 4 → ℕ} {o5 : Fin 5 → ℕ} {o3 : Fin 3 → ℕ}

/-- A send's rows of the partial outputs, and its landing slot; -/
abbrev oSrc (h : ∀ a, o4 a + S1x16x8x128.size a ≤ S4x256x8x128.size a) : Memref sig .tc .vmem S16x8x128 .bf16 :=
  (A6.slice (Rect.unit (s := S4x256x8x128) o4 S1x16x8x128.size h) (fun _ => rfl)).squeeze S16x8x128 squeezes_S1x16x8x128_S16x8x128
abbrev oDst (h : ∀ a, o5 a + S1x1x16x8x128.size a ≤ S15x4x16x8x128.size a) : Memref sig .tc .vmem S16x8x128 .bf16 :=
  (A8.slice (Rect.unit (s := S15x4x16x8x128) o5 S1x1x16x8x128.size h) (fun _ => rfl)).squeeze S16x8x128 squeezes_S1x1x16x8x128_S16x8x128
/-- the same for the maxima and sums; -/
abbrev mlSrc (h : ∀ a, o3 a + S4x16x16.size a ≤ S4x256x16.size a) : Memref sig .tc .vmem S4x16x16 .f32 :=
  A7.slice (Rect.unit (s := S4x256x16) o3 S4x16x16.size h) (fun _ => rfl)
abbrev mlDst (h : ∀ a, o4 a + S1x4x16x16.size a ≤ S15x4x16x16.size a) : Memref sig .tc .vmem S4x16x16 .f32 :=
  (A9.slice (Rect.unit (s := S15x4x16x16) o4 S1x4x16x16.size h) (fun _ => rfl)).squeeze S4x16x16 squeezes_S1x4x16x16_S4x16x16
/-- and one device's rows of the result. -/
abbrev fbRows (h : ∀ a, o3 a + S4x16x1024.size a ≤ S4x256x1024.size a) : Memref sig .tc .vmem S4x16x1024 .bf16 :=
  A10.slice (Rect.unit (s := S4x256x1024) o3 S4x16x1024.size h) (fun _ => rfl)

variable {b d j : ℕ}

theorem oRect_set (h : ∀ a, o4 a + S1x256x8x128.size a ≤ S4x256x8x128.size a) (ho : o4 = ![b, 0, 0, 0]) (i : S4x256x8x128.Idx) :
    i ∈ (Rect.unit (s := S4x256x8x128) o4 S1x256x8x128.size h).set ↔ (i 0).val = b := by
  subst ho
  rw [Rect.mem_set_unit]
  have h1 : (i 1).val < 256 := (i 1).isLt
  have h2 : (i 2).val < 8 := (i 2).isLt
  have h3 : (i 3).val < 128 := (i 3).isLt
  simp only [Fin.forall_fin_succ, IsEmpty.forall_iff, and_true]
  show (b ≤ (i 0).val ∧ (i 0).val < b + 1) ∧ (0 ≤ (i 1).val ∧ (i 1).val < 0 + 256) ∧ (0 ≤ (i 2).val ∧ (i 2).val < 0 + 8) ∧ (0 ≤ (i 3).val ∧ (i 3).val < 0 + 128) ↔ _
  omega

theorem mlRect_set (h : ∀ a, o3 a + S1x256x16.size a ≤ S4x256x16.size a) (ho : o3 = ![b, 0, 0]) (i : S4x256x16.Idx) :
    i ∈ (Rect.unit (s := S4x256x16) o3 S1x256x16.size h).set ↔ (i 0).val = b := by
  subst ho
  rw [Rect.mem_set_unit]
  have h1 : (i 1).val < 256 := (i 1).isLt
  have h2 : (i 2).val < 16 := (i 2).isLt
  simp only [Fin.forall_fin_succ, IsEmpty.forall_iff, and_true]
  show (b ≤ (i 0).val ∧ (i 0).val < b + 1) ∧ (0 ≤ (i 1).val ∧ (i 1).val < 0 + 256) ∧ (0 ≤ (i 2).val ∧ (i 2).val < 0 + 16) ↔ _
  omega

theorem oSrc_set (h) (ho : o4 = ![b, 16 * d, 0, 0]) : (oSrc (o4 := o4) h).view.set = oSet b d := by
  subst ho
  refine (Memref.set_view_squeeze _ _).trans ((View.set_slice_whole _ _).trans ?_)
  ext (i : S4x256x8x128.Idx)
  refine Rect.mem_set_unit.trans ?_
  have h2 : (i 2).val < 8 := (i 2).isLt
  have h3 : (i 3).val < 128 := (i 3).isLt
  refine Iff.trans ?_ (show ((i 0).val = b ∧ (i 1).val / 16 = d) ↔ i ∈ oSet b d from by simp only [oSet, Finset.mem_filter, Finset.mem_univ, true_and])
  refine (Fin.forall_fin_succ.trans (and_congr Iff.rfl (Fin.forall_fin_succ.trans (and_congr Iff.rfl (Fin.forall_fin_succ.trans (and_congr Iff.rfl Fin.forall_fin_one)))))).trans ?_
  show (b ≤ (i 0).val ∧ (i 0).val < b + 1) ∧ (16 * d ≤ (i 1).val ∧ (i 1).val < 16 * d + 16) ∧ (0 ≤ (i 2).val ∧ (i 2).val < 0 + 8) ∧ (0 ≤ (i 3).val ∧ (i 3).val < 0 + 128) ↔ _
  omega

theorem oDst_set (h) (ho : o5 = ![j, b, 0, 0, 0]) : (oDst (o5 := o5) h).view.set = roSet j b := by
  subst ho
  refine (Memref.set_view_squeeze _ _).trans ((View.set_slice_whole _ _).trans ?_)
  ext (i : S15x4x16x8x128.Idx)
  refine Rect.mem_set_unit.trans ?_
  have h2 : (i 2).val < 16 := (i 2).isLt
  have h3 : (i 3).val < 8 := (i 3).isLt
  have h4 : (i 4).val < 128 := (i 4).isLt
  refine Iff.trans ?_ (show ((i 0).val = j ∧ (i 1).val = b) ↔ i ∈ roSet j b from by simp only [roSet, Finset.mem_filter, Finset.mem_univ, true_and])
  refine (Fin.forall_fin_succ.trans (and_congr Iff.rfl (Fin.forall_fin_succ.trans (and_congr Iff.rfl (Fin.forall_fin_succ.trans (and_congr Iff.rfl (Fin.forall_fin_succ.trans (and_congr Iff.rfl Fin.forall_fin_one)))))))).trans ?_
  show (j ≤ (i 0).val ∧ (i 0).val < j + 1) ∧ (b ≤ (i 1).val ∧ (i 1).val < b + 1) ∧ (0 ≤ (i 2).val ∧ (i 2).val < 0 + 16) ∧ (0 ≤ (i 3).val ∧ (i 3).val < 0 + 8) ∧ (0 ≤ (i 4).val ∧ (i 4).val < 0 + 128) ↔ _
  omega

theorem mlSrc_set (h) (ho : o3 = ![0, 16 * d, 0]) : (mlSrc (o3 := o3) h).view.set = mlSet d := by
  subst ho
  refine (View.set_slice_whole _ _).trans ?_
  ext (i : S4x256x16.Idx)
  refine Rect.mem_set_unit.trans ?_
  have h0 : (i 0).val < 4 := (i 0).isLt
  have h2 : (i 2).val < 16 := (i 2).isLt
  refine Iff.trans ?_ (show ((i 1).val / 16 = d) ↔ i ∈ mlSet d from by simp only [mlSet, Finset.mem_filter, Finset.mem_univ, true_and])
  refine (Fin.forall_fin_succ.trans (and_congr Iff.rfl (Fin.forall_fin_succ.trans (and_congr Iff.rfl Fin.forall_fin_one)))).trans ?_
  show (0 ≤ (i 0).val ∧ (i 0).val < 0 + 4) ∧ (16 * d ≤ (i 1).val ∧ (i 1).val < 16 * d + 16) ∧ (0 ≤ (i 2).val ∧ (i 2).val < 0 + 16) ↔ _
  omega

theorem mlDst_set (h) (ho : o4 = ![j, 0, 0, 0]) : (mlDst (o4 := o4) h).view.set = rmSet j := by
  subst ho
  refine (Memref.set_view_squeeze _ _).trans ((View.set_slice_whole _ _).trans ?_)
  ext (i : S15x4x16x16.Idx)
  refine Rect.mem_set_unit.trans ?_
  have h1 : (i 1).val < 4 := (i 1).isLt
  have h2 : (i 2).val < 16 := (i 2).isLt
  have h3 : (i 3).val < 16 := (i 3).isLt
  refine Iff.trans ?_ (show ((i 0).val = j) ↔ i ∈ rmSet j from by simp only [rmSet, Finset.mem_filter, Finset.mem_univ, true_and])
  refine (Fin.forall_fin_succ.trans (and_congr Iff.rfl (Fin.forall_fin_succ.trans (and_congr Iff.rfl (Fin.forall_fin_succ.trans (and_congr Iff.rfl Fin.forall_fin_one)))))).trans ?_
  show (j ≤ (i 0).val ∧ (i 0).val < j + 1) ∧ (0 ≤ (i 1).val ∧ (i 1).val < 0 + 4) ∧ (0 ≤ (i 2).val ∧ (i 2).val < 0 + 16) ∧ (0 ≤ (i 3).val ∧ (i 3).val < 0 + 16) ↔ _
  omega

theorem fbRect_set (h : ∀ a, o3 a + S4x16x1024.size a ≤ S4x256x1024.size a) (ho : o3 = ![0, 16 * d, 0]) :
    (Rect.unit (s := S4x256x1024) o3 S4x16x1024.size h).set = fbSet d := by
  subst ho
  ext (i : S4x256x1024.Idx)
  refine Rect.mem_set_unit.trans ?_
  have h0 : (i 0).val < 4 := (i 0).isLt
  have h2 : (i 2).val < 1024 := (i 2).isLt
  refine Iff.trans ?_ (show ((i 1).val / 16 = d) ↔ i ∈ fbSet d from by simp only [fbSet, Finset.mem_filter, Finset.mem_univ, true_and])
  refine (Fin.forall_fin_succ.trans (and_congr Iff.rfl (Fin.forall_fin_succ.trans (and_congr Iff.rfl Fin.forall_fin_one)))).trans ?_
  show (0 ≤ (i 0).val ∧ (i 0).val < 0 + 4) ∧ (16 * d ≤ (i 1).val ∧ (i 1).val < 16 * d + 16) ∧ (0 ≤ (i 2).val ∧ (i 2).val < 0 + 1024) ↔ _
  omega

theorem fbRows_set (h) (ho : o3 = ![0, 16 * d, 0]) : (fbRows (o3 := o3) h).view.set = fbSet d :=
  (View.set_slice_whole _ _).trans (fbRect_set h ho)

end Slices

/-! ## Where a slice puts its elements, and what a landing leaves -/

section Land
variable {o4 : Fin 4 → ℕ} {o5 : Fin 5 → ℕ} {o3 : Fin 3 → ℕ}

theorem oSrc_emb (h) (b : Fin 4) (d : Dev nD) (ho : o4 = ![b.val, 16 * d.val, 0, 0]) (r : Fin 16) (q : Fin 8) (t : Fin 128) :
    (oSrc (o4 := o4) h).view.emb (ix3 r q t) = ix4 b (row d r) q t := by
  subst ho
  show (Rect.unit (s := S4x256x8x128) _ S1x16x8x128.size h).emb (Shape.reshapeEquiv (Shape.Squeezes.numel_eq (by first | exact squeezes_S1x16x8x128_S16x8x128 | exact squeezes_S1x1x16x8x128_S16x8x128)) (ix3 r q t)) = _
  rw [reshapeEquiv_ix3_1abc]
  funext a; refine Fin.ext ?_
  fin_cases a
  · show b.val + 1 * 0 = b.val; omega
  · show 16 * d.val + 1 * r.val = 16 * d.val + r.val; omega
  · show 0 + 1 * q.val = q.val; omega
  · show 0 + 1 * t.val = t.val; omega

theorem oDst_emb (h) (j : Fin 15) (b : Fin 4) (ho : o5 = ![j.val, b.val, 0, 0, 0]) (r : Fin 16) (q : Fin 8) (t : Fin 128) :
    (oDst (o5 := o5) h).view.emb (ix3 r q t) = ix5 j b r q t := by
  subst ho
  show (Rect.unit (s := S15x4x16x8x128) _ S1x1x16x8x128.size h).emb (Shape.reshapeEquiv (Shape.Squeezes.numel_eq (by first | exact squeezes_S1x16x8x128_S16x8x128 | exact squeezes_S1x1x16x8x128_S16x8x128)) (ix3 r q t)) = _
  rw [reshapeEquiv_ix3_11abc]
  funext a; refine Fin.ext ?_
  fin_cases a
  · show j.val + 1 * 0 = j.val; omega
  · show b.val + 1 * 0 = b.val; omega
  · show 0 + 1 * r.val = r.val; omega
  · show 0 + 1 * q.val = q.val; omega
  · show 0 + 1 * t.val = t.val; omega

theorem mlSrc_emb (h) (d : Dev nD) (ho : o3 = ![0, 16 * d.val, 0]) (b : Fin 4) (r : Fin 16) (q : Fin 16) :
    (mlSrc (o3 := o3) h).view.emb (ix3 b r q) = ix3 b (row d r) q := by
  subst ho
  show (Rect.unit (s := S4x256x16) _ S4x16x16.size h).emb (ix3 b r q) = _
  funext a; refine Fin.ext ?_
  fin_cases a
  · show 0 + 1 * b.val = b.val; omega
  · show 16 * d.val + 1 * r.val = 16 * d.val + r.val; omega
  · show 0 + 1 * q.val = q.val; omega

theorem mlDst_emb (h) (j : Fin 15) (ho : o4 = ![j.val, 0, 0, 0]) (b : Fin 4) (r : Fin 16) (q : Fin 16) :
    (mlDst (o4 := o4) h).view.emb (ix3 b r q) = ix4 j b r q := by
  subst ho
  show (Rect.unit (s := S15x4x16x16) _ S1x4x16x16.size h).emb (Shape.reshapeEquiv _ (ix3 b r q)) = _
  rw [reshapeEquiv_ix3_1abc]
  funext a; refine Fin.ext ?_
  fin_cases a
  · show j.val + 1 * 0 = j.val; omega
  · show 0 + 1 * b.val = b.val; omega
  · show 0 + 1 * r.val = r.val; omega
  · show 0 + 1 * q.val = q.val; omega

variable (Γ : Cont F) (c : Dev nD)

omit [FloatOps F] in
/-- One element landed reads what the source held. -/
theorem landed_at {s : Shape} {e : EltTy} (src dst : Memref sig .tc .vmem s e) (fs : src.view.ty.Contents (Elt F)) (fd : dst.view.ty.Contents (Elt F))
    (y : s.Idx) : dst.view.read (Elt F) (dst.view.write (Elt F) fd (src.view.read (Elt F) fs) Finset.univ) y = src.view.read (Elt F) fs y := by
  rw [View.read_write_univ]

omit [FloatOps F] in
/-- Landed partial outputs are the receiver's rows of what the sender made. -/
theorem land_o (b : Fin 4) (j : Fin 15) (h₄) (h₅) (ho₄ : o4 = ![b.val, 16 * (peer c j).val, 0, 0]) (ho₅ : o5 = ![j.val, b.val, 0, 0, 0])
    (fd : Vec F S15x4x16x8x128 .bf16) {i : S15x4x16x8x128.Idx} (hi : i ∈ (oDst (o5 := o5) h₅).view.set) :
    (oDst (o5 := o5) h₅).view.write (Elt F) fd ((oSrc (o4 := o4) h₄).view.read (Elt F) (Γ.ob c)) Finset.univ i = Γ.ro (peer c j) i := by
  obtain ⟨y, -, rfl⟩ := Finset.mem_map.mp hi
  refine (View.eq_of_read_eq (v := (oDst (o5 := o5) h₅).view) (Val := Elt F) (g := Γ.ro (peer c j)) ?_)
  rw [landed_at]
  rw [show y = ix3 (y 0 : Fin 16) (y 1 : Fin 8) (y 2 : Fin 128) from eq_ix3 y]
  show Γ.ob c ((oSrc (o4 := o4) h₄).view.emb (ix3 (y 0) (y 1) (y 2))) = Γ.ro (peer c j) ((oDst (o5 := o5) h₅).view.emb (ix3 (y 0) (y 1) (y 2)))
  rw [oSrc_emb h₄ b (peer c j) ho₄ (y 0) (y 1) (y 2), oDst_emb h₅ j b ho₅ (y 0) (y 1) (y 2)]
  show Γ.ob c _ = Γ.ob (peer (peer c j) (rev j)) (ix4 b (row (peer c j) (y 0)) (y 1) (y 2))
  rw [peer_rev]

omit [FloatOps F] in
/-- Likewise the maxima and sums. -/
theorem land_ml (j : Fin 15) (h₃) (h₄) (ho₃ : o3 = ![0, 16 * (peer c j).val, 0]) (ho₄ : o4 = ![j.val, 0, 0, 0])
    (fd : Vec F S15x4x16x16 .f32) {i : S15x4x16x16.Idx} (hi : i ∈ (mlDst (o4 := o4) h₄).view.set) :
    (mlDst (o4 := o4) h₄).view.write (Elt F) fd ((mlSrc (o3 := o3) h₃).view.read (Elt F) (Γ.ml c)) Finset.univ i = Γ.rm (peer c j) i := by
  obtain ⟨y, -, rfl⟩ := Finset.mem_map.mp hi
  refine (View.eq_of_read_eq (v := (mlDst (o4 := o4) h₄).view) (Val := Elt F) (g := Γ.rm (peer c j)) ?_)
  rw [landed_at]
  rw [show y = ix3 (y 0 : Fin 4) (y 1 : Fin 16) (y 2 : Fin 16) from eq_ix3 y]
  show Γ.ml c ((mlSrc (o3 := o3) h₃).view.emb (ix3 (y 0) (y 1) (y 2))) = Γ.rm (peer c j) ((mlDst (o4 := o4) h₄).view.emb (ix3 (y 0) (y 1) (y 2)))
  rw [mlSrc_emb h₃ (peer c j) ho₃ (y 0) (y 1) (y 2), mlDst_emb h₄ j ho₄ (y 0) (y 1) (y 2)]
  show Γ.ml c _ = Γ.ml (peer (peer c j) (rev j)) (ix3 (y 0) (row (peer c j) (y 1)) (y 2))
  rw [peer_rev]

omit [FloatOps F] in
/-- Finished rows land at the place they have at their maker. -/
theorem land_fb (h₃) (fd : Vec F S4x256x1024 .bf16) {i : S4x256x1024.Idx} (hi : i ∈ (fbRows (o3 := o3) h₃).view.set) :
    (fbRows (o3 := o3) h₃).view.write (Elt F) fd ((fbRows (o3 := o3) h₃).view.read (Elt F) Γ.fb) Finset.univ i = Γ.fb i := by
  obtain ⟨y, -, rfl⟩ := Finset.mem_map.mp hi
  refine (View.eq_of_read_eq (v := (fbRows (o3 := o3) h₃).view) (Val := Elt F) (g := Γ.fb) ?_)
  rw [landed_at]

end Land

/-! ## Credits -/

section Credit
variable {o4 : Fin 4 → ℕ} {o5 : Fin 5 → ℕ} {o3 : Fin 3 → ℕ}

theorem NI_o (k : Fin 6) (hk : k.val < 4) (h) (h') (q : DmaSem sig) : (oDst (o5 := o5) h).view.amount (.dma q) = NI k
    ∧ (oSrc (o4 := o4) h').view.amount (.dma q) = NI k := by
  unfold NI; rw [if_pos hk]; exact ⟨rfl, rfl⟩
theorem NI_ml (h) (h') (q : DmaSem sig) : (mlDst (o4 := o4) h).view.amount (.dma q) = NI 4
    ∧ (mlSrc (o3 := o3) h').view.amount (.dma q) = NI 4 := ⟨rfl, rfl⟩
theorem NI_fb (h) (q : DmaSem sig) : (fbRows (o3 := o3) h).view.amount (.dma q) = NI 5 := rfl

end Credit

end Cert.KernelIdeal.Mesh

end
-- ==== Proof.KernelIdeal.Steps.lean ====
/-
How a program's states are stated, and the step each of the kernel's operations makes: a signal, the barrier wait, a
send, a receive wait, a send wait, a load, a store.
-/
module

public import proofs.«01_k».proof.Proof.KernelIdeal.Views

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (Γ : Cont F) (K : Dev nD × KI → ℕ) (c : Dev nD)

/-- What every device knows throughout: every cell follows the schedule, none has passed its first round's start, and the levels. -/
def records : sProp 𝕄 :=
  iprop((bigSep Finset.univ fun ck => cellInv ER (Rd Γ) (K ck) (kcell ck)) ∗ (bigSep Finset.univ fun ck => reached ER (kcell ck) 0) ∗ levAts L lv)

instance records_persistent : BI.Persistent (records Γ K) := by unfold records; infer_instance

omit [FloatOps F] in
theorem rec_inv (d : Dev nD) (k : KI) : records Γ K ⊢ cellInv ER (Rd Γ) (K (d, k)) (kcell (d, k)) := by
  unfold records
  exact sep_elim_left.trans (bigSep_elim (Φ := fun ck => cellInv ER (Rd Γ) (K ck) (kcell ck)) (Finset.mem_univ (d, k)))
omit [FloatOps F] in
theorem rec_reached (d : Dev nD) (k : KI) : records Γ K ⊢ reached ER (kcell (d, k)) 0 := by
  unfold records
  exact sep_elim_right.trans (sep_elim_left.trans (bigSep_elim (Φ := fun ck => (reached ER (kcell ck) 0 : sProp 𝕄)) (Finset.mem_univ (d, k))))
omit [FloatOps F] in
theorem rec_lev : records Γ K ⊢ levAts L lv := by
  unfold records; iintro ⟨-, -, #H⟩; iexact H

omit [FloatOps F] in
set_option maxRecDepth 20000 in
theorem rec_may_bar : records Γ K ⊢ MayWait (c : Thread nD τ) (.reg barS) () (owedX c 0) :=
  BI.Entails.trans (rec_lev Γ K) (mayWait_bar c)
omit [FloatOps F] in
set_option maxRecDepth 20000 in
theorem rec_may_rcv (x : Item) (hx : x.1.val < 5) : records Γ K ⊢ MayWait (c : Thread nD τ) (.dma (rcvS x)) () (owedX c 75) :=
  BI.Entails.trans (rec_lev Γ K) (mayWait_rcv c x hx)

/-! ## Programs between states -/

/-- From `A`, `p` runs on device `c` and ends with `B` of its result. -/
def Tri (A : sProp 𝕄) {α : Type} (p : Prog (TpuEff nD τ sig (Elt F) Λ₀ .tc) α) (B : α → sProp 𝕄) : Prop :=
  iprop(records Γ K ∗ A) ⊢ wp frame (wpE (defs₀ (F := F)) 𝒱₀ (c : Thread nD τ) none) Set.univ p B

variable {Γ K c}
variable {α β : Type} {A A' R : sProp (MT nD τ sig Unit (Elt F) ℕ UU ℕ)} {p : Prog (TpuEff nD τ sig (Elt F) Λ₀ .tc) α} {B B' : α → sProp (MT nD τ sig Unit (Elt F) ℕ UU ℕ)}

theorem Tri.bind {k : α → Prog (TpuEff nD τ sig (Elt F) Λ₀ .tc) β} {C : β → sProp 𝕄}
    (hp : Tri Γ K c A p B) (hk : ∀ a, Tri Γ K c (B a) (k a) C) : Tri Γ K c A (p >>= k) C := by
  unfold Tri at *
  rw [wp_bind]
  iintro ⟨#HR, HA⟩
  iapply wp_wand_r
  isplitl [HA]
  · iapply hp; isplitr; · iexact HR
    iexact HA
  · iintro %a HB
    iapply (hk a); isplitr; · iexact HR
    iexact HB

/-- A step whose result is known. -/
theorem Tri.known {k : α → Prog (TpuEff nD τ sig (Elt F) Λ₀ .tc) β} {C : β → sProp 𝕄} {P : α → Prop}
    (hp : Tri Γ K c A p (fun a => iprop(⌜P a⌝ ∗ A'))) (hk : ∀ a, P a → Tri Γ K c A' (k a) C) : Tri Γ K c A (p >>= k) C := by
  refine Tri.bind hp fun a => ?_
  unfold Tri at *
  iintro ⟨#HR, %h, HA⟩
  have hk' := hk a h
  iapply hk'; isplitr; · iexact HR
  iexact HA

theorem Tri.cut {k : α → Prog (TpuEff nD τ sig (Elt F) Λ₀ .tc) β} {C : β → sProp 𝕄} {v : α}
    (hp : Tri Γ K c A p (fun a => iprop(⌜a = v⌝ ∗ A'))) (hk : Tri Γ K c A' (k v) C) : Tri Γ K c A (p >>= k) C :=
  Tri.known hp fun a h => by subst h; exact hk

theorem Tri.ret {a : α} (h : A ⊢ B a) : Tri Γ K c A (pure a) B := by
  unfold Tri
  show _ ⊢ wp _ _ _ (.ret a) B
  rw [wp_ret]
  iintro ⟨-, HA⟩
  imodintro
  iapply h; iexact HA

theorem Tri.done {a : α} : Tri Γ K c A (pure a) (fun _ => A) := Tri.ret (BI.Entails.refl _)

theorem Tri.value {a : α} : Tri Γ K c A (pure a) (fun b => iprop(⌜b = a⌝ ∗ A)) := by
  refine Tri.ret ?_
  iintro H; isplitr
  · ipureintro; rfl
  · iexact H

theorem Tri.pre (h : A ⊢ A') (hp : Tri Γ K c A' p B) : Tri Γ K c A p B := by
  unfold Tri at *
  iintro ⟨#HR, HA⟩
  iapply hp; isplitr; · iexact HR
  iapply h; iexact HA

theorem Tri.post (hp : Tri Γ K c A p B) (h : ∀ a, B a ⊢ B' a) : Tri Γ K c A p B' := BI.Entails.trans hp (wp_mono _ _ _ h)

/-- A step leaves alone what it does not use. -/
theorem Tri.frame (hp : Tri Γ K c A p B) : Tri Γ K c iprop(A ∗ R) p (fun a => iprop(B a ∗ R)) := by
  unfold Tri at *
  iintro ⟨#HR, HA, HF⟩
  iapply wp_wand_r
  isplitl [HA]
  · iapply hp; isplitr; · iexact HR
    iexact HA
  · iintro %a HB
    isplitl [HB]; · iexact HB
    iexact HF

theorem Tri.frame_known {P : α → Prop} (hp : Tri Γ K c A p (fun a => iprop(⌜P a⌝ ∗ A'))) :
    Tri Γ K c iprop(A ∗ R) p (fun a => iprop(⌜P a⌝ ∗ A' ∗ R)) := by
  refine Tri.post (Tri.frame hp) fun a => ?_
  iintro ⟨⟨%h, HA⟩, HF⟩
  isplitr; · ipureintro; exact h
  isplitl [HA]; · iexact HA
  iexact HF

/-! ## States -/

variable (Γ c)

/-- What the device owes, whatever it has waited on. -/
def Owe (O : CellTallies nD τ sig Unit) : sProp 𝕄 := iprop(∃ W, owes (c : Thread nD τ) O W)

/-- The two tokens of a send. -/
def Tok (x : Item) : sProp 𝕄 := iprop(dutyTok ER (sndCell c x) 0 0 ∗ dutyTok ER (rcvCell (peer c x.2) x) 0 0)
/-- What a send not yet made needs. -/
def Ts (x : Item) : sProp 𝕄 := iprop(Tok c x ∗ slotAny (peer c x.2) x)
/-- What a barrier signal not yet made needs: its token and the landing places it hands over. -/
def Bt (j : Fin 15) : sProp 𝕄 := iprop(dutyTok ER (barCell (peer c j)) 0 (rev j) ∗ bigSep Finset.univ fun k : Fin 6 => slotAny c (k, rev j))
/-- The credit a send leaves. -/
def Cr (x : Item) : sProp 𝕄 := cred (tallyAt (sndCell c x) () (NI x.1))

/-- `n` signals made. -/
def Sig (n : ℕ) : sProp 𝕄 := iprop(Owe c (owedX c 0 + owedB c n) ∗ rest Fin.val n (Bt c))
/-- What is kept for the sends meanwhile, and for the barrier wait. -/
def Kept : sProp 𝕄 := iprop((bigSep Finset.univ fun x => Tok c x) ∗ cred (tallyAt (barCell c) () 15) ∗ atPos ER (barCell c) 0 ∅ 0)
/-- `n` sends made. -/
def Snd (n : ℕ) : sProp 𝕄 := iprop(Owe c (owedX c n) ∗ rest rk n (Ts c) ∗ gone rk n (Cr c))
/-- The sources of phase `k`'s sends from hop `i` on. -/
def Src (k : Fin 6) (i : ℕ) : sProp 𝕄 := rest Fin.val i fun j : Fin 15 => srcPts Γ c (k, j)
/-- The receiving side, `n` transfers waited for. -/
def Rv (n : ℕ) : sProp 𝕄 := iprop((rest rk n fun x => iprop(cred (tallyAt (rcvCell c x) () (NI x.1)) ∗ atPos ER (rcvCell c x) 0 ∅ 0))
  ∗ gone rk n fun x => iprop(landPts Γ c x ∗ semVal (rcvCell c x) 0))
/-- The sending side, `n` sends waited for. -/
def Sw (n : ℕ) : sProp 𝕄 := iprop((rest rk n fun x => iprop(Cr c x ∗ atPos ER (sndCell c x) 0 ∅ 0))
  ∗ gone rk n fun x => iprop(srcPts Γ c x ∗ semVal (sndCell c x) 0))

/-- Phase `k`, its first `i` sends made. -/
def Sb (k : Fin 6) (i : ℕ) (R : sProp 𝕄) : sProp 𝕄 := iprop((Snd c (15 * k.val + i) ∗ Src Γ c k i) ∗ R)

variable {Γ c}

/-! ## Signals and the barrier -/

theorem step_signal (j : Fin 15) {d : Dev nD} (hd : d = peer c j) :
    Tri Γ K c (Sig c j.val) (semSignalWord d barS 1#32) (fun _ => Sig c (j.val + 1)) := by
  subst hd
  unfold Tri Sig Owe
  iintro ⟨#HR, ⟨%W, HO⟩, HB⟩
  ihave HB := (Entails.of_eq (rest_step Fin.val_injective j rfl (Bt (F := F) c))) $$ HB
  unfold Bt
  icases HB with ⟨⟨Htok, Hsl⟩, HB⟩
  unfold semSignalWord
  iapply (Rounds.wp_signal 𝒱₀ ER (Rd Γ) (c : Thread nD τ) none (dst := (peer c j : Thread nD τ)) (κ := K (peer c j, none)) (r := 0)
      (d := rev j) (by rw [duties_bar]; exact Finset.mem_univ _) ((amount_bar Γ (peer c j) (rev j)).trans (by decide)) ()
      (O₀ := owedX c 0 + owedB c j.val) (owedX c 0 + owedB c (j.val + 1)) (by rw [owedB_step c j rfl, add_assoc]; rfl) (W := W)) $$ [HO Htok Hsl]
  · isplitr; · iapply (rec_inv Γ K (peer c j) none); iexact HR
    isplitl [HO]; · iexact HO
    isplitl [Htok]; · iexact Htok
    isplitl [Hsl]
    · rw [payload_bar]; unfold barPay; rw [peer_rev]; iexact Hsl
    · iapply (rec_reached Γ K (peer c j) none); iexact HR
  iintro HO
  rw [wp_ret]
  imodintro
  isplitl [HO]
  · iexists W; iexact HO
  · iexact HB

omit [FloatOps F] in
/-- The landing places of all hops, one by one, with the tokens. -/
theorem arrivals : iprop((bigSep Finset.univ fun x => Tok c x) ∗ (bigSep Finset.univ fun j => barPay c j)) ⊢ (rest rk 0 (Ts c) : sProp 𝕄) := by
  rw [rest_zero]
  unfold Ts
  rw [show (bigSep Finset.univ fun x => (iprop(Tok c x ∗ slotAny (peer c x.2) x) : sProp 𝕄))
    = iprop((bigSep Finset.univ fun x => Tok c x) ∗ bigSep Finset.univ fun x : Item => slotAny (peer c x.2) x) from bigSep_sep _ _ _]
  rw [show (bigSep Finset.univ fun x : Item => (slotAny (peer c x.2) x : sProp 𝕄)) = bigSep Finset.univ fun j => barPay c j from by
    rw [bigSep_univ_prod]
    unfold barPay
    exact bigSep_univ_comm _]

theorem step_barrier :
    Tri Γ K c iprop(Sig c 15 ∗ Kept c) (semWaitWord barS 15#32) (fun _ => iprop(Snd c 0 ∗ semVal (barCell c) 0)) := by
  unfold Tri Sig Kept Owe
  iintro ⟨#HR, ⟨⟨%W, HO⟩, -⟩, Htok, Hcr, Hat⟩
  rw [owedB_end, add_zero]
  unfold semWaitWord
  iapply (Rounds.wp_wait_rest_token 𝒱₀ ER (Rd Γ) (c : Thread nD τ) none (κ := K (c, none))
      (wpE_semWait_eq 𝒱₀ (c : Thread nD τ) none Set.univ) (Set.mem_univ _) () (O := owedX c 0) (W := W) (R := 0) (m := 0) (T := ∅)
      (by rw [expect_bar]; decide)) $$ [Hcr HO Hat]
  · isplitr; · iapply (rec_inv Γ K c none); iexact HR
    isplitl [Hcr]; · iexact Hcr
    isplitl [HO]; · iexact HO
    isplitr; · iapply (rec_may_bar Γ K c); iexact HR
    iexact Hat
  iintro ⟨HO, Hat, -, Hpay⟩
  ihave Hp := (Entails.of_eq (rest_bar Γ c)) $$ Hpay
  imod (Rounds.cell_close ER (Rd Γ) (Set.mem_univ (K (c, none))) (fun h => h) (R := 0 + 1) (duties_later Γ (barCell c))) $$ [Hat] with Hz
  · isplitr; · iapply (rec_inv Γ K c none); iexact HR
    iexact Hat
  rw [wp_ret]
  imodintro
  unfold Snd Owe
  isplitr [Hz]
  · isplitl [HO]
    · iexists (insert (SemLoc.reg barS, ()) W); iexact HO
    isplitl [Htok Hp]
    · iapply arrivals; isplitl [Htok]; · iexact Htok
      iexact Hp
    · rw [gone_zero]; iempintro
  · iexact Hz

/-! ## A send -/

/-- A send of any phase, by the memory it reads and the memory it lands in. -/
theorem step_send {k : Fin 6} (j : Fin 15) {i : ℕ} (hi : i = j.val) {s : Shape} {e : EltTy} {src : Memref sig .tc .vmem s e} {d : Dev nD} (hd : d = peer c j)
    {dst : Memref sig (Dev.tc d : Thread nD τ).2.kind .vmem s e}
    {sS sR : SemLoc sig} (hS : sS = .dma (sndS (k, j))) (hR : sR = .dma (rcvS (k, j)))
    {hsc : dst.view.ref.isScScratch = false} {hsrc : src.view.WordExact} {hdst : dst.view.WordExact}
    {hsem : DmaTarget.Typed .vmem sR (.remote (Dev.tc d : Thread nD τ) dst sS hsc)}
    {q : PosShare TreeShare} {fs : Buf (Elt F) (src.view.loc (c : Thread nD τ))}
    (hsrcP : srcPts Γ c (k, j) = (src.view.loc (c : Thread nD τ) ↦[src.view.set]{q} fs))
    (hslot : slotAny (F := F) (peer c j) (k, j) ⊢ iprop(∃ fd, dst.view.loc (Dev.tc d : Thread nD τ) ↦[dst.view.set]{fullShare} fd))
    (hN : dst.view.amount sR = NI k)
    (hland : ∀ fd, (dst.view.loc (Dev.tc d : Thread nD τ) ↦[dst.view.set]{fullShare} (dst.view.write (Elt F) fd (src.view.read (Elt F) fs) Finset.univ))
      ⊢ landPts Γ (peer c j) (k, j)) :
    Tri Γ K c (Sb Γ c k i R) (Prog.lift (.enqueueDma src (.remote (Dev.tc d : Thread nD τ) dst sS hsc) sR hsrc hdst hsem))
      (fun _ => Sb Γ c k (i + 1) R) := by
  subst hi hS hR hd
  unfold Tri Sb Snd Src Owe
  iintro ⟨#HR, ⟨⟨⟨%W, HO⟩, HT, HC⟩, HS⟩, HF⟩
  ihave HT := (Entails.of_eq (rest_step rk_inj (n := 15 * k.val + j.val) (k, j) rfl (Ts (F := F) c))) $$ HT
  ihave HS := (Entails.of_eq (rest_step Fin.val_injective j rfl (fun j : Fin 15 => srcPts Γ c (k, j)))) $$ HS
  unfold Ts Tok
  icases HT with ⟨⟨⟨Ht₁, Ht₂⟩, Hsl⟩, HT⟩
  icases HS with ⟨Hs, HS⟩
  ihave Hs := (Entails.of_eq hsrcP) $$ Hs
  ihave Hsl := hslot $$ Hsl
  icases Hsl with ⟨%fd, Hsl⟩
  unfold Prog.lift
  iapply (Rounds.wp_send_pointsTo 𝒱₀ ER (Rd Γ) (c : Thread nD τ) none (κ₁ := K (c, some (false, (k, j)))) (κ₂ := K (peer c j, some (true, (k, j))))
    (r₁ := 0) (r₂ := 0) (d₁ := 0) (d₂ := 0) (fd := fd)
    (by rw [duties_snd]; exact Finset.mem_singleton_self _) (by rw [duties_rcv]; exact Finset.mem_singleton_self _)
    () () (NI k) hN (amount_snd Γ c (k, j) 0) (amount_rcv Γ (peer c j) (k, j) 0) (O₀ := owedX c (15 * k.val + j.val)) (owedX c (15 * k.val + j.val + 1))
    (owedX_step c (k, j) rfl) (W := W)
    (by rw [payload_snd, hsrcP]) (by rw [payload_rcv]; exact hland fd)) $$ [HO Ht₁ Ht₂ Hs Hsl]
  · isplitr; · iapply (rec_inv Γ K c (some (false, (k, j)))); iexact HR
    isplitr; · iapply (rec_inv Γ K (peer c j) (some (true, (k, j)))); iexact HR
    isplitl [Hs]; · iexact Hs
    isplitl [Hsl]; · iexact Hsl
    isplitl [HO]; · iexact HO
    isplitl [Ht₁]; · iexact Ht₁
    isplitr; · iapply (rec_reached Γ K c (some (false, (k, j)))); iexact HR
    isplitl [Ht₂]; · iexact Ht₂
    iapply (rec_reached Γ K (peer c j) (some (true, (k, j)))); iexact HR
  iintro ⟨Hc, HO⟩
  rw [wp_ret]
  imodintro
  isplitr [HF]
  · isplitr [HS]
    · isplitl [HO]
      · iexists W; iexact HO
      isplitl [HT]; · iexact HT
      iapply (Entails.of_eq (gone_step rk_inj (n := 15 * k.val + j.val) (k, j) rfl (Cr (F := F) c)).symm)
      isplitl [Hc]; · unfold Cr; iexact Hc
      iexact HC
    · iexact HS
  · iexact HF

/-! ## Waits -/

/-- A wait for an arrival. -/
theorem step_recv (x : Item) {n : ℕ} (hn : n = rk x) {O : CellTallies nD τ sig Unit} (hO : x.1.val < 5 ∧ O = owedX c 75 ∨ O = 0)
    {s : Shape} {e : EltTy} {m m' : Memref sig .tc .vmem s e} {q : DmaSem sig} (hq : q = rcvS x) {h₁ h₂} (hN : m'.view.amount (.dma q) = NI x.1) :
    Tri Γ K c iprop((Owe c O ∗ Rv Γ c n) ∗ R) (Prog.lift (.waitDma2 q m m' h₁ h₂)) (fun _ => iprop((Owe c O ∗ Rv Γ c (n + 1)) ∗ R)) := by
  subst hn hq
  unfold Tri Rv Owe
  iintro ⟨#HR, ⟨⟨%W, HO⟩, HT, HG⟩, HF⟩
  ihave HT := (Entails.of_eq (rest_step rk_inj x rfl (fun x => (iprop(cred (tallyAt (rcvCell c x) () (NI x.1)) ∗ atPos ER (rcvCell c x) 0 ∅ 0) : sProp 𝕄)))) $$ HT
  icases HT with ⟨⟨Hcr, Hat⟩, HT⟩
  unfold Prog.lift
  iapply (Rounds.wp_wait_rest_token 𝒱₀ ER (Rd Γ) (c : Thread nD τ) none (κ := K (c, some (true, x))) (k' := NI x.1) (sm := .dma (rcvS x))
      (fun Kt => (wpE_waitDma2_eq 𝒱₀ (c : Thread nD τ) none Set.univ Kt).trans (by rw [← hN])) (Set.mem_univ _) () (O := O) (W := W) (R := 0) (m := 0) (T := ∅)
      (by rw [Nat.zero_add, expect_rcv])) $$ [Hcr HO Hat]
  · isplitr; · iapply (rec_inv Γ K c (some (true, x))); iexact HR
    isplitl [Hcr]; · iexact Hcr
    isplitl [HO]; · iexact HO
    isplitr
    · rcases hO with ⟨hx, rfl⟩ | rfl
      · iapply (rec_may_rcv Γ K c x hx); iexact HR
      · rw [MayWait_zero]; iempintro
    iexact Hat
  iintro ⟨HO, Hat, -, Hpay⟩
  ihave Hp := (Entails.of_eq (rest_rcv Γ c x)) $$ Hpay
  imod (Rounds.cell_close ER (Rd Γ) (Set.mem_univ (K (c, some (true, x)))) (fun h => h) (R := 0 + 1) (duties_later Γ (rcvCell c x))) $$ [Hat] with Hz
  · isplitr; · iapply (rec_inv Γ K c (some (true, x))); iexact HR
    iexact Hat
  rw [wp_ret]
  imodintro
  isplitr [HF]
  · isplitl [HO]
    · iexists (insert (SemLoc.dma (rcvS x), ()) W); iexact HO
    isplitl [HT]; · iexact HT
    iapply (Entails.of_eq (gone_step rk_inj x rfl (fun x => iprop(landPts Γ c x ∗ semVal (rcvCell c x) 0))).symm)
    isplitr [HG]
    · isplitl [Hp]; · iexact Hp
      iexact Hz
    · iexact HG
  · iexact HF

/-- A wait for a send's source. -/
theorem step_sent (x : Item) {n : ℕ} (hn : n = rk x)
    {s : Shape} {e : EltTy} {m m' : Memref sig .tc .vmem s e} {q : DmaSem sig} (hq : q = sndS x) {h₁ h₂} (hN : m'.view.amount (.dma q) = NI x.1) :
    Tri Γ K c iprop((Owe c 0 ∗ Sw Γ c n) ∗ R) (Prog.lift (.waitDma2 q m m' h₁ h₂)) (fun _ => iprop((Owe c 0 ∗ Sw Γ c (n + 1)) ∗ R)) := by
  subst hn hq
  unfold Tri Sw Owe
  iintro ⟨#HR, ⟨⟨%W, HO⟩, HT, HG⟩, HF⟩
  ihave HT := (Entails.of_eq (rest_step rk_inj x rfl (fun x => (iprop(Cr c x ∗ atPos ER (sndCell c x) 0 ∅ 0) : sProp 𝕄)))) $$ HT
  unfold Cr
  icases HT with ⟨⟨Hcr, Hat⟩, HT⟩
  unfold Prog.lift
  iapply (Rounds.wp_wait_rest_token 𝒱₀ ER (Rd Γ) (c : Thread nD τ) none (κ := K (c, some (false, x))) (k' := NI x.1) (sm := .dma (sndS x))
      (fun Kt => (wpE_waitDma2_eq 𝒱₀ (c : Thread nD τ) none Set.univ Kt).trans (by rw [← hN])) (Set.mem_univ _) () (O := 0) (W := W) (R := 0) (m := 0) (T := ∅)
      (by rw [Nat.zero_add, expect_snd])) $$ [Hcr HO Hat]
  · isplitr; · iapply (rec_inv Γ K c (some (false, x))); iexact HR
    isplitl [Hcr]; · iexact Hcr
    isplitl [HO]; · iexact HO
    isplitr; · rw [MayWait_zero]; iempintro
    iexact Hat
  iintro ⟨HO, Hat, -, Hpay⟩
  ihave Hp := (Entails.of_eq (rest_snd Γ c x)) $$ Hpay
  imod (Rounds.cell_close ER (Rd Γ) (Set.mem_univ (K (c, some (false, x)))) (fun h => h) (R := 0 + 1) (duties_later Γ (sndCell c x))) $$ [Hat] with Hz
  · isplitr; · iapply (rec_inv Γ K c (some (false, x))); iexact HR
    iexact Hat
  rw [wp_ret]
  imodintro
  isplitr [HF]
  · isplitl [HO]
    · iexists (insert (SemLoc.dma (sndS x), ()) W); iexact HO
    isplitl [HT]; · iexact HT
    iapply (Entails.of_eq (gone_step rk_inj x rfl (fun x => iprop(srcPts Γ c x ∗ semVal (sndCell c x) 0))).symm)
    isplitr [HG]
    · isplitl [Hp]; · iexact Hp
      iexact Hz
    · iexact HG
  · iexact HF

/-! ## Loads and stores -/

/-- A load from a piece of the state. -/
theorem step_load {s : Shape} {e : EltTy} {m : Memref sig .tc .vmem s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S)
    (hA : A ⊢ iprop((m.view.loc (c : Thread nD τ) ↦[S]{q} f) ∗ ((m.view.loc (c : Thread nD τ) ↦[S]{q} f) -∗ A))) :
    Tri Γ K c A (Prog.lift (.load m r hl)) (fun v => iprop(⌜v = m.view.readAt (Elt F) r f⌝ ∗ A)) := by
  unfold Tri
  iintro ⟨-, HA⟩
  ihave HA := hA $$ HA
  icases HA with ⟨H, HA⟩
  unfold Prog.lift
  iapply (wp_load 𝒱₀ (c : Thread nD τ) none Set.univ (m := m) hS) $$ H; iintro H
  rw [wp_ret]
  imodintro
  isplitr; · ipureintro; rfl
  iapply HA; iexact H

/-- A store into a piece of the state. -/
theorem step_store {s : Shape} {e : EltTy} {m : Memref sig .tc .vmem s e} {r : Rect s} {w : r.shape.Idx → Elt F e} {hx hm}
    {S : Finset (Idx ((m.access r).loc (c : Thread nD τ)))}
    (hS : (m.access r).setOn Finset.univ ⊆ S)
    (hA : A ⊢ iprop(∃ f, ((m.access r).loc (c : Thread nD τ) ↦[S]{fullShare} f)
      ∗ (((m.access r).loc (c : Thread nD τ) ↦[S]{fullShare} ((m.access r).write (Elt F) f w Finset.univ)) -∗ A'))) :
    Tri Γ K c A (Prog.lift (.store m r w Finset.univ hx hm)) (fun _ => A') := by
  unfold Tri
  iintro ⟨-, HA⟩
  ihave HA := hA $$ HA
  icases HA with ⟨%f, H, HA⟩
  unfold Prog.lift
  iapply (wp_store 𝒱₀ (c : Thread nD τ) none Set.univ (m := m) (r := r) (Mk := Finset.univ) hS) $$ H; iintro H
  rw [wp_ret]
  imodintro
  iapply HA; iexact H

end Cert.KernelIdeal.Mesh

end
-- ==== Proof.KernelIdeal.Ops.lean ====
/-
The kernel's signals, sends and waits as the program writes them: each is a step of `Steps` at the slices, devices and
semaphores the program computes.
-/
module

public import proofs.«01_k».proof.Proof.KernelIdeal.Steps

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices and offsets the program computes -/

/-- The device `w` places ahead, as the program computes it. -/
def ahead (c : Dev nD) (w : BitVec 32) : ℕ :=
  (Scalar.addi 0#32 (Scalar.muli (Scalar.remsi (Scalar.addi (Scalar.remsi (Scalar.divsi (Dev.word c) 1#32) 16#32) w) 16#32) 1#32)).toNat

theorem ahead_eq : ∀ (c : Dev nD) (j : Fin 15), ahead c (BitVec.ofNat 32 (1 + j.val)) = (c.val + (1 + j.val)) % 16 := by decide +kernel

/-- The first row of the device `w` places ahead, as the program computes it. -/
def rowsAhead (c : Dev nD) (w : BitVec 32) : ℕ :=
  (Scalar.muli (Scalar.remsi (Scalar.addi (Scalar.remsi (Scalar.divsi (Dev.word c) 1#32) 16#32) w) 16#32) 16#32).toNat

theorem rowsAhead_val : ∀ (c : Dev nD) (j : Fin 15), rowsAhead c (BitVec.ofNat 32 (1 + j.val)) = 16 * ((c.val + (1 + j.val)) % 16) := by decide +kernel

variable (c : Dev nD) (j : Fin 15)

theorem peer_form : (c.val + j.val + 1) % 16 = (peer c j).val := by rw [peer_val]; congr 1; omega
theorem rowsAhead_eq : rowsAhead c (BitVec.ofNat 32 (1 + j.val)) = 16 * (peer c j).val := by
  rw [peer_val]; exact rowsAhead_val c j
theorem off11 : k0_off11 c (BitVec.ofNat 32 j.val) = ![0, 16 * (peer c (rev j)).val, 0] := by
  rw [k0_off11_eq]
  have e : (c.val + 15 - j.val) % 16 = (peer c (rev j)).val := by simp only [peer_val, rev]; congr 1; omega
  rw [e]

variable {c} {Γ : Cont F} {K : Dev nD × KI → ℕ} {R : sProp (MT nD τ sig Unit (Elt F) ℕ UU ℕ)}

/-! ## Signals -/

/-- A barrier signal, with whatever else the state holds. -/
theorem signal (j : Fin 15) {d : Dev nD} (hd : d.val = ahead c (BitVec.ofNat 32 (1 + j.val)) := by rfl) :
    Tri Γ K c iprop(Sig c j.val ∗ R) (semSignalWord d barS 1#32) (fun _ => iprop(Sig c (j.val + 1) ∗ R)) := Tri.frame (step_signal j (Fin.ext (hd.trans (ahead_eq c j))))

/-! ## Sends -/

/-- A send of partial outputs. -/
theorem send_o (k : Fin 6) (j : Fin 15) {o4 : Fin 4 → ℕ} {o5 : Fin 5 → ℕ} {h₄ h₅} {d : Dev nD} {sS sR : DmaSem sig} {i : ℕ} {hsc hsrc hdst hsem}
    (hk : k.val < 4 := by decide) (hi : i = j.val := by rfl) (hd : d.val = ahead c (BitVec.ofNat 32 (1 + j.val)) := by rfl)
    (ho₄ : o4 = ![k.val, rowsAhead c (BitVec.ofNat 32 (1 + j.val)), 0, 0] := by rfl)
    (ho₅ : o5 = ![j.val, k.val, 0, 0, 0] := by rfl) (hS : sS = sndS (k, j) := by rfl) (hR : sR = rcvS (k, j) := by rfl) :
    Tri Γ K c (Sb Γ c k i R) (Prog.lift (.enqueueDma (oSrc (o4 := o4) h₄) (.remote (Dev.tc d : Thread nD τ) (oDst (o5 := o5) h₅) (.dma sS) hsc) (.dma sR) hsrc hdst hsem))
      (fun _ => Sb Γ c k (i + 1) R) := by
  obtain rfl : d = peer c j := Fin.ext (hd.trans (ahead_eq c j))
  rw [rowsAhead_eq] at ho₄
  refine step_send j hi rfl (congrArg _ hS) (congrArg _ hR) (q := fullShare) (fs := Γ.ob c) ?_ ?_ (NI_o k hk _ h₄ _).1 (fun fd => ?_)
  · rw [oSrc_set h₄ ho₄]; unfold srcPts; rw [if_pos hk]
  · rw [oDst_set h₅ ho₅]; unfold slotAny; rw [if_pos hk]
  · refine (Entails.of_eq (pointsTo_congr (fun i hi => land_o Γ c (⟨k.val, hk⟩ : Fin 4) j h₄ h₅ ho₄ ho₅ fd hi))).trans ?_
    rw [oDst_set h₅ ho₅]; unfold landPts; rw [if_pos hk]

/-- A send of maxima and sums. -/
theorem send_ml (j : Fin 15) {o3 : Fin 3 → ℕ} {o4 : Fin 4 → ℕ} {h₃ h₄} {d : Dev nD} {sS sR : DmaSem sig} {i : ℕ} {hsc hsrc hdst hsem}
    (hi : i = j.val := by rfl) (hd : d.val = ahead c (BitVec.ofNat 32 (1 + j.val)) := by rfl)
    (ho₃ : o3 = ![0, rowsAhead c (BitVec.ofNat 32 (1 + j.val)), 0] := by rfl)
    (ho₄ : o4 = ![j.val, 0, 0, 0] := by rfl) (hS : sS = sndS (4, j) := by rfl) (hR : sR = rcvS (4, j) := by rfl) :
    Tri Γ K c (Sb Γ c 4 i R) (Prog.lift (.enqueueDma (mlSrc (o3 := o3) h₃) (.remote (Dev.tc d : Thread nD τ) (mlDst (o4 := o4) h₄) (.dma sS) hsc) (.dma sR) hsrc hdst hsem))
      (fun _ => Sb Γ c 4 (i + 1) R) := by
  obtain rfl : d = peer c j := Fin.ext (hd.trans (ahead_eq c j))
  rw [rowsAhead_eq] at ho₃
  refine step_send j hi rfl (congrArg _ hS) (congrArg _ hR) (q := fullShare) (fs := Γ.ml c) ?_ ?_ (NI_ml _ h₃ _).1 (fun fd => ?_)
  · rw [mlSrc_set h₃ ho₃]; rfl
  · rw [mlDst_set h₄ ho₄]; exact BI.Entails.refl _
  · refine (Entails.of_eq (pointsTo_congr (fun i hi => land_ml Γ c j h₃ h₄ ho₃ ho₄ fd hi))).trans ?_
    rw [mlDst_set h₄ ho₄]; exact BI.Entails.refl _

/-- A send of finished rows. -/
theorem send_fb (j : Fin 15) {o3 : Fin 3 → ℕ} {h₃} {d : Dev nD} {sS sR : DmaSem sig} {i : ℕ} {hsc hsrc hdst hsem}
    (hi : i = j.val := by rfl) (hd : d.val = ahead c (BitVec.ofNat 32 (1 + j.val)) := by rfl)
    (ho₃ : o3 = ![0, 16 * c.val, 0] := by exact k0_off10_eq _)
    (hS : sS = sndS (5, j) := by rfl) (hR : sR = rcvS (5, j) := by rfl) :
    Tri Γ K c (Sb Γ c 5 i R) (Prog.lift (.enqueueDma (fbRows (o3 := o3) h₃) (.remote (Dev.tc d : Thread nD τ) (fbRows (o3 := o3) h₃) (.dma sS) hsc) (.dma sR) hsrc hdst hsem))
      (fun _ => Sb Γ c 5 (i + 1) R) := by
  obtain rfl : d = peer c j := Fin.ext (hd.trans (ahead_eq c j))
  refine step_send j hi rfl (congrArg _ hS) (congrArg _ hR) (q := ShareLeaves.leaf 4 fullShare ⟨j.val, by omega⟩) (fs := Γ.fb) ?_ ?_ (NI_fb _ _) (fun fd => ?_)
  · rw [fbRows_set h₃ ho₃]; rfl
  · rw [fbRows_set h₃ ho₃]; show iprop(∃ f, fbL (peer c j) ↦[fbSet (peer (peer c j) (rev j)).val]{fullShare} f) ⊢ _
    rw [peer_rev]
  · refine (Entails.of_eq (pointsTo_congr (fun i hi => land_fb Γ h₃ fd hi))).trans ?_
    rw [fbRows_set h₃ ho₃]; show _ ⊢ fbL (peer c j) ↦[fbSet (peer (peer c j) (rev j)).val]{fullShare} Γ.fb
    rw [peer_rev]

/-! ## Waits -/

/-- The receiving state while `O` is owed, `n` arrivals waited for. -/
def Rb (Γ : Cont F) (c : Dev nD) (O : CellTallies nD τ sig Unit) (n : ℕ) (R : sProp 𝕄) : sProp 𝕄 := iprop((Owe c O ∗ Rv Γ c n) ∗ R)
/-- The sending state, nothing owed, `n` sends waited for. -/
def Wb (Γ : Cont F) (c : Dev nD) (n : ℕ) (R : sProp 𝕄) : sProp 𝕄 := iprop((Owe c 0 ∗ Sw Γ c n) ∗ R)

theorem recv_o (k : Fin 6) (j : Fin 15) {m : Memref sig .tc .vmem S16x8x128 .bf16} {o5 : Fin 5 → ℕ} {h₅} {q : DmaSem sig} {n : ℕ} {h₁ h₂}
    (hk : k.val < 4 := by decide) (hn : n = rk (k, j) := by rfl) (hq : q = rcvS (k, j) := by rfl) :
    Tri Γ K c (Rb Γ c (owedX c 75) n R) (Prog.lift (.waitDma2 q m (oDst (o5 := o5) h₅) h₁ h₂)) (fun _ => Rb Γ c (owedX c 75) (n + 1) R) :=
  step_recv (k, j) hn (.inl ⟨by show k.val < 5; omega, rfl⟩) hq (NI_o k hk h₅ (o4 := ![0, 0, 0, 0]) (by decide) q).1

theorem recv_ml (j : Fin 15) {m : Memref sig .tc .vmem S4x16x16 .f32} {o4 : Fin 4 → ℕ} {h₄} {q : DmaSem sig} {n : ℕ} {h₁ h₂}
    (hn : n = rk (4, j) := by rfl) (hq : q = rcvS (4, j) := by rfl) :
    Tri Γ K c (Rb Γ c (owedX c 75) n R) (Prog.lift (.waitDma2 q m (mlDst (o4 := o4) h₄) h₁ h₂)) (fun _ => Rb Γ c (owedX c 75) (n + 1) R) :=
  step_recv (4, j) hn (.inl ⟨by show 4 < 5; omega, rfl⟩) hq (NI_ml h₄ (o3 := ![0, 0, 0]) (by decide) q).1

theorem recv_fb (j : Fin 15) {m : Memref sig .tc .vmem S4x16x1024 .bf16} {o3 : Fin 3 → ℕ} {h₃} {q : DmaSem sig} {n : ℕ} {h₁ h₂}
    (hn : n = rk (5, j) := by rfl) (hq : q = rcvS (5, j) := by rfl) :
    Tri Γ K c (Rb Γ c 0 n R) (Prog.lift (.waitDma2 q m (fbRows (o3 := o3) h₃) h₁ h₂)) (fun _ => Rb Γ c 0 (n + 1) R) :=
  step_recv (5, j) hn (.inr rfl) hq (NI_fb h₃ q)

theorem sent_o (k : Fin 6) (j : Fin 15) {m : Memref sig .tc .vmem S16x8x128 .bf16} {o4 : Fin 4 → ℕ} {h₄} {q : DmaSem sig} {n : ℕ} {h₁ h₂}
    (hk : k.val < 4 := by decide) (hn : n = rk (k, j) := by rfl) (hq : q = sndS (k, j) := by rfl) :
    Tri Γ K c (Wb Γ c n R) (Prog.lift (.waitDma2 q m (oSrc (o4 := o4) h₄) h₁ h₂)) (fun _ => Wb Γ c (n + 1) R) :=
  step_sent (k, j) hn hq (NI_o k hk (o5 := ![0, 0, 0, 0, 0]) (by decide) h₄ q).2

theorem sent_ml (j : Fin 15) {m : Memref sig .tc .vmem S4x16x16 .f32} {o3 : Fin 3 → ℕ} {h₃} {q : DmaSem sig} {n : ℕ} {h₁ h₂}
    (hn : n = rk (4, j) := by rfl) (hq : q = sndS (4, j) := by rfl) :
    Tri Γ K c (Wb Γ c n R) (Prog.lift (.waitDma2 q m (mlSrc (o3 := o3) h₃) h₁ h₂)) (fun _ => Wb Γ c (n + 1) R) :=
  step_sent (4, j) hn hq (NI_ml (o4 := ![0, 0, 0, 0]) (by decide) h₃ q).2

theorem sent_fb (j : Fin 15) {m : Memref sig .tc .vmem S4x16x1024 .bf16} {o3 : Fin 3 → ℕ} {h₃} {q : DmaSem sig} {n : ℕ} {h₁ h₂}
    (hn : n = rk (5, j) := by rfl) (hq : q = sndS (5, j) := by rfl) :
    Tri Γ K c (Wb Γ c n R) (Prog.lift (.waitDma2 q m (fbRows (o3 := o3) h₃) h₁ h₂)) (fun _ => Wb Γ c (n + 1) R) :=
  step_sent (5, j) hn hq (NI_fb h₃ q)

end Cert.KernelIdeal.Mesh

end
-- ==== Proof.KernelIdeal.Args.lean ====
/-
The kernel's parts at the launch's buffers and semaphores.
-/
module

public import proofs.«01_k».proof.Proof.KernelIdeal.Ops

@[expose] public section

noncomputable section

namespace Cert.KernelIdeal.Mesh

open Cert.KernelIdeal Cert.KernelIdeal.Gen

open Idealize.ShloMosaic

/-- A part of the kernel at the buffers and semaphores it is launched on. -/
abbrev on {β : Sort*}
    (f : (arg0 : Memref sig .tc .vmem S4x256x1024 .bf16) → arg0.IsWhole → (arg1 : Memref sig .tc .vmem S1024x1024 .bf16) → arg1.IsWhole →
      (arg2 : Memref sig .tc .vmem S1024x1024 .bf16) → arg2.IsWhole → (arg3 : Memref sig .tc .vmem S4x1024x2x128 .bf16) → arg3.IsWhole →
      (arg4 : Memref sig .tc .vmem S4x1024x2x128 .bf16) → arg4.IsWhole → (arg5 : Memref sig .tc .vmem S4x256x1024 .f32) → arg5.IsWhole →
      (arg6 : Memref sig .tc .vmem S4x256x8x128 .bf16) → arg6.IsWhole → (arg7 : Memref sig .tc .vmem S4x256x16 .f32) → arg7.IsWhole →
      (arg8 : Memref sig .tc .vmem S15x4x16x8x128 .bf16) → arg8.IsWhole → (arg9 : Memref sig .tc .vmem S15x4x16x16 .f32) → arg9.IsWhole →
      (arg10 : Memref sig .tc .vmem S4x256x1024 .bf16) → arg10.IsWhole →
      DmaSems sig S60 → DmaSems sig S60 → DmaSems sig S15 → DmaSems sig S15 → DmaSems sig S15 → DmaSems sig S15 → β) : β :=
  f A0 (Memref.isWhole_whole _) A1 (Memref.isWhole_whole _) A2 (Memref.isWhole_whole _) A3 (Memref.isWhole_whole _) A4 (Memref.isWhole_whole _)
    A5 (Memref.isWhole_whole _) A6 (Memref.isWhole_whole _) A7 (Memref.isWhole_whole _) A8 (Memref.isWhole_whole _) A9 (Memref.isWhole_whole _)
    A10 (Memref.isWhole_whole _) cc0_scratch5 cc0_scratch6 cc0_scratch7 cc0_scratch8 cc0_scratch9 cc0_scratch10

end Cert.KernelIdeal.Mesh

end
-- ==== Proof.KernelIdeal.Contents.lean ====
/-
What the kernel's buffers come to hold, from what each device's argument blocks hold: one batch's partial outputs, maxima
and sums; the merged rows; the result.
-/
module

public import proofs.«01_k».proof.Proof.KernelIdeal.Args

@[expose] public section

noncomputable section

namespace Cert.KernelIdeal.Mesh

open Cert.KernelIdeal Cert.KernelIdeal.Gen

open Idealize.ShloMosaic
open Idealize.ShloMosaic.TcCoe
open Idealize.ShloMosaic.ValueIdx

variable {F : FTy → Type} [FloatOps F]

/-- One device's argument blocks: the queries' source, the two weights, its keys and its values. -/
structure Ins (F : FTy → Type) where
  x : Vec F S4x256x1024 .bf16
  wq : Vec F S1024x1024 .bf16
  wo : Vec F S1024x1024 .bf16
  k : Vec F S4x1024x2x128 .bf16
  v : Vec F S4x1024x2x128 .bf16

/-! ## One batch -/

/-- The partial outputs of one batch, from the weights, the batch's rows, and the two groups' keys and values. -/
def oBlk (wq : Vec F S1024x1024 .bf16) (x : Vec F S1x256x1024 .bf16) (k0 v0 k1 v1 : Vec F S1x1024x1x128 .bf16) : FVec F S1x256x8x128 .bf16 :=
  k0_pay26 (k0_pay9 (k0_pay3 wq x) k0 v0) (k0_pay12 (k0_pay3 wq x) k0 v0) (k0_pay15 (k0_pay3 wq x) k0 v0) (k0_pay18 (k0_pay3 wq x) k0 v0)
    (k0_pay21 v1) (k0_pay22 (k0_pay2 wq x) k1)

/-- The maxima and sums of one batch. -/
def mlBlk (wq : Vec F S1024x1024 .bf16) (x : Vec F S1x256x1024 .bf16) (k0 k1 : Vec F S1x1024x1x128 .bf16) : FVec F S1x256x16 .f32 :=
  k0_pay27 (k0_pay10 (k0_pay3 wq x) k0) (k0_pay11 (k0_pay3 wq x) k0) (k0_pay13 (k0_pay3 wq x) k0) (k0_pay14 (k0_pay3 wq x) k0)
    (k0_pay16 (k0_pay3 wq x) k0) (k0_pay17 (k0_pay3 wq x) k0) (k0_pay19 (k0_pay3 wq x) k0) (k0_pay20 (k0_pay3 wq x) k0) (k0_pay22 (k0_pay2 wq x) k1)

variable (wq : Vec F S1024x1024 .bf16) (x : Vec F S1x256x1024 .bf16) (k0 v0 k1 v1 : Vec F S1x1024x1x128 .bf16)

/-- The second batch's partial outputs are the same function of its operands; -/
theorem o_second : k0_pay59 (k0_pay58 (k0_pay28 (k0_pay1 wq) x) (k0_pay34 (k0_pay1 wq) x k0 v0) (k0_pay37 (k0_pay1 wq) x k0 v0)
    (k0_pay40 (k0_pay1 wq) x k0 v0) (k0_pay43 (k0_pay1 wq) x k0 v0) k1 v1) = oBlk wq x k0 v0 k1 v1 := rfl

/-- likewise its maxima and sums; -/
theorem ml_second : k0_pay60 (k0_pay35 (k0_pay1 wq) x k0) (k0_pay36 (k0_pay1 wq) x k0) (k0_pay38 (k0_pay1 wq) x k0) (k0_pay39 (k0_pay1 wq) x k0)
    (k0_pay41 (k0_pay1 wq) x k0) (k0_pay42 (k0_pay1 wq) x k0) (k0_pay44 (k0_pay30 (k0_pay1 wq) x k0)) (k0_pay45 (k0_pay32 (k0_pay1 wq) x k0))
    (k0_pay50 (k0_pay28 (k0_pay1 wq) x) k1) (k0_pay51 (k0_pay28 (k0_pay1 wq) x) k1) (k0_pay52 (k0_pay28 (k0_pay1 wq) x) k1)
    (k0_pay53 (k0_pay28 (k0_pay1 wq) x) k1) (k0_pay54 (k0_pay28 (k0_pay1 wq) x) k1) (k0_pay55 (k0_pay28 (k0_pay1 wq) x) k1)
    (k0_pay56 (k0_pay28 (k0_pay1 wq) x) k1) (k0_pay57 (k0_pay28 (k0_pay1 wq) x) k1) = mlBlk wq x k0 k1 := rfl

/-- the third batch's; -/
theorem o_third : k0_pay86 (k0_pay68 (k0_pay62 v0) (k0_pay63 (k0_pay1 wq) x k0)) (k0_pay71 (k0_pay62 v0) (k0_pay63 (k0_pay1 wq) x k0))
    (k0_pay74 (k0_pay62 v0) (k0_pay63 (k0_pay1 wq) x k0)) (k0_pay77 (k0_pay62 v0) (k0_pay63 (k0_pay1 wq) x k0))
    (k0_pay84 (k0_pay61 (k0_pay1 wq) x) k1 v1) (k0_pay85 (k0_pay61 (k0_pay1 wq) x) k1 v1) = oBlk wq x k0 v0 k1 v1 := rfl

theorem ml_third : k0_pay87 (k0_pay69 (k0_pay63 (k0_pay1 wq) x k0)) (k0_pay70 (k0_pay63 (k0_pay1 wq) x k0)) (k0_pay72 (k0_pay63 (k0_pay1 wq) x k0))
    (k0_pay73 (k0_pay63 (k0_pay1 wq) x k0)) (k0_pay75 (k0_pay63 (k0_pay1 wq) x k0)) (k0_pay76 (k0_pay63 (k0_pay1 wq) x k0))
    (k0_pay78 (k0_pay63 (k0_pay1 wq) x k0)) (k0_pay79 (k0_pay63 (k0_pay1 wq) x k0)) (k0_pay81 (k0_pay61 (k0_pay1 wq) x) k1)
    (k0_pay83 (k0_pay61 (k0_pay1 wq) x) k1) = mlBlk wq x k0 k1 := rfl

/-- and the fourth batch's. -/
theorem o_fourth : k0_pay112 (k0_pay95 (k0_pay88 (k0_pay1 wq) x) (k0_pay89 (k0_pay1 wq) x) k0 v0) (k0_pay98 (k0_pay88 (k0_pay1 wq) x) (k0_pay89 (k0_pay1 wq) x) k0 v0)
    (k0_pay101 (k0_pay88 (k0_pay1 wq) x) (k0_pay89 (k0_pay1 wq) x) k0 v0) (k0_pay104 (k0_pay88 (k0_pay1 wq) x) (k0_pay89 (k0_pay1 wq) x) k0 v0)
    (k0_pay107 (k0_pay88 (k0_pay1 wq) x)) (k0_pay108 k1) v1 = oBlk wq x k0 v0 k1 v1 := rfl

theorem ml_fourth : k0_pay113 (k0_pay96 (k0_pay88 (k0_pay1 wq) x) (k0_pay89 (k0_pay1 wq) x) k0) (k0_pay97 (k0_pay88 (k0_pay1 wq) x) (k0_pay89 (k0_pay1 wq) x) k0)
    (k0_pay99 (k0_pay88 (k0_pay1 wq) x) (k0_pay89 (k0_pay1 wq) x) k0) (k0_pay100 (k0_pay88 (k0_pay1 wq) x) (k0_pay89 (k0_pay1 wq) x) k0)
    (k0_pay102 (k0_pay88 (k0_pay1 wq) x) (k0_pay89 (k0_pay1 wq) x) k0) (k0_pay103 (k0_pay88 (k0_pay1 wq) x) (k0_pay89 (k0_pay1 wq) x) k0)
    (k0_pay105 (k0_pay88 (k0_pay1 wq) x) (k0_pay89 (k0_pay1 wq) x) k0) (k0_pay106 (k0_pay88 (k0_pay1 wq) x) (k0_pay89 (k0_pay1 wq) x) k0)
    (k0_pay107 (k0_pay88 (k0_pay1 wq) x)) (k0_pay108 k1) = mlBlk wq x k0 k1 := rfl

/-! ## What a device loads -/

theorem x_inb : ∀ (b : Fin 4) (a : Fin 3), (![b.val, 0, 0] : Fin 3 → ℕ) a + S1x256x1024.size a ≤ S4x256x1024.size a := by decide
theorem kv_inb : ∀ (b : Fin 4) (g : Fin 2) (a : Fin 4), (![b.val, 0, g.val, 0] : Fin 4 → ℕ) a + S1x1024x1x128.size a ≤ S4x1024x2x128.size a := by decide

/-- A weight, as loaded. -/
def Ins.wqL (X : Ins F) : Vec F S1024x1024 .bf16 :=
  (A1).view.readAt (Elt F) (Rect.unit (s := S1024x1024) ![0, 0] S1024x1024.size inb_S1024x1024_S1024x1024_0_0).toLoadRect X.wq
def Ins.woL (X : Ins F) : Vec F S1024x1024 .bf16 :=
  (A2).view.readAt (Elt F) (Rect.unit (s := S1024x1024) ![0, 0] S1024x1024.size inb_S1024x1024_S1024x1024_0_0).toLoadRect X.wo
/-- A batch's rows, as loaded. -/
def Ins.xL (X : Ins F) (b : Fin 4) : Vec F S1x256x1024 .bf16 :=
  (A0).view.readAt (Elt F) (Rect.unit (s := S4x256x1024) ![b.val, 0, 0] S1x256x1024.size (x_inb b)).toLoadRect X.x
/-- A batch's keys of one group, as loaded; its values. -/
def Ins.kL (X : Ins F) (b : Fin 4) (g : Fin 2) : Vec F S1x1024x1x128 .bf16 :=
  (A3).view.readAt (Elt F) (Rect.unit (s := S4x1024x2x128) ![b.val, 0, g.val, 0] S1x1024x1x128.size (kv_inb b g)).toLoadRect X.k
def Ins.vL (X : Ins F) (b : Fin 4) (g : Fin 2) : Vec F S1x1024x1x128 .bf16 :=
  (A4).view.readAt (Elt F) (Rect.unit (s := S4x1024x2x128) ![b.val, 0, g.val, 0] S1x1024x1x128.size (kv_inb b g)).toLoadRect X.v

/-- A device's partial outputs of batch `b`; its maxima and sums. -/
def Ins.o (X : Ins F) (b : Fin 4) : FVec F S1x256x8x128 .bf16 := oBlk X.wqL (X.xL b) (X.kL b 0) (X.vL b 0) (X.kL b 1) (X.vL b 1)
def Ins.ml (X : Ins F) (b : Fin 4) : FVec F S1x256x16 .f32 := mlBlk X.wqL (X.xL b) (X.kL b 0) (X.kL b 1)

/-! ## The merge -/

/-- The merge's payload, before it is cast; -/
def finOf (ro : Vec F S15x4x16x8x128 .bf16) (rm rl : Vec F S15x4x16x8 .f32) (o : Vec F S4x16x8x128 .bf16) (m l : Vec F S4x16x8 .f32) (wo : Vec F S1024x1024 .bf16) :
    FVec F S4x16x1024 .f32 :=
  k0_pay120 rl (k0_pay114 o) l (k0_pay116 rm m) (k0_pay117 rm m) (k0_pay118 ro rm m) (k0_pay119 rm m) wo
/-- cast. -/
def finB (ro : Vec F S15x4x16x8x128 .bf16) (rm rl : Vec F S15x4x16x8 .f32) (o : Vec F S4x16x8x128 .bf16) (m l : Vec F S4x16x8 .f32) (wo : Vec F S1024x1024 .bf16) :
    FVec F S4x16x1024 .bf16 :=
  k0_pay121 rl (k0_pay114 o) l (k0_pay116 rm m) (k0_pay117 rm m) (k0_pay118 ro rm m) (k0_pay119 rm m) wo

variable (I : Dev nD → Ins F)

/-- The partial outputs, maxima and sums all devices send. -/
def obOf (c : Dev nD) : Vec F S4x256x8x128 .bf16 := fun i => (I c).o (i 0) (ix4 0 (i 1 : Fin 256) (i 2 : Fin 8) (i 3 : Fin 128))
def mlOf (c : Dev nD) : Vec F S4x256x16 .f32 := fun i => (I c).ml (i 0) (ix3 0 (i 1 : Fin 256) (i 2 : Fin 16))

/-- What they make up so far, the finished rows aside. -/
def pre : Cont F := ⟨obOf I, mlOf I, constant S4x256x1024 .bf16 0x0000#16⟩

/-- The merge's operands on device `c`, as loaded. -/
def roL' (c : Dev nD) : Vec F S15x4x16x8x128 .bf16 :=
  (A8).view.readAt (Elt F) (Rect.unit (s := S15x4x16x8x128) ![0, 0, 0, 0, 0] S15x4x16x8x128.size inb_S15x4x16x8x128_S15x4x16x8x128_0_0_0_0_0).toLoadRect ((pre I).ro c)
def rmL' (c : Dev nD) : Vec F S15x4x16x8 .f32 :=
  (A9).view.readAt (Elt F) (Rect.unit (s := S15x4x16x16) ![0, 0, 0, 0] S15x4x16x8.size inb_S15x4x16x16_S15x4x16x8_0_0_0_0).toLoadRect ((pre I).rm c)
def rlL' (c : Dev nD) : Vec F S15x4x16x8 .f32 :=
  (A9).view.readAt (Elt F) (Rect.unit (s := S15x4x16x16) ![0, 0, 0, 8] S15x4x16x8.size inb_S15x4x16x16_S15x4x16x8_0_0_0_8).toLoadRect ((pre I).rm c)
def ownO (c : Dev nD) : Vec F S4x16x8x128 .bf16 :=
  (A6).view.readAt (Elt F) (Rect.unit (s := S4x256x8x128) (k0_off6 c) S4x16x8x128.size (k0_off6_inb c)).toLoadRect (obOf I c)
def ownM (c : Dev nD) : Vec F S4x16x8 .f32 :=
  (A7).view.readAt (Elt F) (Rect.unit (s := S4x256x16) (k0_off7 c) S4x16x8.size (k0_off7_inb c)).toLoadRect (mlOf I c)
def ownL (c : Dev nD) : Vec F S4x16x8 .f32 :=
  (A7).view.readAt (Elt F) (Rect.unit (s := S4x256x16) (k0_off8 c) S4x16x8.size (k0_off8_inb c)).toLoadRect (mlOf I c)

/-- Device `c`'s finished rows; as it sends them. -/
def fin (c : Dev nD) : FVec F S4x16x1024 .f32 := finOf (roL' I c) (rmL' I c) (rlL' I c) (ownO I c) (ownM I c) (ownL I c) (I c).woL
def finS (c : Dev nD) : FVec F S4x16x1024 .bf16 := finB (roL' I c) (rmL' I c) (rlL' I c) (ownO I c) (ownM I c) (ownL I c) (I c).woL

/-- The device whose rows include row `r`; its place among them. -/
def rowDev (r : Fin 256) : Dev nD := ⟨r.val / 16, by have := r.isLt; show r.val / 16 < 16; omega⟩
def rowIn (r : Fin 256) : Fin 16 := ⟨r.val % 16, Nat.mod_lt _ (by omega)⟩

/-- All the buffers' contents. -/
def cont : Cont F := ⟨obOf I, mlOf I, fun i => finS I (rowDev (i 1)) (ix3 (i 0 : Fin 4) (rowIn (i 1)) (i 2 : Fin 1024))⟩

/-- The result on device `c`: its own rows as computed, the others' as sent and cast back. -/
def outOf (c : Dev nD) : Vec F S4x256x1024 .f32 := fun i =>
  if (i 1).val / 16 = c.val then fin I (rowDev (i 1)) (ix3 (i 0 : Fin 4) (rowIn (i 1)) (i 2 : Fin 1024))
  else k0_pay122 (finS I (rowDev (i 1))) (ix3 (i 0 : Fin 4) (rowIn (i 1)) (i 2 : Fin 1024))

end Cert.KernelIdeal.Mesh

end
-- ==== Proof.KernelIdeal.Pieces.lean ====
/-
How the buffers fall into the pieces the kernel reads, writes and sends: the row sets make up the buffers, and a stored
batch, block or row set holds what `Contents` says.
-/
module

public import proofs.«01_k».proof.Proof.KernelIdeal.Contents

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Row sets -/

/-- One batch of the partial outputs; of the maxima and sums; device `d`'s rows of all batches. -/
def obSet (b : ℕ) : Finset S4x256x8x128.Idx := Finset.univ.filter fun i => (i 0).val = b
def mbSet (b : ℕ) : Finset S4x256x16.Idx := Finset.univ.filter fun i => (i 0).val = b
def owSet (d : ℕ) : Finset S4x256x8x128.Idx := Finset.univ.filter fun i => (i 1).val / 16 = d

theorem obSet_dev (b : ℕ) : obSet b = Finset.univ.biUnion fun d : Dev nD => oSet b d.val := by
  ext i
  have h : (i 1).val / 16 < 16 := by have : (i 1).val < 256 := (i 1).isLt; omega
  simp only [obSet, oSet, Finset.mem_filter, Finset.mem_univ, true_and, Finset.mem_biUnion]
  exact ⟨fun hb => ⟨⟨_, h⟩, hb, rfl⟩, fun ⟨_, hb, _⟩ => hb⟩

theorem obSet_all : (Finset.univ : Finset S4x256x8x128.Idx) = Finset.univ.biUnion fun b : Fin 4 => obSet b.val := by
  ext i
  simp only [obSet, Finset.mem_filter, Finset.mem_univ, true_and, Finset.mem_biUnion, true_iff]
  exact ⟨(i 0 : Fin 4), rfl⟩

theorem owSet_batch (d : ℕ) : owSet d = Finset.univ.biUnion fun b : Fin 4 => oSet b.val d := by
  ext i
  simp only [owSet, oSet, Finset.mem_filter, Finset.mem_univ, true_and, Finset.mem_biUnion]
  exact ⟨fun hd => ⟨(i 0 : Fin 4), rfl, hd⟩, fun ⟨_, _, hd⟩ => hd⟩

theorem mbSet_all : (Finset.univ : Finset S4x256x16.Idx) = Finset.univ.biUnion fun b : Fin 4 => mbSet b.val := by
  ext i
  simp only [mbSet, Finset.mem_filter, Finset.mem_univ, true_and, Finset.mem_biUnion, true_iff]
  exact ⟨(i 0 : Fin 4), rfl⟩

theorem mlSet_all : (Finset.univ : Finset S4x256x16.Idx) = Finset.univ.biUnion fun d : Dev nD => mlSet d.val := by
  ext i
  have h : (i 1).val / 16 < 16 := by have : (i 1).val < 256 := (i 1).isLt; omega
  simp only [mlSet, Finset.mem_filter, Finset.mem_univ, true_and, Finset.mem_biUnion, true_iff]
  exact ⟨⟨_, h⟩, rfl⟩

theorem fbSet_all : (Finset.univ : Finset S4x256x1024.Idx) = Finset.univ.biUnion fun d : Dev nD => fbSet d.val := by
  ext i
  have h : (i 1).val / 16 < 16 := by have : (i 1).val < 256 := (i 1).isLt; omega
  simp only [fbSet, Finset.mem_filter, Finset.mem_univ, true_and, Finset.mem_biUnion, true_iff]
  exact ⟨⟨_, h⟩, rfl⟩

theorem roSet_all : (Finset.univ : Finset S15x4x16x8x128.Idx) = (Finset.univ : Finset (Fin 15 × Fin 4)).biUnion fun x => roSet x.1.val x.2.val := by
  ext i
  simp only [roSet, Finset.mem_filter, Finset.mem_univ, true_and, Finset.mem_biUnion, true_iff]
  exact ⟨((i 0 : Fin 15), (i 1 : Fin 4)), rfl, rfl⟩

theorem rmSet_all : (Finset.univ : Finset S15x4x16x16.Idx) = Finset.univ.biUnion fun j : Fin 15 => rmSet j.val := by
  ext i
  simp only [rmSet, Finset.mem_filter, Finset.mem_univ, true_and, Finset.mem_biUnion, true_iff]
  exact ⟨(i 0 : Fin 15), rfl⟩

section Pts
variable (c : Dev nD) (q : PosShare TreeShare)

omit [FloatOps F] in
theorem ob_dev (b : ℕ) (f : Vec F S4x256x8x128 .bf16) : (oL c ↦[obSet b]{q} f : sProp 𝕄) = bigSep Finset.univ fun d : Dev nD => oL c ↦[oSet b d.val]{q} f := by
  rw [obSet_dev]
  refine pointsTo_biUnion _ _ fun d _ d' _ hne => Finset.disjoint_left.mpr fun i h h' => hne ?_
  simp only [oSet, Finset.mem_filter] at h h'
  exact Fin.ext (by omega)

omit [FloatOps F] in
theorem ob_all (f : Vec F S4x256x8x128 .bf16) : (oL c ↦[Finset.univ]{q} f : sProp 𝕄) = bigSep Finset.univ fun b : Fin 4 => oL c ↦[obSet b.val]{q} f := by
  rw [obSet_all]
  refine pointsTo_biUnion _ _ fun d _ d' _ hne => Finset.disjoint_left.mpr fun i h h' => hne ?_
  simp only [obSet, Finset.mem_filter] at h h'
  exact Fin.ext (by omega)

omit [FloatOps F] in
theorem ow_batch (d : ℕ) (f : Vec F S4x256x8x128 .bf16) : (oL c ↦[owSet d]{q} f : sProp 𝕄) = bigSep Finset.univ fun b : Fin 4 => oL c ↦[oSet b.val d]{q} f := by
  rw [owSet_batch]
  refine pointsTo_biUnion _ _ fun b _ b' _ hne => Finset.disjoint_left.mpr fun i h h' => hne ?_
  simp only [oSet, Finset.mem_filter] at h h'
  exact Fin.ext (by omega)

omit [FloatOps F] in
theorem mb_all (f : Vec F S4x256x16 .f32) : (mlL c ↦[Finset.univ]{q} f : sProp 𝕄) = bigSep Finset.univ fun b : Fin 4 => mlL c ↦[mbSet b.val]{q} f := by
  rw [mbSet_all]
  refine pointsTo_biUnion _ _ fun d _ d' _ hne => Finset.disjoint_left.mpr fun i h h' => hne ?_
  simp only [mbSet, Finset.mem_filter] at h h'
  exact Fin.ext (by omega)

omit [FloatOps F] in
theorem ml_all (f : Vec F S4x256x16 .f32) : (mlL c ↦[Finset.univ]{q} f : sProp 𝕄) = bigSep Finset.univ fun d : Dev nD => mlL c ↦[mlSet d.val]{q} f := by
  rw [mlSet_all]
  refine pointsTo_biUnion _ _ fun d _ d' _ hne => Finset.disjoint_left.mpr fun i h h' => hne ?_
  simp only [mlSet, Finset.mem_filter] at h h'
  exact Fin.ext (by omega)

omit [FloatOps F] in
theorem ro_all (f : Vec F S15x4x16x8x128 .bf16) : (roL c ↦[Finset.univ]{q} f : sProp 𝕄)
    = bigSep Finset.univ fun x : Fin 15 × Fin 4 => roL c ↦[roSet x.1.val x.2.val]{q} f := by
  rw [roSet_all]
  refine pointsTo_biUnion _ _ fun x _ x' _ hne => Finset.disjoint_left.mpr fun i h h' => hne ?_
  simp only [roSet, Finset.mem_filter] at h h'
  exact Prod.ext (Fin.ext (by omega)) (Fin.ext (by omega))

omit [FloatOps F] in
theorem rm_all (f : Vec F S15x4x16x16 .f32) : (rmL c ↦[Finset.univ]{q} f : sProp 𝕄) = bigSep Finset.univ fun j : Fin 15 => rmL c ↦[rmSet j.val]{q} f := by
  rw [rmSet_all]
  refine pointsTo_biUnion _ _ fun d _ d' _ hne => Finset.disjoint_left.mpr fun i h h' => hne ?_
  simp only [rmSet, Finset.mem_filter] at h h'
  exact Fin.ext (by omega)

omit [FloatOps F] in
theorem fb_all (f : Vec F S4x256x1024 .bf16) : (fbL c ↦[Finset.univ]{q} f : sProp 𝕄) = bigSep Finset.univ fun d : Dev nD => fbL c ↦[fbSet d.val]{q} f := by
  rw [fbSet_all]
  refine pointsTo_biUnion _ _ fun d _ d' _ hne => Finset.disjoint_left.mpr fun i h h' => hne ?_
  simp only [fbSet, Finset.mem_filter] at h h'
  exact Fin.ext (by omega)

/-- The staging of the result. -/
abbrev outL (c : Dev nD) : Loc nD τ sig := (c : Thread nD τ).loc cc0_stg5_0

omit [FloatOps F] in
theorem out_all (f : Vec F S4x256x1024 .f32) : (outL c ↦[Finset.univ]{q} f : sProp 𝕄) = bigSep Finset.univ fun d : Dev nD => outL c ↦[fbSet d.val]{q} f := by
  rw [fbSet_all]
  refine pointsTo_biUnion _ _ fun d _ d' _ hne => Finset.disjoint_left.mpr fun i h h' => hne ?_
  simp only [fbSet, Finset.mem_filter] at h h'
  exact Fin.ext (by omega)

end Pts

/-! ## What a store leaves -/

variable (I : Dev nD → Ins F) (c : Dev nD)

theorem stored_o (b : Fin 4) {o4 : Fin 4 → ℕ} (h : ∀ a, o4 a + S1x256x8x128.size a ≤ S4x256x8x128.size a) (ho : o4 = ![b.val, 0, 0, 0]) (f : Vec F S4x256x8x128 .bf16)
    {i : S4x256x8x128.Idx} (hi : i ∈ obSet b.val) :
    ((A6).access (Rect.unit (s := S4x256x8x128) o4 S1x256x8x128.size h)).write (Elt F) f ((I c).o b) Finset.univ i = obOf I c i := by
  subst ho
  simp only [obSet, Finset.mem_filter, Finset.mem_univ, true_and] at hi
  have he : ((A6).access (Rect.unit (s := S4x256x8x128) ![b.val, 0, 0, 0] S1x256x8x128.size h)).emb (ix4 0 (i 1 : Fin 256) (i 2 : Fin 8) (i 3 : Fin 128)) = i := by
    funext a; refine Fin.ext ?_
    fin_cases a
    · show b.val + 1 * 0 = (i 0).val; omega
    · show 0 + 1 * (i 1).val = (i 1).val; omega
    · show 0 + 1 * (i 2).val = (i 2).val; omega
    · show 0 + 1 * (i 3).val = (i 3).val; omega
  refine (congrArg _ he.symm).trans ((View.write_emb_of_mem _ _ (Finset.mem_univ _)).trans ?_)
  have e0 : (i 0 : Fin 4) = b := Fin.ext hi
  show (I c).o b _ = (I c).o (i 0) _
  rw [e0]

theorem stored_ml (b : Fin 4) {o3 : Fin 3 → ℕ} (h : ∀ a, o3 a + S1x256x16.size a ≤ S4x256x16.size a) (ho : o3 = ![b.val, 0, 0]) (f : Vec F S4x256x16 .f32)
    {i : S4x256x16.Idx} (hi : i ∈ mbSet b.val) :
    ((A7).access (Rect.unit (s := S4x256x16) o3 S1x256x16.size h)).write (Elt F) f ((I c).ml b) Finset.univ i = mlOf I c i := by
  subst ho
  simp only [mbSet, Finset.mem_filter, Finset.mem_univ, true_and] at hi
  have he : ((A7).access (Rect.unit (s := S4x256x16) ![b.val, 0, 0] S1x256x16.size h)).emb (ix3 0 (i 1 : Fin 256) (i 2 : Fin 16)) = i := by
    funext a; refine Fin.ext ?_
    fin_cases a
    · show b.val + 1 * 0 = (i 0).val; omega
    · show 0 + 1 * (i 1).val = (i 1).val; omega
    · show 0 + 1 * (i 2).val = (i 2).val; omega
  refine (congrArg _ he.symm).trans ((View.write_emb_of_mem _ _ (Finset.mem_univ _)).trans ?_)
  have e0 : (i 0 : Fin 4) = b := Fin.ext hi
  show (I c).ml b _ = (I c).ml (i 0) _
  rw [e0]

/-- Where row `r` of a device's sixteen lies. -/
theorem rows_emb (d : Dev nD) {o3 : Fin 3 → ℕ} (h : ∀ a, o3 a + S4x16x1024.size a ≤ S4x256x1024.size a) (ho : o3 = ![0, 16 * d.val, 0])
    (b : Fin 4) (r : Fin 16) (t : Fin 1024) : (Rect.unit (s := S4x256x1024) o3 S4x16x1024.size h).emb (ix3 b r t) = ix3 b (row d r) t := by
  subst ho
  funext a; refine Fin.ext ?_
  fin_cases a
  · show 0 + 1 * b.val = b.val; omega
  · show 16 * d.val + 1 * r.val = 16 * d.val + r.val; omega
  · show 0 + 1 * t.val = t.val; omega

theorem row_of {d : Dev nD} {i : S4x256x1024.Idx} (hi : i ∈ fbSet d.val) : i = ix3 (i 0 : Fin 4) (row d (rowIn (i 1))) (i 2 : Fin 1024) := by
  simp only [fbSet, Finset.mem_filter, Finset.mem_univ, true_and] at hi
  funext a; refine Fin.ext ?_
  fin_cases a
  · rfl
  · show (i 1).val = 16 * d.val + (i 1).val % 16; omega
  · rfl

theorem rowDev_of {d : Dev nD} {i : S4x256x1024.Idx} (hi : i ∈ fbSet d.val) : rowDev (i 1) = d := by
  simp only [fbSet, Finset.mem_filter, Finset.mem_univ, true_and] at hi
  exact Fin.ext hi

theorem stored_fb {o3 : Fin 3 → ℕ} (h : ∀ a, o3 a + S4x16x1024.size a ≤ S4x256x1024.size a) (ho : o3 = ![0, 16 * c.val, 0]) (f : Vec F S4x256x1024 .bf16)
    {i : S4x256x1024.Idx} (hi : i ∈ fbSet c.val) :
    ((A10).access (Rect.unit (s := S4x256x1024) o3 S4x16x1024.size h)).write (Elt F) f (finS I c) Finset.univ i = (cont I).fb i := by
  have he : ((A10).access (Rect.unit (s := S4x256x1024) o3 S4x16x1024.size h)).emb (ix3 (i 0 : Fin 4) (rowIn (i 1)) (i 2 : Fin 1024)) = i :=
    (rows_emb c h ho _ _ _).trans (row_of hi).symm
  refine (congrArg _ he.symm).trans ((View.write_emb_of_mem _ _ (Finset.mem_univ _)).trans ?_)
  show finS I c _ = finS I (rowDev (i 1)) _
  rw [rowDev_of hi]

/-- A device's rows of the finished rows, read. -/
theorem read_fb (d : Dev nD) {o3 : Fin 3 → ℕ} (h : ∀ a, o3 a + S4x16x1024.size a ≤ S4x256x1024.size a) (ho : o3 = ![0, 16 * d.val, 0]) :
    (A10).view.readAt (Elt F) (Rect.unit (s := S4x256x1024) o3 S4x16x1024.size h).toLoadRect (cont I).fb = finS I d := by
  funext (y : S4x16x1024.Idx)
  show (cont I).fb ((Rect.unit (s := S4x256x1024) o3 S4x16x1024.size h).emb y) = _
  rw [show y = ix3 (y 0 : Fin 4) (y 1 : Fin 16) (y 2 : Fin 1024) from eq_ix3 y]
  refine (congrArg (cont I).fb (rows_emb d h ho _ _ _)).trans ?_
  have h1 : (y 1).val < 16 := (y 1).isLt
  have e : rowDev (row d (y 1)) = d := Fin.ext (show (16 * d.val + (y 1).val) / 16 = d.val by omega)
  have e' : rowIn (row d (y 1)) = (y 1 : Fin 16) := Fin.ext (show (16 * d.val + (y 1).val) % 16 = (y 1).val by omega)
  show finS I (rowDev (row d (y 1))) (ix3 (y 0 : Fin 4) (rowIn (row d (y 1))) (y 2 : Fin 1024)) = finS I d (ix3 (y 0 : Fin 4) (y 1 : Fin 16) (y 2 : Fin 1024))
  rw [e, e']

theorem stored_own {o3 : Fin 3 → ℕ} (h : ∀ a, o3 a + S4x16x1024.size a ≤ S4x256x1024.size a) (ho : o3 = ![0, 16 * c.val, 0]) (f : Vec F S4x256x1024 .f32)
    {i : S4x256x1024.Idx} (hi : i ∈ fbSet c.val) :
    ((A5).access (Rect.unit (s := S4x256x1024) o3 S4x16x1024.size h)).write (Elt F) f (fin I c) Finset.univ i = outOf I c i := by
  have he : ((A5).access (Rect.unit (s := S4x256x1024) o3 S4x16x1024.size h)).emb (ix3 (i 0 : Fin 4) (rowIn (i 1)) (i 2 : Fin 1024)) = i :=
    (rows_emb c h ho _ _ _).trans (row_of hi).symm
  refine (congrArg _ he.symm).trans ((View.write_emb_of_mem _ _ (Finset.mem_univ _)).trans ?_)
  have hi' := hi
  simp only [fbSet, Finset.mem_filter, Finset.mem_univ, true_and] at hi'
  show fin I c _ = outOf I c i
  unfold outOf
  rw [if_pos hi', rowDev_of hi]

theorem stored_got (d : Dev nD) (hd : d ≠ c) {o3 : Fin 3 → ℕ} (h : ∀ a, o3 a + S4x16x1024.size a ≤ S4x256x1024.size a) (ho : o3 = ![0, 16 * d.val, 0]) (f : Vec F S4x256x1024 .f32)
    {i : S4x256x1024.Idx} (hi : i ∈ fbSet d.val) :
    ((A5).access (Rect.unit (s := S4x256x1024) o3 S4x16x1024.size h)).write (Elt F) f (k0_pay122 (finS I d)) Finset.univ i = outOf I c i := by
  have he : ((A5).access (Rect.unit (s := S4x256x1024) o3 S4x16x1024.size h)).emb (ix3 (i 0 : Fin 4) (rowIn (i 1)) (i 2 : Fin 1024)) = i :=
    (rows_emb d h ho _ _ _).trans (row_of hi).symm
  refine (congrArg _ he.symm).trans ((View.write_emb_of_mem _ _ (Finset.mem_univ _)).trans ?_)
  have hi' := hi
  simp only [fbSet, Finset.mem_filter, Finset.mem_univ, true_and] at hi'
  show k0_pay122 (finS I d) _ = outOf I c i
  unfold outOf
  rw [if_neg (fun e => hd (Fin.ext (hi'.symm.trans e))), rowDev_of hi]

/-! ## Rectangles of whole buffers -/

theorem setOn_whole (r : Ref sig .tc) (S : Finset (View.whole r).ty.Idx) : (Memref.whole r).view.setOn S = S := by
  ext i; simp [View.setOn]
theorem setOn_access (r : Ref sig .tc) (R : Rect r.ty.shape) : ((Memref.whole r).access R).setOn Finset.univ = R.set := View.set_slice_whole _ _

end Cert.KernelIdeal.Mesh

end
-- ==== Proof.KernelIdeal.Phases.lean ====
/-
The states the kernel passes through — batches of partial outputs, the exchange of maxima and sums, the merge, the
finished rows — with the loads and stores each makes and the passages from one to the next.
-/
module

public import proofs.«01_k».proof.Proof.KernelIdeal.Pieces

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (c : Dev nD)

/-! ## Pieces of the state -/

/-- The staged arguments. -/
def Arg : sProp 𝕄 := iprop(((c : Thread nD τ).loc cc0_stg0_0 ↦[Finset.univ]{fullShare} (I c).x) ∗ ((c : Thread nD τ).loc cc0_stg1_0 ↦[Finset.univ]{fullShare} (I c).wq)
  ∗ ((c : Thread nD τ).loc cc0_stg2_0 ↦[Finset.univ]{fullShare} (I c).wo) ∗ ((c : Thread nD τ).loc cc0_stg3_0 ↦[Finset.univ]{fullShare} (I c).k)
  ∗ ((c : Thread nD τ).loc cc0_stg4_0 ↦[Finset.univ]{fullShare} (I c).v))

/-- A batch's memory before it is computed; -/
def OM (b : Fin 4) : sProp 𝕄 := iprop((∃ f, oL c ↦[obSet b.val]{fullShare} f) ∗ (∃ f, mlL c ↦[mbSet b.val]{fullShare} f))
/-- what stays with the device once its rows are sent. -/
def DM (b : Fin 4) : sProp 𝕄 := iprop((oL c ↦[oSet b.val c.val]{fullShare} obOf I c) ∗ (mlL c ↦[mbSet b.val]{fullShare} mlOf I c))
/-- The batches' memory with `n` batches done. -/
def Todo (n : ℕ) : sProp 𝕄 := iprop(rest Fin.val n (OM c) ∗ gone Fin.val n (DM I c))

variable (Q : sProp (MT nD τ sig Unit (Elt F) ℕ UU ℕ))

/-- Between batches. -/
def St (n : ℕ) : sProp 𝕄 := iprop(Arg I c ∗ Snd c (15 * n) ∗ Todo I c n ∗ Q)

/-- A batch as a phase. -/
abbrev kb (b : Fin 4) : Fin 6 := ⟨b.val, by omega⟩

/-- Between the two stores of batch `b`. -/
def Mid (b : Fin 4) : sProp 𝕄 :=
  iprop(Arg I c ∗ Snd c (15 * b.val) ∗ ((Src (cont I) c (kb b) 0 ∗ (oL c ↦[oSet b.val c.val]{fullShare} obOf I c)) ∗ (∃ f, mlL c ↦[mbSet b.val]{fullShare} f)
    ∗ rest Fin.val (b.val + 1) (OM c) ∗ gone Fin.val b.val (DM I c)) ∗ Q)

/-- A device's own rows of the partial outputs, maxima and sums. -/
def Own : sProp 𝕄 := iprop((oL c ↦[owSet c.val]{fullShare} obOf I c) ∗ (mlL c ↦[mlSet c.val]{fullShare} mlOf I c))

/-- What the last phase's sends need and the other sends left. -/
def Kc : sProp 𝕄 := iprop(rest rk 75 (Ts c) ∗ gone rk 75 (Cr c))

/-- The device's own finished rows, before they are computed; -/
def FA : sProp 𝕄 := iprop(∃ f, fbL c ↦[fbSet c.val]{fullShare} f)
/-- the share of them that is not sent. -/
def Frem : sProp 𝕄 := iprop(fbL c ↦[fbSet c.val]{ShareLeaves.leaf 4 fullShare ⟨15, by decide⟩} (cont I).fb)

/-- Device `d`'s rows of the result, before they are written; written. -/
def XA (d : Dev nD) : sProp 𝕄 := iprop(∃ f, outL c ↦[fbSet d.val]{fullShare} f)
def XD (d : Dev nD) : sProp 𝕄 := iprop(outL c ↦[fbSet d.val]{fullShare} outOf I c)
/-- The result's rows, all unwritten; with the own and `n` of the peers' written. -/
def X0 : sProp 𝕄 := iprop(XA c c ∗ bigSep Finset.univ fun q : Fin 15 => XA c (peer c (rev q)))
def XS (n : ℕ) : sProp 𝕄 := iprop(XD I c c ∗ rest Fin.val n (fun q : Fin 15 => XA c (peer c (rev q))) ∗ gone Fin.val n (fun q : Fin 15 => XD I c (peer c (rev q))))

/-- The positions of the sending cells, and the barrier's counter. -/
def AtS : sProp 𝕄 := bigSep Finset.univ fun x => atPos ER (sndCell c x) 0 ∅ 0

variable {I c Q} {K : Dev nD × KI → ℕ}
variable {A B P R P' : sProp (MT nD τ sig Unit (Elt F) ℕ UU ℕ)}

/-! ## A piece lent out of a state -/

omit [FloatOps F] in
theorem lend_left (h : A ⊢ iprop(P ∗ (P -∗ A))) : iprop(A ∗ R) ⊢ iprop(P ∗ (P -∗ iprop(A ∗ R))) := by
  iintro ⟨HA, HR⟩
  ihave HA := h $$ HA
  icases HA with ⟨HP, HA⟩
  isplitl [HP]; · iexact HP
  iintro HP
  isplitr [HR]; · iapply HA; iexact HP
  iexact HR

omit [FloatOps F] in
theorem lend_right (h : A ⊢ iprop(P ∗ (P -∗ A))) : iprop(R ∗ A) ⊢ iprop(P ∗ (P -∗ iprop(R ∗ A))) := by
  iintro ⟨HR, HA⟩
  ihave HA := h $$ HA
  icases HA with ⟨HP, HA⟩
  isplitl [HP]; · iexact HP
  iintro HP
  isplitl [HR]; · iexact HR
  iapply HA; iexact HP

omit [FloatOps F] in
theorem lend_self : iprop(P ∗ R) ⊢ iprop(P ∗ (P -∗ iprop(P ∗ R))) := by
  iintro ⟨HP, HR⟩
  isplitl [HP]; · iexact HP
  iintro HP
  isplitl [HP]; · iexact HP
  iexact HR

omit [FloatOps F] in
theorem lend_all : P ⊢ iprop(P ∗ (P -∗ P)) := by
  iintro HP
  isplitl [HP]; · iexact HP
  iintro HP; iexact HP

/-- A load whose value does not matter. -/
theorem step_look {s : Shape} {e : EltTy} {m : Memref sig .tc .vmem s e} {r : LoadRect s} {hl : m.view.LoadsAt r}
    {S : Finset (Idx (m.view.loc (c : Thread nD τ)))} {Γ : Cont F}
    (hS : m.view.setOn r.set ⊆ S)
    (hA : A ⊢ iprop(∃ f, (m.view.loc (c : Thread nD τ) ↦[S]{fullShare} f) ∗ ((m.view.loc (c : Thread nD τ) ↦[S]{fullShare} f) -∗ A))) :
    Tri Γ K c A (Prog.lift (.load m r hl)) (fun _ => A) := by
  unfold Tri
  iintro ⟨-, HA⟩
  ihave HA := hA $$ HA
  icases HA with ⟨%f, H, HA⟩
  unfold Prog.lift
  iapply (wp_load 𝒱₀ (c : Thread nD τ) none Set.univ (m := m) hS) $$ H; iintro H
  rw [wp_ret]
  imodintro
  iapply HA; iexact H

/-! ## Loads of the arguments -/

theorem load_x (b : Fin 4) {o3 : Fin 3 → ℕ} {h hl} (ho : o3 = ![b.val, 0, 0] := by rfl) :
    Tri (cont I) K c iprop(Arg I c ∗ R) (Prog.lift (.load A0 (Rect.unit (s := S4x256x1024) o3 S1x256x1024.size h).toLoadRect hl))
      (fun v => iprop(⌜v = (I c).xL b⌝ ∗ Arg I c ∗ R)) := by
  subst ho
  have hA : (Arg I c : sProp 𝕄) ⊢ iprop(((A0).view.loc (c : Thread nD τ) ↦[Finset.univ]{fullShare} (I c).x) ∗ (((A0).view.loc (c : Thread nD τ) ↦[Finset.univ]{fullShare} (I c).x) -∗ Arg I c)) := by
    unfold Arg; exact lend_self
  exact step_load (Γ := cont I) (K := K) (m := A0) (r := (Rect.unit (s := S4x256x1024) ![b.val, 0, 0] S1x256x1024.size h).toLoadRect) (hl := hl) (Finset.subset_univ _) (lend_left hA)

theorem load_wq {h hl} :
    Tri (cont I) K c iprop(Arg I c ∗ R) (Prog.lift (.load A1 (Rect.unit (s := S1024x1024) ![0, 0] S1024x1024.size h).toLoadRect hl))
      (fun v => iprop(⌜v = (I c).wqL⌝ ∗ Arg I c ∗ R)) := by
  have hA : (Arg I c : sProp 𝕄) ⊢ iprop(((A1).view.loc (c : Thread nD τ) ↦[Finset.univ]{fullShare} (I c).wq) ∗ (((A1).view.loc (c : Thread nD τ) ↦[Finset.univ]{fullShare} (I c).wq) -∗ Arg I c)) := by
    unfold Arg; exact lend_right lend_self
  exact step_load (Γ := cont I) (K := K) (m := A1) (r := (Rect.unit (s := S1024x1024) ![0, 0] S1024x1024.size h).toLoadRect) (hl := hl) (Finset.subset_univ _) (lend_left hA)

theorem load_k (b : Fin 4) (g : Fin 2) {o4 : Fin 4 → ℕ} {h hl} (ho : o4 = ![b.val, 0, g.val, 0] := by rfl) :
    Tri (cont I) K c iprop(Arg I c ∗ R) (Prog.lift (.load A3 (Rect.unit (s := S4x1024x2x128) o4 S1x1024x1x128.size h).toLoadRect hl))
      (fun v => iprop(⌜v = (I c).kL b g⌝ ∗ Arg I c ∗ R)) := by
  subst ho
  have hA : (Arg I c : sProp 𝕄) ⊢ iprop(((A3).view.loc (c : Thread nD τ) ↦[Finset.univ]{fullShare} (I c).k) ∗ (((A3).view.loc (c : Thread nD τ) ↦[Finset.univ]{fullShare} (I c).k) -∗ Arg I c)) := by
    unfold Arg; exact lend_right (lend_right (lend_right lend_self))
  exact step_load (Γ := cont I) (K := K) (m := A3) (r := (Rect.unit (s := S4x1024x2x128) ![b.val, 0, g.val, 0] S1x1024x1x128.size h).toLoadRect) (hl := hl) (Finset.subset_univ _) (lend_left hA)

theorem load_v (b : Fin 4) (g : Fin 2) {o4 : Fin 4 → ℕ} {h hl} (ho : o4 = ![b.val, 0, g.val, 0] := by rfl) :
    Tri (cont I) K c iprop(Arg I c ∗ R) (Prog.lift (.load A4 (Rect.unit (s := S4x1024x2x128) o4 S1x1024x1x128.size h).toLoadRect hl))
      (fun v => iprop(⌜v = (I c).vL b g⌝ ∗ Arg I c ∗ R)) := by
  subst ho
  have hA : (Arg I c : sProp 𝕄) ⊢ iprop(((A4).view.loc (c : Thread nD τ) ↦[Finset.univ]{fullShare} (I c).v) ∗ (((A4).view.loc (c : Thread nD τ) ↦[Finset.univ]{fullShare} (I c).v) -∗ Arg I c)) := by
    unfold Arg; exact lend_right (lend_right (lend_right (lend_right lend_all)))
  exact step_load (Γ := cont I) (K := K) (m := A4) (r := (Rect.unit (s := S4x1024x2x128) ![b.val, 0, g.val, 0] S1x1024x1x128.size h).toLoadRect) (hl := hl) (Finset.subset_univ _) (lend_left hA)

/-! ## A batch -/

theorem ob_rect (b : Fin 4) {o4 : Fin 4 → ℕ} (h : ∀ a, o4 a + S1x256x8x128.size a ≤ S4x256x8x128.size a) (ho : o4 = ![b.val, 0, 0, 0]) :
    (Rect.unit (s := S4x256x8x128) o4 S1x256x8x128.size h).set ⊆ obSet b.val := by
  subst ho
  intro i hi
  have hb : b.val ≤ (i 0).val ∧ (i 0).val < b.val + 1 := Rect.mem_set_unit.mp hi 0
  simp only [obSet, Finset.mem_filter, Finset.mem_univ, true_and]
  omega

theorem mb_rect (b : Fin 4) {o3 : Fin 3 → ℕ} (h : ∀ a, o3 a + S1x256x16.size a ≤ S4x256x16.size a) (ho : o3 = ![b.val, 0, 0]) :
    (Rect.unit (s := S4x256x16) o3 S1x256x16.size h).set ⊆ mbSet b.val := by
  subst ho
  intro i hi
  have hb : b.val ≤ (i 0).val ∧ (i 0).val < b.val + 1 := Rect.mem_set_unit.mp hi 0
  simp only [mbSet, Finset.mem_filter, Finset.mem_univ, true_and]
  omega

theorem look_o (b : Fin 4) {o4 : Fin 4 → ℕ} {h hl} (ho : o4 = ![b.val, 0, 0, 0] := by rfl) :
    Tri (cont I) K c (St I c Q b.val) (Prog.lift (.load A6 (Rect.unit (s := S4x256x8x128) o4 S1x256x8x128.size h).toLoadRect hl)) (fun _ => St I c Q b.val) := by
  refine step_look (m := A6) (r := (Rect.unit (s := S4x256x8x128) o4 S1x256x8x128.size h).toLoadRect) (S := obSet b.val) ?_ ?_
  · rw [setOn_whole]; exact ob_rect b h ho
  · unfold St Todo
    rw [rest_step Fin.val_injective b rfl (OM c)]
    unfold OM
    iintro ⟨HA, HS, ⟨⟨⟨⟨%f, Hf⟩, Hm⟩, Hr⟩, Hg⟩, HQ⟩
    iexists f
    isplitl [Hf]; · iexact Hf
    iintro Hf
    isplitl [HA]; · iexact HA
    isplitl [HS]; · iexact HS
    isplitr [HQ]
    · isplitr [Hg]
      · isplitr [Hr]
        · isplitl [Hf]
          · iexists f; iexact Hf
          · iexact Hm
        · iexact Hr
      · iexact Hg
    · iexact HQ

theorem store_o (b : Fin 4) {o4 : Fin 4 → ℕ} {h w hx hm} (ho : o4 = ![b.val, 0, 0, 0] := by rfl) (hw : w = (I c).o b := by rfl) :
    Tri (cont I) K c (St I c Q b.val) (Prog.lift (.store A6 (Rect.unit (s := S4x256x8x128) o4 S1x256x8x128.size h) w Finset.univ hx hm)) (fun _ => Mid I c Q b) := by
  subst hw
  refine step_store (m := A6) (r := (Rect.unit (s := S4x256x8x128) o4 S1x256x8x128.size h)) (S := obSet b.val) ?_ ?_
  · rw [setOn_access]; exact ob_rect b h ho
  · have hw : ∀ f, (oL c ↦[obSet b.val]{fullShare} (((A6).access (Rect.unit (s := S4x256x8x128) o4 S1x256x8x128.size h)).write (Elt F) f ((I c).o b) Finset.univ) : sProp 𝕄)
        = (oL c ↦[obSet b.val]{fullShare} obOf I c) := fun f => pointsTo_congr (fun i hi => stored_o I c b h ho f hi)
    have hf : ∀ f, (oL c ↦[obSet b.val]{fullShare} (((A6).access (Rect.unit (s := S4x256x8x128) o4 S1x256x8x128.size h)).write (Elt F) f ((I c).o b) Finset.univ) : sProp 𝕄)
        = iprop((oL c ↦[oSet b.val c.val]{fullShare} obOf I c) ∗ Src (cont I) c (kb b) 0) := fun f => by
      refine hw f |>.trans ?_
      rw [ob_dev, bigSep_dev c]
      unfold Src
      rw [rest_zero]
      unfold srcPts
      simp only [show (kb b).val < 4 from b.isLt, if_true]
      rfl
    unfold St Mid Todo
    rw [rest_step Fin.val_injective b rfl (OM c)]
    unfold OM
    iintro ⟨HA, HS, ⟨⟨⟨⟨%f, Hf⟩, Hm⟩, Hr⟩, Hg⟩, HQ⟩
    iexists f
    isplitl [Hf]; · iexact Hf
    iintro Hf
    ihave Hf := (Entails.of_eq (hf f)) $$ Hf
    icases Hf with ⟨Hown, Hsrc⟩
    isplitl [HA]; · iexact HA
    isplitl [HS]; · iexact HS
    isplitr [HQ]
    · isplitl [Hown Hsrc]
      · isplitl [Hsrc]; · iexact Hsrc
        iexact Hown
      isplitl [Hm]; · iexact Hm
      isplitl [Hr]; · iexact Hr
      iexact Hg
    · iexact HQ

theorem look_ml (b : Fin 4) {o3 : Fin 3 → ℕ} {h hl} (ho : o3 = ![b.val, 0, 0] := by rfl) :
    Tri (cont I) K c (Mid I c Q b) (Prog.lift (.load A7 (Rect.unit (s := S4x256x16) o3 S1x256x16.size h).toLoadRect hl)) (fun _ => Mid I c Q b) := by
  refine step_look (m := A7) (r := (Rect.unit (s := S4x256x16) o3 S1x256x16.size h).toLoadRect) (S := mbSet b.val) ?_ ?_
  · rw [setOn_whole]; exact mb_rect b h ho
  · unfold Mid
    iintro ⟨HA, HS, ⟨Ho, ⟨%f, Hf⟩, Hr⟩, HQ⟩
    iexists f
    isplitl [Hf]; · iexact Hf
    iintro Hf
    isplitl [HA]; · iexact HA
    isplitl [HS]; · iexact HS
    isplitr [HQ]
    · isplitl [Ho]; · iexact Ho
      isplitl [Hf]; · iexists f; iexact Hf
      iexact Hr
    · iexact HQ

theorem store_ml (b : Fin 4) {o3 : Fin 3 → ℕ} {h w hx hm} (ho : o3 = ![b.val, 0, 0] := by rfl) (hw : w = (I c).ml b := by rfl) :
    Tri (cont I) K c (Mid I c Q b) (Prog.lift (.store A7 (Rect.unit (s := S4x256x16) o3 S1x256x16.size h) w Finset.univ hx hm))
      (fun _ => Sb (cont I) c (kb b) 0 iprop(Arg I c ∗ Todo I c (b.val + 1) ∗ Q)) := by
  subst hw
  refine step_store (m := A7) (r := (Rect.unit (s := S4x256x16) o3 S1x256x16.size h)) (S := mbSet b.val) ?_ ?_
  · rw [setOn_access]; exact mb_rect b h ho
  · have hf : ∀ f, (mlL c ↦[mbSet b.val]{fullShare} (((A7).access (Rect.unit (s := S4x256x16) o3 S1x256x16.size h)).write (Elt F) f ((I c).ml b) Finset.univ) : sProp 𝕄)
        = (mlL c ↦[mbSet b.val]{fullShare} mlOf I c) := fun f => pointsTo_congr (fun i hi => stored_ml I c b h ho f hi)
    unfold Mid Sb Todo
    rw [gone_step Fin.val_injective b rfl (DM I c)]
    unfold DM
    iintro ⟨HA, HS, ⟨⟨Hsrc, Hown⟩, ⟨%f, Hf⟩, Hr, Hg⟩, HQ⟩
    iexists f
    isplitl [Hf]; · iexact Hf
    iintro Hf
    ihave Hf := (Entails.of_eq (hf f)) $$ Hf
    isplitl [HS Hsrc]
    · isplitl [HS]; · iexact HS
      iexact Hsrc
    isplitl [HA]; · iexact HA
    isplitr [HQ]
    · isplitl [Hr]; · iexact Hr
      isplitr [Hg]
      · isplitl [Hown]; · iexact Hown
        iexact Hf
      · iexact Hg
    · iexact HQ

/-- The sources of a phase are used up by its fifteen sends. -/
theorem Src_end {Γ : Cont F} (k : Fin 6) : Src Γ c k 15 = (iprop(emp) : sProp 𝕄) := rest_none (fun j => j.isLt) _

/-- A batch's sends made. -/
theorem batch_end (b : Fin 4) : Sb (cont I) c (kb b) 15 iprop(Arg I c ∗ Todo I c (b.val + 1) ∗ Q) ⊢ St I c Q (b.val + 1) := by
  unfold Sb St
  rw [Src_end]
  iintro ⟨⟨HS, -⟩, HA, HT, HQ⟩
  isplitl [HA]; · iexact HA
  isplitl [HS]; · iexact HS
  isplitl [HT]; · iexact HT
  iexact HQ

/-! ## The maxima and sums -/

theorem ml_begin : St I c Q 4 ⊢ Sb (cont I) c 4 0 iprop(Own I c ∗ Arg I c ∗ Q) := by
  have hT : Todo I c 4 = iprop((oL c ↦[owSet c.val]{fullShare} obOf I c) ∗ (mlL c ↦[mlSet c.val]{fullShare} mlOf I c) ∗ Src (cont I) c 4 0) := by
    unfold Todo
    rw [rest_none (fun b : Fin 4 => b.isLt), gone_all (fun b : Fin 4 => b.isLt)]
    unfold DM
    rw [show (bigSep Finset.univ fun b : Fin 4 => (iprop((oL c ↦[oSet b.val c.val]{fullShare} obOf I c) ∗ (mlL c ↦[mbSet b.val]{fullShare} mlOf I c)) : sProp 𝕄)) = iprop((bigSep Finset.univ fun b : Fin 4 => oL c ↦[oSet b.val c.val]{fullShare} obOf I c) ∗ bigSep Finset.univ fun b : Fin 4 => mlL c ↦[mbSet b.val]{fullShare} mlOf I c) from bigSep_sep _ _ _,
      ← ow_batch, ← mb_all, ml_all, bigSep_dev c]
    unfold Src
    rw [rest_zero]
    refine Entails.antisymm ?_ ?_
    · show (_ : sProp 𝕄) ⊢ _
      iintro ⟨-, H1, H2, H3⟩
      isplitl [H1]; · iexact H1
      isplitl [H2]; · iexact H2
      iexact H3
    · show (_ : sProp 𝕄) ⊢ _
      iintro ⟨H1, H2, H3⟩
      isplitr; · iempintro
      isplitl [H1]; · iexact H1
      isplitl [H2]; · iexact H2
      iexact H3
  unfold St Sb Own
  rw [hT]
  iintro ⟨HA, HS, ⟨H1, H2, H3⟩, HQ⟩
  isplitl [HS H3]
  · isplitl [HS]; · iexact HS
    iexact H3
  isplitl [H1 H2]
  · isplitl [H1]; · iexact H1
    iexact H2
  isplitl [HA]; · iexact HA
  iexact HQ

theorem recv_begin : Sb (cont I) c 4 15 iprop(Own I c ∗ Arg I c ∗ Rv (cont I) c 0 ∗ Q) ⊢ Rb (cont I) c (owedX c 75) 0 iprop(Kc c ∗ Own I c ∗ Arg I c ∗ Q) := by
  unfold Sb Rb Snd Kc
  rw [Src_end]
  iintro ⟨⟨⟨HO, HT, HC⟩, -⟩, Hw, HA, HR, HQ⟩
  isplitl [HO HR]
  · isplitl [HO]; · iexact HO
    iexact HR
  isplitl [HT HC]
  · isplitl [HT]; · iexact HT
    iexact HC
  isplitl [Hw]; · iexact Hw
  isplitl [HA]; · iexact HA
  iexact HQ

end Cert.KernelIdeal.Mesh

end
-- ==== Proof.KernelIdeal.Merge.lean ====
/-
The merge and the finished rows: what each device loads once all partial outputs have arrived, the sends of the finished
rows, and the result put together from the rows that arrive.
-/
module

public import proofs.«01_k».proof.Proof.KernelIdeal.Phases

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Dev nD → Ins F} {c : Dev nD} {Q R : sProp (MT nD τ sig Unit (Elt F) ℕ UU ℕ)} {K : Dev nD × KI → ℕ}

/-! ## The arrivals of the first five phases, as whole buffers -/

omit [FloatOps F] in
theorem gone_sep {J : Type} [Fintype J] (r : J → ℕ) (n : ℕ) (Φ Ψ : J → sProp 𝕄) :
    gone r n (fun x => iprop(Φ x ∗ Ψ x)) = iprop(gone r n Φ ∗ gone r n Ψ) := bigSep_sep _ _ _

omit [FloatOps F] in
/-- The first seventy-five transfers: four batches', then the maxima and sums. -/
theorem gone_five (Φ : Item → sProp 𝕄) : gone rk 75 Φ
    = iprop((bigSep Finset.univ fun y : Fin 4 × Fin 15 => Φ (kb y.1, y.2)) ∗ bigSep Finset.univ fun j : Fin 15 => Φ (4, j)) := by
  have e1 : Function.Injective fun y : Fin 4 × Fin 15 => ((kb y.1, y.2) : Item) := by
    rintro ⟨b, j⟩ ⟨b', j'⟩ h
    have h1 : kb b = kb b' := congrArg Prod.fst h
    have h2 : j = j' := congrArg Prod.snd h
    have h3 : b.val = b'.val := congrArg (fun k : Fin 6 => k.val) h1
    exact Prod.ext (Fin.ext h3) h2
  have e2 : Function.Injective fun j : Fin 15 => ((4, j) : Item) := fun j j' h => congrArg Prod.snd h
  unfold gone
  rw [show (Finset.univ.filter fun x : Item => rk x < 75) = (Finset.univ.map ⟨_, e1⟩) ∪ (Finset.univ.map ⟨_, e2⟩) from by
    ext ⟨k, j⟩
    simp only [Finset.mem_filter, Finset.mem_univ, _root_.true_and, Finset.mem_union, Finset.mem_map, Function.Embedding.coeFn_mk]
    have hr : rk (k, j) = 15 * k.val + j.val := rfl
    rw [hr]
    have hj := j.isLt
    have hk' := k.isLt
    constructor
    · intro h
      by_cases hk : k.val < 4
      · exact .inl ⟨(⟨k.val, hk⟩, j), rfl⟩
      · have hk4 : (4 : Fin 6) = k := Fin.ext (by show 4 = k.val; omega)
        exact .inr ⟨j, by rw [hk4]⟩
    · rintro (⟨⟨b, j'⟩, h⟩ | ⟨j', h⟩)
      · have h1 : kb b = k := congrArg Prod.fst h
        have h1' : b.val = k.val := congrArg Fin.val h1
        have := b.isLt
        omega
      · have h1 : (4 : Fin 6) = k := congrArg Prod.fst h
        have h1' : 4 = k.val := congrArg Fin.val h1
        omega]
  rw [bigSep_union (by
    rw [Finset.disjoint_left]
    intro x h h'
    simp only [Finset.mem_map, Finset.mem_univ, _root_.true_and, Function.Embedding.coeFn_mk] at h h'
    obtain ⟨⟨b, j⟩, rfl⟩ := h
    obtain ⟨j', h'⟩ := h'
    have h1 : (4 : Fin 6) = kb b := congrArg Prod.fst h'
    have h2 : 4 = b.val := congrArg Fin.val h1
    have := b.isLt
    omega), bigSep_map, bigSep_map]
  rfl

omit [FloatOps F] in
/-- All ninety: with the finished rows'. -/
theorem gone_six (Φ : Item → sProp 𝕄) : gone rk 90 Φ = iprop(gone rk 75 Φ ∗ bigSep Finset.univ fun j : Fin 15 => Φ (5, j)) := by
  have e2 : Function.Injective fun j : Fin 15 => ((5, j) : Item) := fun j j' h => congrArg Prod.snd h
  unfold gone
  rw [show (Finset.univ.filter fun x : Item => rk x < 90) = (Finset.univ.filter fun x : Item => rk x < 75) ∪ (Finset.univ.map ⟨_, e2⟩) from by
    ext ⟨k, j⟩
    simp only [Finset.mem_filter, Finset.mem_univ, _root_.true_and, Finset.mem_union, Finset.mem_map, Function.Embedding.coeFn_mk]
    have hr : rk (k, j) = 15 * k.val + j.val := rfl
    rw [hr]
    have hj := j.isLt
    have hk' := k.isLt
    constructor
    · intro h
      by_cases hk : k.val < 5
      · exact .inl (by omega)
      · have hk5 : (5 : Fin 6) = k := Fin.ext (by show 5 = k.val; omega)
        exact .inr ⟨j, by rw [hk5]⟩
    · intro h; have := k.isLt; omega]
  rw [bigSep_union (by
    rw [Finset.disjoint_left]
    intro x h h'
    simp only [Finset.mem_map, Finset.mem_univ, _root_.true_and, Function.Embedding.coeFn_mk, Finset.mem_filter] at h h'
    obtain ⟨j', rfl⟩ := h'
    have h' : 15 * 5 + j'.val < 75 := h
    omega), bigSep_map]
  rfl

/-- The received partial outputs, maxima and sums, as whole buffers. -/
theorem arrived : gone rk 75 (fun x => (landPts (cont I) c x : sProp 𝕄))
    = iprop((roL c ↦[Finset.univ]{fullShare} (pre I).ro c) ∗ (rmL c ↦[Finset.univ]{fullShare} (pre I).rm c)) := by
  rw [gone_five, ro_all, rm_all]
  have h1 : (bigSep Finset.univ fun y : Fin 4 × Fin 15 => (landPts (cont I) c (kb y.1, y.2) : sProp 𝕄))
      = bigSep Finset.univ fun x : Fin 15 × Fin 4 => roL c ↦[roSet x.1.val x.2.val]{fullShare} (pre I).ro c := by
    rw [bigSep_univ_prod, bigSep_univ_prod, bigSep_univ_comm]
    refine bigSep_congr fun j _ => bigSep_congr fun b _ => ?_
    unfold landPts
    rw [if_pos (show (kb b).val < 4 from b.isLt)]
    rfl
  rw [h1]
  rfl

/-! ## Loads for the merge -/

/-- The state in which the merge's operands are loaded. -/
abbrev Mg (I : Dev nD → Ins F) (c : Dev nD) (R : sProp 𝕄) : sProp 𝕄 := Rb (cont I) c (owedX c 75) 75 iprop(Kc c ∗ Own I c ∗ Arg I c ∗ R)

theorem Rv_arrived : (Rv (cont I) c 75 : sProp 𝕄) = iprop(rest rk 75 (fun x => iprop(cred (tallyAt (rcvCell c x) () (NI x.1)) ∗ atPos ER (rcvCell c x) 0 ∅ 0))
    ∗ ((roL c ↦[Finset.univ]{fullShare} (pre I).ro c) ∗ (rmL c ↦[Finset.univ]{fullShare} (pre I).rm c)) ∗ gone rk 75 fun x => semVal (rcvCell c x) 0) := by
  unfold Rv
  rw [gone_sep, arrived]

theorem lend_ro : Mg I c R ⊢ iprop((roL c ↦[Finset.univ]{fullShare} (pre I).ro c) ∗ ((roL c ↦[Finset.univ]{fullShare} (pre I).ro c) -∗ Mg I c R)) := by
  unfold Mg Rb
  rw [Rv_arrived]
  exact lend_left (lend_right (lend_right (lend_left lend_self)))

theorem lend_rm : Mg I c R ⊢ iprop((rmL c ↦[Finset.univ]{fullShare} (pre I).rm c) ∗ ((rmL c ↦[Finset.univ]{fullShare} (pre I).rm c) -∗ Mg I c R)) := by
  unfold Mg Rb
  rw [Rv_arrived]
  exact lend_left (lend_right (lend_right (lend_left (lend_right lend_all))))

theorem lend_oo : Mg I c R ⊢ iprop((oL c ↦[owSet c.val]{fullShare} obOf I c) ∗ ((oL c ↦[owSet c.val]{fullShare} obOf I c) -∗ Mg I c R)) := by
  unfold Mg Rb Own
  exact lend_right (lend_right (lend_left lend_self))

theorem lend_om : Mg I c R ⊢ iprop((mlL c ↦[mlSet c.val]{fullShare} mlOf I c) ∗ ((mlL c ↦[mlSet c.val]{fullShare} mlOf I c) -∗ Mg I c R)) := by
  unfold Mg Rb Own
  exact lend_right (lend_right (lend_left (lend_right lend_all)))

theorem lend_wo : Mg I c R ⊢ iprop(((A2).view.loc (c : Thread nD τ) ↦[Finset.univ]{fullShare} (I c).wo) ∗ (((A2).view.loc (c : Thread nD τ) ↦[Finset.univ]{fullShare} (I c).wo) -∗ Mg I c R)) := by
  unfold Mg Rb Arg
  exact lend_right (lend_right (lend_right (lend_left (lend_right (lend_right lend_self)))))

theorem load_ro {h hl} :
    Tri (cont I) K c (Mg I c R) (Prog.lift (.load A8 (Rect.unit (s := S15x4x16x8x128) ![0, 0, 0, 0, 0] S15x4x16x8x128.size h).toLoadRect hl))
      (fun v => iprop(⌜v = roL' I c⌝ ∗ Mg I c R)) :=
  step_load (Γ := cont I) (K := K) (m := A8) (r := (Rect.unit (s := S15x4x16x8x128) ![0, 0, 0, 0, 0] S15x4x16x8x128.size h).toLoadRect) (hl := hl)
    (f := (pre I).ro c) (Finset.subset_univ _) lend_ro

theorem load_rm {h hl} :
    Tri (cont I) K c (Mg I c R) (Prog.lift (.load A9 (Rect.unit (s := S15x4x16x16) ![0, 0, 0, 0] S15x4x16x8.size h).toLoadRect hl))
      (fun v => iprop(⌜v = rmL' I c⌝ ∗ Mg I c R)) :=
  step_load (Γ := cont I) (K := K) (m := A9) (r := (Rect.unit (s := S15x4x16x16) ![0, 0, 0, 0] S15x4x16x8.size h).toLoadRect) (hl := hl)
    (f := (pre I).rm c) (Finset.subset_univ _) lend_rm

theorem load_rl {h hl} :
    Tri (cont I) K c (Mg I c R) (Prog.lift (.load A9 (Rect.unit (s := S15x4x16x16) ![0, 0, 0, 8] S15x4x16x8.size h).toLoadRect hl))
      (fun v => iprop(⌜v = rlL' I c⌝ ∗ Mg I c R)) :=
  step_load (Γ := cont I) (K := K) (m := A9) (r := (Rect.unit (s := S15x4x16x16) ![0, 0, 0, 8] S15x4x16x8.size h).toLoadRect) (hl := hl)
    (f := (pre I).rm c) (Finset.subset_univ _) lend_rm

theorem ow_rect {o4 : Fin 4 → ℕ} (h : ∀ a, o4 a + S4x16x8x128.size a ≤ S4x256x8x128.size a) (ho : o4 = ![0, 16 * c.val, 0, 0]) :
    (Rect.unit (s := S4x256x8x128) o4 S4x16x8x128.size h).set ⊆ owSet c.val := by
  subst ho
  intro i hi
  have hb : 16 * c.val ≤ (i 1).val ∧ (i 1).val < 16 * c.val + 16 := Rect.mem_set_unit.mp hi 1
  simp only [owSet, Finset.mem_filter, Finset.mem_univ, _root_.true_and]
  omega

theorem mw_rect {w : ℕ} {o3 : Fin 3 → ℕ} (h : ∀ a, o3 a + S4x16x8.size a ≤ S4x256x16.size a) (ho : o3 = ![0, 16 * c.val, w]) :
    (Rect.unit (s := S4x256x16) o3 S4x16x8.size h).set ⊆ mlSet c.val := by
  subst ho
  intro i hi
  have hb : 16 * c.val ≤ (i 1).val ∧ (i 1).val < 16 * c.val + 16 := Rect.mem_set_unit.mp hi 1
  simp only [mlSet, Finset.mem_filter, Finset.mem_univ, _root_.true_and]
  omega

theorem load_oo {h hl} :
    Tri (cont I) K c (Mg I c R) (Prog.lift (.load A6 (Rect.unit (s := S4x256x8x128) (k0_off6 c) S4x16x8x128.size h).toLoadRect hl))
      (fun v => iprop(⌜v = ownO I c⌝ ∗ Mg I c R)) :=
  step_load (Γ := cont I) (K := K) (m := A6) (r := (Rect.unit (s := S4x256x8x128) (k0_off6 c) S4x16x8x128.size h).toLoadRect) (hl := hl)
    (f := obOf I c) (by rw [setOn_whole]; exact ow_rect h (k0_off6_eq c)) lend_oo

theorem load_om {h hl} :
    Tri (cont I) K c (Mg I c R) (Prog.lift (.load A7 (Rect.unit (s := S4x256x16) (k0_off7 c) S4x16x8.size h).toLoadRect hl))
      (fun v => iprop(⌜v = ownM I c⌝ ∗ Mg I c R)) :=
  step_load (Γ := cont I) (K := K) (m := A7) (r := (Rect.unit (s := S4x256x16) (k0_off7 c) S4x16x8.size h).toLoadRect) (hl := hl)
    (f := mlOf I c) (by rw [setOn_whole]; exact mw_rect h (k0_off7_eq c)) lend_om

theorem load_ol {h hl} :
    Tri (cont I) K c (Mg I c R) (Prog.lift (.load A7 (Rect.unit (s := S4x256x16) (k0_off8 c) S4x16x8.size h).toLoadRect hl))
      (fun v => iprop(⌜v = ownL I c⌝ ∗ Mg I c R)) :=
  step_load (Γ := cont I) (K := K) (m := A7) (r := (Rect.unit (s := S4x256x16) (k0_off8 c) S4x16x8.size h).toLoadRect) (hl := hl)
    (f := mlOf I c) (by rw [setOn_whole]; exact mw_rect h (k0_off8_eq c)) lend_om

theorem load_wo {h hl} :
    Tri (cont I) K c (Mg I c R) (Prog.lift (.load A2 (Rect.unit (s := S1024x1024) ![0, 0] S1024x1024.size h).toLoadRect hl))
      (fun v => iprop(⌜v = (I c).woL⌝ ∗ Mg I c R)) :=
  step_load (Γ := cont I) (K := K) (m := A2) (r := (Rect.unit (s := S1024x1024) ![0, 0] S1024x1024.size h).toLoadRect) (hl := hl)
    (f := (I c).wo) (Finset.subset_univ _) lend_wo

/-! ## The finished rows -/

theorem look_fb {h hl} :
    Tri (cont I) K c (Mg I c iprop(FA c ∗ Q)) (Prog.lift (.load A10 (Rect.unit (s := S4x256x1024) (k0_off9 c) S4x16x1024.size h).toLoadRect hl))
      (fun _ => Mg I c iprop(FA c ∗ Q)) := by
  refine step_look (m := A10) (r := (Rect.unit (s := S4x256x1024) (k0_off9 c) S4x16x1024.size h).toLoadRect) (S := fbSet c.val) ?_ ?_
  · rw [setOn_whole]; exact (fbRect_set h (k0_off9_eq c)).subset
  · unfold Mg Rb FA
    iintro ⟨HR, HK, HW, HA, ⟨%f, Hf⟩, HQ⟩
    iexists f
    isplitl [Hf]; · iexact Hf
    iintro Hf
    isplitl [HR]; · iexact HR
    isplitl [HK]; · iexact HK
    isplitl [HW]; · iexact HW
    isplitl [HA]; · iexact HA
    isplitl [Hf]; · iexists f; iexact Hf
    iexact HQ

/-- A device's own finished rows in sixteen shares: one per send, one kept. -/
theorem fb_shares : (fbL c ↦[fbSet c.val]{fullShare} (cont I).fb : sProp 𝕄) = iprop(Frem I c ∗ Src (cont I) c 5 0) := by
  refine (ShareLeaves.pointsTo_leaves (ℓ := fbL c) (fbSet c.val) (cont I).fb 4 fullShare).trans ?_
  show (bigSep Finset.univ fun i : Fin (15 + 1) => (fbL c ↦[fbSet c.val]{ShareLeaves.leaf 4 fullShare i} (cont I).fb : sProp 𝕄)) = _
  rw [show (Finset.univ : Finset (Fin (15 + 1))) = insert (Fin.last 15) (Finset.univ.map Fin.castSuccEmb) from by
    rw [Fin.univ_castSuccEmb, Finset.cons_eq_insert]]
  rw [bigSep_ins (by
    simp only [Finset.mem_map, Finset.mem_univ, _root_.true_and, not_exists]
    exact fun x => Fin.castSucc_ne_last x), bigSep_map]
  unfold Src
  rw [rest_zero]
  rfl

theorem store_fb {h w hx hm} (hw : w = finS I c := by rfl) :
    Tri (cont I) K c (Mg I c iprop(FA c ∗ Q)) (Prog.lift (.store A10 (Rect.unit (s := S4x256x1024) (k0_off9 c) S4x16x1024.size h) w Finset.univ hx hm))
      (fun _ => Sb (cont I) c 5 0 iprop(Own I c ∗ Arg I c ∗ Rv (cont I) c 75 ∗ Frem I c ∗ Q)) := by
  subst hw
  refine step_store (m := A10) (r := (Rect.unit (s := S4x256x1024) (k0_off9 c) S4x16x1024.size h)) (S := fbSet c.val) ?_ ?_
  · rw [setOn_access]; exact (fbRect_set h (k0_off9_eq c)).subset
  · have hw : ∀ f, (fbL c ↦[fbSet c.val]{fullShare} (((A10).access (Rect.unit (s := S4x256x1024) (k0_off9 c) S4x16x1024.size h)).write (Elt F) f (finS I c) Finset.univ) : sProp 𝕄)
        = (fbL c ↦[fbSet c.val]{fullShare} (cont I).fb) := fun f => pointsTo_congr (fun i hi => stored_fb I c h (k0_off9_eq c) f hi)
    have hf := fun f => (hw f).trans (fb_shares (I := I) (c := c))
    unfold Mg Rb FA Kc Sb Snd
    iintro ⟨⟨HO, HR⟩, ⟨HT, HC⟩, HW, HA, ⟨%f, Hf⟩, HQ⟩
    iexists f
    isplitl [Hf]; · iexact Hf
    iintro Hf
    ihave Hf := (Entails.of_eq (hf f)) $$ Hf
    icases Hf with ⟨Hrem, Hsrc⟩
    isplitl [HO HT HC Hsrc]
    · isplitr [Hsrc]
      · isplitl [HO]; · iexact HO
        isplitl [HT]; · iexact HT
        iexact HC
      · iexact Hsrc
    isplitl [HW]; · iexact HW
    isplitl [HA]; · iexact HA
    isplitl [HR]; · iexact HR
    isplitl [Hrem]; · iexact Hrem
    iexact HQ

/-! ## The result -/

/-- What is kept while the result is put together. -/
def Z (I : Dev nD → Ins F) (c : Dev nD) (Q : sProp 𝕄) : sProp 𝕄 := iprop(gone rk 90 (Cr c) ∗ Own I c ∗ Arg I c ∗ Frem I c ∗ Q)

theorem own_begin : Sb (cont I) c 5 15 iprop(Own I c ∗ Arg I c ∗ Rv (cont I) c 75 ∗ Frem I c ∗ X0 c ∗ Q) ⊢ Rb (cont I) c 0 75 iprop(X0 c ∗ Z I c Q) := by
  unfold Sb Rb Snd Z
  rw [Src_end, show 15 * (5 : Fin 6).val + 15 = 90 from rfl, owedX_end]
  iintro ⟨⟨⟨HO, -, HC⟩, -⟩, HW, HA, HR, HF, HX, HQ⟩
  isplitl [HO HR]
  · isplitl [HO]; · iexact HO
    iexact HR
  isplitl [HX]; · iexact HX
  isplitl [HC]; · iexact HC
  isplitl [HW]; · iexact HW
  isplitl [HA]; · iexact HA
  isplitl [HF]; · iexact HF
  iexact HQ

theorem look_own {n : ℕ} {h hl} :
    Tri (cont I) K c (Rb (cont I) c 0 n iprop(X0 c ∗ R)) (Prog.lift (.load A5 (Rect.unit (s := S4x256x1024) (k0_off9 c) S4x16x1024.size h).toLoadRect hl))
      (fun _ => Rb (cont I) c 0 n iprop(X0 c ∗ R)) := by
  refine step_look (m := A5) (r := (Rect.unit (s := S4x256x1024) (k0_off9 c) S4x16x1024.size h).toLoadRect) (S := fbSet c.val) ?_ ?_
  · rw [setOn_whole]; exact (fbRect_set h (k0_off9_eq c)).subset
  · unfold Rb X0 XA
    iintro ⟨HR, ⟨⟨%f, Hf⟩, HX⟩, HQ⟩
    iexists f
    isplitl [Hf]; · iexact Hf
    iintro Hf
    isplitl [HR]; · iexact HR
    isplitr [HQ]
    · isplitl [Hf]; · iexists f; iexact Hf
      iexact HX
    · iexact HQ

theorem store_own {n : ℕ} {h w hx hm} (hw : w = fin I c := by rfl) :
    Tri (cont I) K c (Rb (cont I) c 0 n iprop(X0 c ∗ R)) (Prog.lift (.store A5 (Rect.unit (s := S4x256x1024) (k0_off9 c) S4x16x1024.size h) w Finset.univ hx hm))
      (fun _ => Rb (cont I) c 0 n iprop(XS I c 0 ∗ R)) := by
  subst hw
  refine step_store (m := A5) (r := (Rect.unit (s := S4x256x1024) (k0_off9 c) S4x16x1024.size h)) (S := fbSet c.val) ?_ ?_
  · rw [setOn_access]; exact (fbRect_set h (k0_off9_eq c)).subset
  · have hf : ∀ f, (outL c ↦[fbSet c.val]{fullShare} (((A5).access (Rect.unit (s := S4x256x1024) (k0_off9 c) S4x16x1024.size h)).write (Elt F) f (fin I c) Finset.univ) : sProp 𝕄)
        = (outL c ↦[fbSet c.val]{fullShare} outOf I c) := fun f => pointsTo_congr (fun i hi => stored_own I c h (k0_off9_eq c) f hi)
    unfold Rb X0 XS XD
    rw [rest_zero, gone_zero]
    unfold XA
    iintro ⟨HR, ⟨⟨%f, Hf⟩, HX⟩, HQ⟩
    iexists f
    isplitl [Hf]; · iexact Hf
    iintro Hf
    ihave Hf := (Entails.of_eq (hf f)) $$ Hf
    isplitl [HR]; · iexact HR
    isplitr [HQ]
    · isplitl [Hf]; · iexact Hf
      isplitl [HX]; · iexact HX
      iempintro
    · iexact HQ

/-- A peer's finished rows, once they have arrived. -/
theorem load_got (q : Fin 15) {n : ℕ} {o3 : Fin 3 → ℕ} {h hl} (hn : n = 75 + q.val + 1 := by rfl) (ho : o3 = k0_off11 c (BitVec.ofNat 32 q.val) := by rfl) :
    Tri (cont I) K c (Rb (cont I) c 0 n R) (Prog.lift (.load A10 (Rect.unit (s := S4x256x1024) o3 S4x16x1024.size h).toLoadRect hl))
      (fun v => iprop(⌜v = finS I (peer c (rev q))⌝ ∗ Rb (cont I) c 0 n R)) := by
  have ho' := ho.trans (off11 c q)
  subst hn
  rw [← read_fb I (peer c (rev q)) h ho']
  refine step_load (Γ := cont I) (K := K) (m := A10) (r := (Rect.unit (s := S4x256x1024) o3 S4x16x1024.size h).toLoadRect) (hl := hl)
    (S := fbSet (peer c (rev q)).val) (q := fullShare) (f := (cont I).fb) ?_ ?_
  · rw [setOn_whole]; exact (fbRect_set h ho').subset
  · unfold Rb Rv
    rw [gone_step rk_inj (n := 75 + q.val) (5, q) rfl (fun x => iprop(landPts (cont I) c x ∗ semVal (rcvCell c x) 0))]
    exact lend_left (lend_right (lend_right (lend_left lend_self)))

theorem look_got (q : Fin 15) {n : ℕ} {o3 : Fin 3 → ℕ} {h hl} (ho : o3 = k0_off11 c (BitVec.ofNat 32 q.val) := by rfl) :
    Tri (cont I) K c (Rb (cont I) c 0 n iprop(XS I c q.val ∗ R)) (Prog.lift (.load A5 (Rect.unit (s := S4x256x1024) o3 S4x16x1024.size h).toLoadRect hl))
      (fun _ => Rb (cont I) c 0 n iprop(XS I c q.val ∗ R)) := by
  have ho' := ho.trans (off11 c q)
  refine step_look (m := A5) (r := (Rect.unit (s := S4x256x1024) o3 S4x16x1024.size h).toLoadRect) (S := fbSet (peer c (rev q)).val) ?_ ?_
  · rw [setOn_whole]; exact (fbRect_set h ho').subset
  · unfold Rb XS
    rw [rest_step Fin.val_injective q rfl (fun q : Fin 15 => XA (F := F) c (peer c (rev q)))]
    unfold XA
    iintro ⟨HR, ⟨HD, ⟨⟨%f, Hf⟩, HX⟩, HG⟩, HQ⟩
    iexists f
    isplitl [Hf]; · iexact Hf
    iintro Hf
    isplitl [HR]; · iexact HR
    isplitr [HQ]
    · isplitl [HD]; · iexact HD
      isplitr [HG]
      · isplitl [Hf]; · iexists f; iexact Hf
        iexact HX
      · iexact HG
    · iexact HQ

theorem store_got (q : Fin 15) {n : ℕ} {o3 : Fin 3 → ℕ} {h w hx hm} (ho : o3 = k0_off11 c (BitVec.ofNat 32 q.val) := by rfl)
    (hw : w = k0_pay122 (finS I (peer c (rev q))) := by rfl) :
    Tri (cont I) K c (Rb (cont I) c 0 n iprop(XS I c q.val ∗ R)) (Prog.lift (.store A5 (Rect.unit (s := S4x256x1024) o3 S4x16x1024.size h) w Finset.univ hx hm))
      (fun _ => Rb (cont I) c 0 n iprop(XS I c (q.val + 1) ∗ R)) := by
  have ho' := ho.trans (off11 c q)
  subst hw
  refine step_store (m := A5) (r := (Rect.unit (s := S4x256x1024) o3 S4x16x1024.size h)) (S := fbSet (peer c (rev q)).val) ?_ ?_
  · rw [setOn_access]; exact (fbRect_set h ho').subset
  · have hf : ∀ f, (outL c ↦[fbSet (peer c (rev q)).val]{fullShare} (((A5).access (Rect.unit (s := S4x256x1024) o3 S4x16x1024.size h)).write (Elt F) f (k0_pay122 (finS I (peer c (rev q)))) Finset.univ) : sProp 𝕄)
        = (outL c ↦[fbSet (peer c (rev q)).val]{fullShare} outOf I c) :=
      fun f => pointsTo_congr (fun i hi => stored_got I c (peer c (rev q)) (peer_ne c (rev q)) h ho' f hi)
    unfold Rb XS
    rw [rest_step Fin.val_injective q rfl (fun q : Fin 15 => XA (F := F) c (peer c (rev q))),
      gone_step Fin.val_injective q rfl (fun q : Fin 15 => XD I c (peer c (rev q)))]
    unfold XA XD
    iintro ⟨HR, ⟨HD, ⟨⟨%f, Hf⟩, HX⟩, HG⟩, HQ⟩
    iexists f
    isplitl [Hf]; · iexact Hf
    iintro Hf
    ihave Hf := (Entails.of_eq (hf f)) $$ Hf
    isplitl [HR]; · iexact HR
    isplitr [HQ]
    · isplitl [HD]; · iexact HD
      isplitl [HX]; · iexact HX
      isplitl [Hf]; · iexact Hf
      iexact HG
    · iexact HQ

/-- All arrived: what is left is to wait for the sends. -/
def Ends (I : Dev nD → Ins F) (c : Dev nD) (Q : sProp 𝕄) : sProp 𝕄 := iprop(Rv (cont I) c 90 ∗ XS I c 15 ∗ Own I c ∗ Arg I c ∗ Frem I c ∗ Q)

theorem sent_begin : Rb (cont I) c 0 90 iprop(XS I c 15 ∗ Z I c iprop(AtS c ∗ Q)) ⊢ Wb (cont I) c 0 (Ends I c Q) := by
  unfold Rb Wb Z Ends Sw AtS
  rw [gone_all rk_lt, gone_zero, rest_zero,
    show (bigSep Finset.univ fun x => (iprop(Cr c x ∗ atPos ER (sndCell c x) 0 ∅ 0) : sProp 𝕄))
      = iprop((bigSep Finset.univ fun x => Cr c x) ∗ bigSep Finset.univ fun x => atPos ER (sndCell c x) 0 ∅ 0) from bigSep_sep _ _ _]
  iintro ⟨⟨HO, HR⟩, HX, HC, HW, HA, HF, HT, HQ⟩
  isplitl [HO HC HT]
  · isplitl [HO]; · iexact HO
    isplitl [HC HT]
    · isplitl [HC]; · iexact HC
      iexact HT
    · iempintro
  isplitl [HR]; · iexact HR
  isplitl [HX]; · iexact HX
  isplitl [HW]; · iexact HW
  isplitl [HA]; · iexact HA
  isplitl [HF]; · iexact HF
  iexact HQ

end Cert.KernelIdeal.Mesh

end
-- ==== Proof.KernelIdeal.PartsSend.lean ====
/-
The parts of the kernel that signal, compute the batches and send them: each runs from one state to the next.
-/
module

public import proofs.«01_k».proof.Proof.KernelIdeal.Merge

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Dev nD → Ins F} {c : Dev nD} {Q R : sProp (MT nD τ sig Unit (Elt F) ℕ UU ℕ)} {K : Dev nD × KI → ℕ}

/-- The device's own number. -/
theorem step_id {Γ : Cont F} : Tri Γ K c R (Prog.lift .deviceId) (fun d => iprop(⌜d = c⌝ ∗ R)) := by
  unfold Tri Prog.lift
  iintro ⟨-, HA⟩
  rw [wp_deviceId, wp_ret]
  imodintro
  isplitr; · ipureintro; rfl
  iexact HA

/-- A known fact of a result. -/
theorem Tri.fact {Γ : Cont F} {α : Type} {a : α} {P : α → Prop} (h : P a) : Tri Γ K c R (pure a) (fun b => iprop(⌜P b⌝ ∗ R)) := by
  refine Tri.ret ?_
  iintro H; isplitr
  · ipureintro; exact h
  · iexact H

/-- After the barrier the batches begin. -/
theorem bar_begin : Tri (cont I) K c iprop(Sig c 15 ∗ Kept c ∗ Arg I c ∗ Todo I c 0 ∗ Q) (semWaitWord barS 15#32)
    (fun _ => St I c iprop(semVal (barCell c) 0 ∗ Q) 0) := by
  have h := Tri.frame (R := iprop(Arg I c ∗ Todo I c 0 ∗ Q)) (step_barrier (Γ := cont I) (K := K) (c := c))
  refine Tri.pre ?_ (Tri.post h fun _ => ?_)
  · iintro ⟨HS, HK, HR⟩
    isplitl [HS HK]
    · isplitl [HS]; · iexact HS
      iexact HK
    · iexact HR
  · unfold St
    iintro ⟨⟨HS, HV⟩, HA, HT, HQ⟩
    isplitl [HA]; · iexact HA
    isplitl [HS]; · iexact HS
    isplitl [HT]; · iexact HT
    isplitl [HV]; · iexact HV
    iexact HQ

/-- The fifteen signals. -/
theorem part1 :
    Tri (cont I) K c iprop(Sig c 0 ∗ R) (on (k0_part1 (F := F)))
      (fun r => iprop(⌜∃ w w' w'', r = ⟨c, w, (SemArray.scalar (sig.barrier 0 rfl) : Sems sig S_), w', w''⟩⌝ ∗ Sig c 5 ∗ R)) := by
  rw [k0_part1_eq_skeleton]; unfold k0_part1_skel
  exact Tri.cut step_id <| Tri.bind (signal 0) fun _ => Tri.bind (signal 1) fun _ => Tri.bind (signal 2) fun _ =>
    Tri.bind (signal 3) fun _ => Tri.bind (signal 4) fun _ => Tri.fact ⟨_, _, _, rfl⟩

theorem part2 (w1 w2 w3 : BitVec 32) :
    Tri (cont I) K c iprop(Sig c 5 ∗ R) (on (k0_part2 (F := F)) c w1 (SemArray.scalar (sig.barrier 0 rfl) : Sems sig S_) w2 w3)
      (fun _ => iprop(Sig c 11 ∗ R)) := by
  rw [k0_part2_eq_skeleton]; unfold k0_part2_skel
  exact Tri.bind (signal 5) fun _ => Tri.bind (signal 6) fun _ => Tri.bind (signal 7) fun _ => Tri.bind (signal 8) fun _ =>
    Tri.bind (signal 9) fun _ => Tri.bind (signal 10) fun _ => Tri.done

/-- The barrier, and the first batch's rows. -/
theorem part3 (w1 w2 w3 : BitVec 32) :
    Tri (cont I) K c iprop(Sig c 11 ∗ Kept c ∗ Arg I c ∗ Todo I c 0 ∗ Q) (on (k0_part3 (F := F)) c w1 (SemArray.scalar (sig.barrier 0 rfl) : Sems sig S_) w2 w3)
      (fun r => iprop(⌜∃ w, r = ⟨w, k0_pay1 (I c).wqL, k0_pay2 (I c).wqL ((I c).xL 0), k0_pay3 (I c).wqL ((I c).xL 0)⟩⌝ ∗ St I c iprop(semVal (barCell c) 0 ∗ Q) 0)) := by
  rw [k0_part3_eq_skeleton]; unfold k0_part3_skel
  exact Tri.bind (signal 11) fun _ => Tri.bind (signal 12) fun _ => Tri.bind (signal 13) fun _ => Tri.bind (signal 14) fun _ =>
    Tri.bind bar_begin fun _ => Tri.cut load_wq <| Tri.cut (load_x 0) <| Tri.fact ⟨_, rfl⟩

/-- The first batch. -/
theorem part4 (v69 : FVec F S256x1024 .f32) (v75 : FVec F S1024x128 .bf16) :
    Tri (cont I) K c (St I c Q 0) (on (k0_part4 (F := F)) v69 v75)
      (fun r => iprop(⌜r = ⟨k0_pay9 v75 ((I c).kL 0 0) ((I c).vL 0 0), k0_pay10 v75 ((I c).kL 0 0), k0_pay11 v75 ((I c).kL 0 0), k0_pay12 v75 ((I c).kL 0 0) ((I c).vL 0 0), k0_pay13 v75 ((I c).kL 0 0), k0_pay14 v75 ((I c).kL 0 0), k0_pay15 v75 ((I c).kL 0 0) ((I c).vL 0 0), k0_pay16 v75 ((I c).kL 0 0), k0_pay17 v75 ((I c).kL 0 0), k0_pay18 v75 ((I c).kL 0 0) ((I c).vL 0 0), k0_pay19 v75 ((I c).kL 0 0), k0_pay20 v75 ((I c).kL 0 0), k0_pay21 ((I c).vL 0 1), k0_pay22 v69 ((I c).kL 0 1)⟩⌝ ∗ (St I c Q 0))) := by
  rw [k0_part4_eq_skeleton]; unfold k0_part4_skel
  exact Tri.cut (load_k 0 0) <| Tri.cut (load_v 0 0) <| Tri.cut (load_k 0 1) <| Tri.cut (load_v 0 1) <|
    Tri.value

theorem part5 (w1 : BitVec 32) (v92 v95 v98 v101 : FVec F S256x128 .f32) (v93 v94 v96 v97 v99 v100 v102 v103 : FVec F S256x1 .f32) (v113 : FVec F S1024x128 .bf16) (v114 : FVec F S1024x1024 .f32) (ho : k0_pay26 v92 v95 v98 v101 v113 v114 = (I c).o 0) (hm : k0_pay27 v93 v94 v96 v97 v99 v100 v102 v103 v114 = (I c).ml 0) :
    Tri (cont I) K c (St I c Q 0) (on (k0_part5 (F := F)) w1 v92 v93 v94 v95 v96 v97 v98 v99 v100 v101 v102 v103 v113 v114)
      (fun _ => (Sb (cont I) c 0 0 iprop(Arg I c ∗ Todo I c 1 ∗ Q))) := by
  rw [k0_part5_eq_skeleton]; unfold k0_part5_skel
  exact Tri.bind (look_o 0) fun _ => Tri.bind (store_o 0 (hw := ho)) fun _ => Tri.bind (look_ml 0) fun _ => Tri.bind (store_ml 0 (hw := hm)) fun _ =>
    Tri.done

/-- Its sends. -/
theorem part6 (w1 w2 : BitVec 32) :
    Tri (cont I) K c (Sb (cont I) c 0 0 iprop(Arg I c ∗ Todo I c 1 ∗ Q)) (on (k0_part6 (F := F)) c w1 w2)
      (fun _ => (Sb (cont I) c 0 2 iprop(Arg I c ∗ Todo I c 1 ∗ Q))) := by
  rw [k0_part6_eq_skeleton]; unfold k0_part6_skel
  exact Tri.bind (send_o 0 0) fun _ => Tri.bind (send_o 0 1) fun _ => Tri.done

theorem part7 (w1 w2 : BitVec 32) :
    Tri (cont I) K c (Sb (cont I) c 0 2 iprop(Arg I c ∗ Todo I c 1 ∗ Q)) (on (k0_part7 (F := F)) c w1 w2)
      (fun _ => (Sb (cont I) c 0 4 iprop(Arg I c ∗ Todo I c 1 ∗ Q))) := by
  rw [k0_part7_eq_skeleton]; unfold k0_part7_skel
  exact Tri.bind (send_o 0 2) fun _ => Tri.bind (send_o 0 3) fun _ => Tri.done

theorem part8 (w1 w2 : BitVec 32) :
    Tri (cont I) K c (Sb (cont I) c 0 4 iprop(Arg I c ∗ Todo I c 1 ∗ Q)) (on (k0_part8 (F := F)) c w1 w2)
      (fun _ => (Sb (cont I) c 0 6 iprop(Arg I c ∗ Todo I c 1 ∗ Q))) := by
  rw [k0_part8_eq_skeleton]; unfold k0_part8_skel
  exact Tri.bind (send_o 0 4) fun _ => Tri.bind (send_o 0 5) fun _ => Tri.done

theorem part9 (w1 w2 : BitVec 32) :
    Tri (cont I) K c (Sb (cont I) c 0 6 iprop(Arg I c ∗ Todo I c 1 ∗ Q)) (on (k0_part9 (F := F)) c w1 w2)
      (fun _ => (Sb (cont I) c 0 8 iprop(Arg I c ∗ Todo I c 1 ∗ Q))) := by
  rw [k0_part9_eq_skeleton]; unfold k0_part9_skel
  exact Tri.bind (send_o 0 6) fun _ => Tri.bind (send_o 0 7) fun _ => Tri.done

theorem part10 (w1 : BitVec 32) :
    Tri (cont I) K c (Sb (cont I) c 0 8 iprop(Arg I c ∗ Todo I c 1 ∗ Q)) (on (k0_part10 (F := F)) c w1)
      (fun _ => (Sb (cont I) c 0 10 iprop(Arg I c ∗ Todo I c 1 ∗ Q))) := by
  rw [k0_part10_eq_skeleton]; unfold k0_part10_skel
  exact Tri.bind (send_o 0 8) fun _ => Tri.bind (send_o 0 9) fun _ => Tri.done

theorem part11 (w1 : BitVec 32) :
    Tri (cont I) K c (Sb (cont I) c 0 10 iprop(Arg I c ∗ Todo I c 1 ∗ Q)) (on (k0_part11 (F := F)) c w1)
      (fun _ => (Sb (cont I) c 0 12 iprop(Arg I c ∗ Todo I c 1 ∗ Q))) := by
  rw [k0_part11_eq_skeleton]; unfold k0_part11_skel
  exact Tri.bind (send_o 0 10) fun _ => Tri.bind (send_o 0 11) fun _ => Tri.done

theorem part12 (w1 : BitVec 32) :
    Tri (cont I) K c (Sb (cont I) c 0 12 iprop(Arg I c ∗ Todo I c 1 ∗ Q)) (on (k0_part12 (F := F)) c w1)
      (fun _ => (Sb (cont I) c 0 14 iprop(Arg I c ∗ Todo I c 1 ∗ Q))) := by
  rw [k0_part12_eq_skeleton]; unfold k0_part12_skel
  exact Tri.bind (send_o 0 12) fun _ => Tri.bind (send_o 0 13) fun _ => Tri.done

/-- The second batch. -/
theorem part13 (v66 : FVec F S1024x1024 .bf16) :
    Tri (cont I) K c (Sb (cont I) c 0 14 iprop(Arg I c ∗ Todo I c 1 ∗ Q)) (on (k0_part13 (F := F)) c v66)
      (fun r => iprop(⌜r = ⟨k0_pay28 v66 ((I c).xL 1), k0_pay30 v66 ((I c).xL 1) ((I c).kL 1 0), k0_pay32 v66 ((I c).xL 1) ((I c).kL 1 0), k0_pay34 v66 ((I c).xL 1) ((I c).kL 1 0) ((I c).vL 1 0), k0_pay35 v66 ((I c).xL 1) ((I c).kL 1 0), k0_pay36 v66 ((I c).xL 1) ((I c).kL 1 0), k0_pay37 v66 ((I c).xL 1) ((I c).kL 1 0) ((I c).vL 1 0), k0_pay38 v66 ((I c).xL 1) ((I c).kL 1 0), k0_pay39 v66 ((I c).xL 1) ((I c).kL 1 0), k0_pay40 v66 ((I c).xL 1) ((I c).kL 1 0) ((I c).vL 1 0), k0_pay41 v66 ((I c).xL 1) ((I c).kL 1 0), k0_pay42 v66 ((I c).xL 1) ((I c).kL 1 0), k0_pay43 v66 ((I c).xL 1) ((I c).kL 1 0) ((I c).vL 1 0)⟩⌝ ∗ (St I c Q 1))) := by
  rw [k0_part13_eq_skeleton]; unfold k0_part13_skel
  exact Tri.bind (send_o 0 14) fun _ => Tri.pre (batch_end 0) <| Tri.cut (load_x 1) <| Tri.cut (load_k 1 0) <|
    Tri.cut (load_v 1 0) <| Tri.value

theorem part14 (v352 : FVec F S256x1024 .f32) (v367 v372 : FVec F S1024x1 .f32) (v375 v378 v381 v384 : FVec F S256x128 .f32) :
    Tri (cont I) K c (St I c Q 1) (on (k0_part14 (F := F)) v352 v367 v372 v375 v378 v381 v384)
      (fun r => iprop(⌜r = ⟨k0_pay44 v367, k0_pay45 v372, k0_pay50 v352 ((I c).kL 1 1), k0_pay51 v352 ((I c).kL 1 1), k0_pay52 v352 ((I c).kL 1 1), k0_pay53 v352 ((I c).kL 1 1), k0_pay54 v352 ((I c).kL 1 1), k0_pay55 v352 ((I c).kL 1 1), k0_pay56 v352 ((I c).kL 1 1), k0_pay57 v352 ((I c).kL 1 1), k0_pay58 v352 v375 v378 v381 v384 ((I c).kL 1 1) ((I c).vL 1 1)⟩⌝ ∗ (St I c Q 1))) := by
  rw [k0_part14_eq_skeleton]; unfold k0_part14_skel
  exact Tri.cut (load_k 1 1) <| Tri.cut (load_v 1 1) <| Tri.value

theorem part15 (w1 : BitVec 32) (v376 v377 v379 v380 v382 v383 v385 v386 v410 v411 v413 v414 v416 v417 v419 v420 : FVec F S256x1 .f32) (v430 : FVec F S256x8x128 .bf16) (ho : k0_pay59 v430 = (I c).o 1) (hm : k0_pay60 v376 v377 v379 v380 v382 v383 v385 v386 v410 v411 v413 v414 v416 v417 v419 v420 = (I c).ml 1) :
    Tri (cont I) K c (St I c Q 1) (on (k0_part15 (F := F)) c w1 v376 v377 v379 v380 v382 v383 v385 v386 v410 v411 v413 v414 v416 v417 v419 v420 v430)
      (fun _ => (Sb (cont I) c 1 1 iprop(Arg I c ∗ Todo I c 2 ∗ Q))) := by
  rw [k0_part15_eq_skeleton]; unfold k0_part15_skel
  exact Tri.bind (look_o 1) fun _ => Tri.bind (store_o 1 (hw := ho)) fun _ => Tri.bind (look_ml 1) fun _ => Tri.bind (store_ml 1 (hw := hm)) fun _ =>
    Tri.bind (send_o 1 0) fun _ => Tri.done

/-- Its sends. -/
theorem part16 (w1 : BitVec 32) :
    Tri (cont I) K c (Sb (cont I) c 1 1 iprop(Arg I c ∗ Todo I c 2 ∗ Q)) (on (k0_part16 (F := F)) c w1)
      (fun _ => (Sb (cont I) c 1 3 iprop(Arg I c ∗ Todo I c 2 ∗ Q))) := by
  rw [k0_part16_eq_skeleton]; unfold k0_part16_skel
  exact Tri.bind (send_o 1 1) fun _ => Tri.bind (send_o 1 2) fun _ => Tri.done

theorem part17 (w1 : BitVec 32) :
    Tri (cont I) K c (Sb (cont I) c 1 3 iprop(Arg I c ∗ Todo I c 2 ∗ Q)) (on (k0_part17 (F := F)) c w1)
      (fun _ => (Sb (cont I) c 1 5 iprop(Arg I c ∗ Todo I c 2 ∗ Q))) := by
  rw [k0_part17_eq_skeleton]; unfold k0_part17_skel
  exact Tri.bind (send_o 1 3) fun _ => Tri.bind (send_o 1 4) fun _ => Tri.done

theorem part18 (w1 : BitVec 32) :
    Tri (cont I) K c (Sb (cont I) c 1 5 iprop(Arg I c ∗ Todo I c 2 ∗ Q)) (on (k0_part18 (F := F)) c w1)
      (fun _ => (Sb (cont I) c 1 7 iprop(Arg I c ∗ Todo I c 2 ∗ Q))) := by
  rw [k0_part18_eq_skeleton]; unfold k0_part18_skel
  exact Tri.bind (send_o 1 5) fun _ => Tri.bind (send_o 1 6) fun _ => Tri.done

theorem part19 (w1 : BitVec 32) :
    Tri (cont I) K c (Sb (cont I) c 1 7 iprop(Arg I c ∗ Todo I c 2 ∗ Q)) (on (k0_part19 (F := F)) c w1)
      (fun _ => (Sb (cont I) c 1 9 iprop(Arg I c ∗ Todo I c 2 ∗ Q))) := by
  rw [k0_part19_eq_skeleton]; unfold k0_part19_skel
  exact Tri.bind (send_o 1 7) fun _ => Tri.bind (send_o 1 8) fun _ => Tri.done

theorem part20 (w1 : BitVec 32) :
    Tri (cont I) K c (Sb (cont I) c 1 9 iprop(Arg I c ∗ Todo I c 2 ∗ Q)) (on (k0_part20 (F := F)) c w1)
      (fun _ => (Sb (cont I) c 1 11 iprop(Arg I c ∗ Todo I c 2 ∗ Q))) := by
  rw [k0_part20_eq_skeleton]; unfold k0_part20_skel
  exact Tri.bind (send_o 1 9) fun _ => Tri.bind (send_o 1 10) fun _ => Tri.done

theorem part21 (w1 : BitVec 32) :
    Tri (cont I) K c (Sb (cont I) c 1 11 iprop(Arg I c ∗ Todo I c 2 ∗ Q)) (on (k0_part21 (F := F)) c w1)
      (fun _ => (Sb (cont I) c 1 13 iprop(Arg I c ∗ Todo I c 2 ∗ Q))) := by
  rw [k0_part21_eq_skeleton]; unfold k0_part21_skel
  exact Tri.bind (send_o 1 11) fun _ => Tri.bind (send_o 1 12) fun _ => Tri.done

/-- The third batch. -/
theorem part22 (w1 : BitVec 32) (v66 : FVec F S1024x1024 .bf16) :
    Tri (cont I) K c (Sb (cont I) c 1 13 iprop(Arg I c ∗ Todo I c 2 ∗ Q)) (on (k0_part22 (F := F)) c w1 v66)
      (fun r => iprop(⌜∃ w, r = ⟨w, k0_pay61 v66 ((I c).xL 2), k0_pay62 ((I c).vL 2 0), k0_pay63 v66 ((I c).xL 2) ((I c).kL 2 0)⟩⌝ ∗ (St I c Q 2))) := by
  rw [k0_part22_eq_skeleton]; unfold k0_part22_skel
  exact Tri.bind (send_o 1 13) fun _ => Tri.bind (send_o 1 14) fun _ => Tri.pre (batch_end 1) <| Tri.cut (load_x 2) <|
    Tri.cut (load_k 2 0) <| Tri.cut (load_v 2 0) <| Tri.fact ⟨_, rfl⟩

theorem part23 (v635 : FVec F S256x1024 .f32) (v645 : FVec F S1024x128 .bf16) (v648 : FVec F S1024x1024 .f32) :
    Tri (cont I) K c (St I c Q 2) (on (k0_part23 (F := F)) v635 v645 v648)
      (fun r => iprop(⌜r = ⟨k0_pay68 v645 v648, k0_pay69 v648, k0_pay70 v648, k0_pay71 v645 v648, k0_pay72 v648, k0_pay73 v648, k0_pay74 v645 v648, k0_pay75 v648, k0_pay76 v648, k0_pay77 v645 v648, k0_pay78 v648, k0_pay79 v648, k0_pay81 v635 ((I c).kL 2 1), k0_pay83 v635 ((I c).kL 2 1), k0_pay84 v635 ((I c).kL 2 1) ((I c).vL 2 1), k0_pay85 v635 ((I c).kL 2 1) ((I c).vL 2 1)⟩⌝ ∗ (St I c Q 2))) := by
  rw [k0_part23_eq_skeleton]; unfold k0_part23_skel
  exact Tri.cut (load_k 2 1) <| Tri.cut (load_v 2 1) <| Tri.value

theorem part24 (w1 : BitVec 32) (v658 v661 v664 v667 v692 : FVec F S256x128 .f32) (v659 v660 v662 v663 v665 v666 v668 v669 : FVec F S256x1 .f32) (v684 v689 : FVec F S1024x1 .f32) (v691 : FVec F S1024x128 .f32) (ho : k0_pay86 v658 v661 v664 v667 v691 v692 = (I c).o 2) (hm : k0_pay87 v659 v660 v662 v663 v665 v666 v668 v669 v684 v689 = (I c).ml 2) :
    Tri (cont I) K c (St I c Q 2) (on (k0_part24 (F := F)) w1 v658 v659 v660 v661 v662 v663 v664 v665 v666 v667 v668 v669 v684 v689 v691 v692)
      (fun _ => (Sb (cont I) c 2 0 iprop(Arg I c ∗ Todo I c 3 ∗ Q))) := by
  rw [k0_part24_eq_skeleton]; unfold k0_part24_skel
  exact Tri.bind (look_o 2) fun _ => Tri.bind (store_o 2 (hw := ho)) fun _ => Tri.bind (look_ml 2) fun _ => Tri.bind (store_ml 2 (hw := hm)) fun _ =>
    Tri.done

/-- Its sends. -/
theorem part25 (w1 : BitVec 32) :
    Tri (cont I) K c (Sb (cont I) c 2 0 iprop(Arg I c ∗ Todo I c 3 ∗ Q)) (on (k0_part25 (F := F)) c w1)
      (fun _ => (Sb (cont I) c 2 2 iprop(Arg I c ∗ Todo I c 3 ∗ Q))) := by
  rw [k0_part25_eq_skeleton]; unfold k0_part25_skel
  exact Tri.bind (send_o 2 0) fun _ => Tri.bind (send_o 2 1) fun _ => Tri.done

theorem part26 (w1 : BitVec 32) :
    Tri (cont I) K c (Sb (cont I) c 2 2 iprop(Arg I c ∗ Todo I c 3 ∗ Q)) (on (k0_part26 (F := F)) c w1)
      (fun _ => (Sb (cont I) c 2 4 iprop(Arg I c ∗ Todo I c 3 ∗ Q))) := by
  rw [k0_part26_eq_skeleton]; unfold k0_part26_skel
  exact Tri.bind (send_o 2 2) fun _ => Tri.bind (send_o 2 3) fun _ => Tri.done

theorem part27 (w1 : BitVec 32) :
    Tri (cont I) K c (Sb (cont I) c 2 4 iprop(Arg I c ∗ Todo I c 3 ∗ Q)) (on (k0_part27 (F := F)) c w1)
      (fun _ => (Sb (cont I) c 2 7 iprop(Arg I c ∗ Todo I c 3 ∗ Q))) := by
  rw [k0_part27_eq_skeleton]; unfold k0_part27_skel
  exact Tri.bind (send_o 2 4) fun _ => Tri.bind (send_o 2 5) fun _ => Tri.bind (send_o 2 6) fun _ => Tri.done

theorem part28 (w1 : BitVec 32) :
    Tri (cont I) K c (Sb (cont I) c 2 7 iprop(Arg I c ∗ Todo I c 3 ∗ Q)) (on (k0_part28 (F := F)) c w1)
      (fun _ => (Sb (cont I) c 2 9 iprop(Arg I c ∗ Todo I c 3 ∗ Q))) := by
  rw [k0_part28_eq_skeleton]; unfold k0_part28_skel
  exact Tri.bind (send_o 2 7) fun _ => Tri.bind (send_o 2 8) fun _ => Tri.done

theorem part29 (w1 w2 : BitVec 32) :
    Tri (cont I) K c (Sb (cont I) c 2 9 iprop(Arg I c ∗ Todo I c 3 ∗ Q)) (on (k0_part29 (F := F)) c w1 w2)
      (fun _ => (Sb (cont I) c 2 11 iprop(Arg I c ∗ Todo I c 3 ∗ Q))) := by
  rw [k0_part29_eq_skeleton]; unfold k0_part29_skel
  exact Tri.bind (send_o 2 9) fun _ => Tri.bind (send_o 2 10) fun _ => Tri.done

theorem part30 (w1 w2 : BitVec 32) :
    Tri (cont I) K c (Sb (cont I) c 2 11 iprop(Arg I c ∗ Todo I c 3 ∗ Q)) (on (k0_part30 (F := F)) c w1 w2)
      (fun _ => (Sb (cont I) c 2 13 iprop(Arg I c ∗ Todo I c 3 ∗ Q))) := by
  rw [k0_part30_eq_skeleton]; unfold k0_part30_skel
  exact Tri.bind (send_o 2 11) fun _ => Tri.bind (send_o 2 12) fun _ => Tri.done

/-- The fourth batch. -/
theorem part31 (w1 w2 : BitVec 32) (v66 : FVec F S1024x1024 .bf16) :
    Tri (cont I) K c (Sb (cont I) c 2 13 iprop(Arg I c ∗ Todo I c 3 ∗ Q)) (on (k0_part31 (F := F)) c w1 v66 w2)
      (fun r => iprop(⌜∃ w, r = ⟨w, k0_pay88 v66 ((I c).xL 3), k0_pay89 v66 ((I c).xL 3)⟩⌝ ∗ (St I c Q 3))) := by
  rw [k0_part31_eq_skeleton]; unfold k0_part31_skel
  exact Tri.bind (send_o 2 13) fun _ => Tri.bind (send_o 2 14) fun _ => Tri.pre (batch_end 2) <| Tri.cut (load_x 3) <|
    Tri.fact ⟨_, rfl⟩

theorem part32 (v918 : FVec F S256x1024 .f32) (v919 : FVec F S256x128 .f32) :
    Tri (cont I) K c (St I c Q 3) (on (k0_part32 (F := F)) v918 v919)
      (fun r => iprop(⌜r = ⟨k0_pay95 v918 v919 ((I c).kL 3 0) ((I c).vL 3 0), k0_pay96 v918 v919 ((I c).kL 3 0), k0_pay97 v918 v919 ((I c).kL 3 0), k0_pay98 v918 v919 ((I c).kL 3 0) ((I c).vL 3 0), k0_pay99 v918 v919 ((I c).kL 3 0), k0_pay100 v918 v919 ((I c).kL 3 0), k0_pay101 v918 v919 ((I c).kL 3 0) ((I c).vL 3 0), k0_pay102 v918 v919 ((I c).kL 3 0), k0_pay103 v918 v919 ((I c).kL 3 0), k0_pay104 v918 v919 ((I c).kL 3 0) ((I c).vL 3 0), k0_pay105 v918 v919 ((I c).kL 3 0), k0_pay106 v918 v919 ((I c).kL 3 0), k0_pay107 v918, k0_pay108 ((I c).kL 3 1)⟩⌝ ∗ (St I c Q 3))) := by
  rw [k0_part32_eq_skeleton]; unfold k0_part32_skel
  exact Tri.cut (load_k 3 0) <| Tri.cut (load_v 3 0) <| Tri.cut (load_k 3 1) <| Tri.value

theorem part33 (v941 v944 v947 v950 : FVec F S256x128 .f32) (v942 v943 v945 v946 v948 v949 v951 v952 : FVec F S256x1 .f32) (v958 v960 : FVec F S1024x128 .bf16) (ho : k0_pay112 v941 v944 v947 v950 v958 v960 ((I c).vL 3 1) = (I c).o 3) (hm : k0_pay113 v942 v943 v945 v946 v948 v949 v951 v952 v958 v960 = (I c).ml 3) :
    Tri (cont I) K c (St I c Q 3) (on (k0_part33 (F := F)) v941 v942 v943 v944 v945 v946 v947 v948 v949 v950 v951 v952 v958 v960)
      (fun _ => (Sb (cont I) c 3 0 iprop(Arg I c ∗ Todo I c 4 ∗ Q))) := by
  rw [k0_part33_eq_skeleton]; unfold k0_part33_skel
  exact Tri.cut (load_v 3 1) <| Tri.bind (look_o 3) fun _ => Tri.bind (store_o 3 (hw := ho)) fun _ => Tri.bind (look_ml 3) fun _ =>
    Tri.bind (store_ml 3 (hw := hm)) fun _ => Tri.done

/-- Its sends. -/
theorem part34 (w1 w2 : BitVec 32) :
    Tri (cont I) K c (Sb (cont I) c 3 0 iprop(Arg I c ∗ Todo I c 4 ∗ Q)) (on (k0_part34 (F := F)) c w1 w2)
      (fun _ => (Sb (cont I) c 3 2 iprop(Arg I c ∗ Todo I c 4 ∗ Q))) := by
  rw [k0_part34_eq_skeleton]; unfold k0_part34_skel
  exact Tri.bind (send_o 3 0) fun _ => Tri.bind (send_o 3 1) fun _ => Tri.done

theorem part35 (w1 w2 w3 : BitVec 32) :
    Tri (cont I) K c (Sb (cont I) c 3 2 iprop(Arg I c ∗ Todo I c 4 ∗ Q)) (on (k0_part35 (F := F)) c w1 w2 w3)
      (fun _ => (Sb (cont I) c 3 4 iprop(Arg I c ∗ Todo I c 4 ∗ Q))) := by
  rw [k0_part35_eq_skeleton]; unfold k0_part35_skel
  exact Tri.bind (send_o 3 2) fun _ => Tri.bind (send_o 3 3) fun _ => Tri.done

theorem part36 (w1 w2 w3 : BitVec 32) :
    Tri (cont I) K c (Sb (cont I) c 3 4 iprop(Arg I c ∗ Todo I c 4 ∗ Q)) (on (k0_part36 (F := F)) c w1 w2 w3)
      (fun _ => (Sb (cont I) c 3 6 iprop(Arg I c ∗ Todo I c 4 ∗ Q))) := by
  rw [k0_part36_eq_skeleton]; unfold k0_part36_skel
  exact Tri.bind (send_o 3 4) fun _ => Tri.bind (send_o 3 5) fun _ => Tri.done

theorem part37 (w1 w2 : BitVec 32) :
    Tri (cont I) K c (Sb (cont I) c 3 6 iprop(Arg I c ∗ Todo I c 4 ∗ Q)) (on (k0_part37 (F := F)) c w1 w2)
      (fun _ => (Sb (cont I) c 3 8 iprop(Arg I c ∗ Todo I c 4 ∗ Q))) := by
  rw [k0_part37_eq_skeleton]; unfold k0_part37_skel
  exact Tri.bind (send_o 3 6) fun _ => Tri.bind (send_o 3 7) fun _ => Tri.done

theorem part38 (w1 w2 : BitVec 32) :
    Tri (cont I) K c (Sb (cont I) c 3 8 iprop(Arg I c ∗ Todo I c 4 ∗ Q)) (on (k0_part38 (F := F)) c w1 w2)
      (fun _ => (Sb (cont I) c 3 10 iprop(Arg I c ∗ Todo I c 4 ∗ Q))) := by
  rw [k0_part38_eq_skeleton]; unfold k0_part38_skel
  exact Tri.bind (send_o 3 8) fun _ => Tri.bind (send_o 3 9) fun _ => Tri.done

theorem part39 (w1 w2 : BitVec 32) :
    Tri (cont I) K c (Sb (cont I) c 3 10 iprop(Arg I c ∗ Todo I c 4 ∗ Q)) (on (k0_part39 (F := F)) c w1 w2)
      (fun _ => (Sb (cont I) c 3 12 iprop(Arg I c ∗ Todo I c 4 ∗ Q))) := by
  rw [k0_part39_eq_skeleton]; unfold k0_part39_skel
  exact Tri.bind (send_o 3 10) fun _ => Tri.bind (send_o 3 11) fun _ => Tri.done

theorem part40 (w1 w2 : BitVec 32) :
    Tri (cont I) K c (Sb (cont I) c 3 12 iprop(Arg I c ∗ Todo I c 4 ∗ Q)) (on (k0_part40 (F := F)) c w1 w2)
      (fun _ => (Sb (cont I) c 3 14 iprop(Arg I c ∗ Todo I c 4 ∗ Q))) := by
  rw [k0_part40_eq_skeleton]; unfold k0_part40_skel
  exact Tri.bind (send_o 3 12) fun _ => Tri.bind (send_o 3 13) fun _ => Tri.done

theorem part41 (w1 : BitVec 32) :
    Tri (cont I) K c (Sb (cont I) c 3 14 iprop(Arg I c ∗ Todo I c 4 ∗ Q)) (on (k0_part41 (F := F)) c w1)
      (fun _ => Sb (cont I) c 4 1 iprop(Own I c ∗ Arg I c ∗ Q)) := by
  rw [k0_part41_eq_skeleton]; unfold k0_part41_skel
  exact Tri.bind (send_o 3 14) fun _ => Tri.pre (batch_end 3) <| Tri.pre ml_begin <| Tri.bind (send_ml 0) fun _ =>
    Tri.done

/-- The sends of the maxima and sums. -/
theorem part42 (w1 : BitVec 32) :
    Tri (cont I) K c (Sb (cont I) c 4 1 iprop(Own I c ∗ Arg I c ∗ Q)) (on (k0_part42 (F := F)) c w1)
      (fun _ => Sb (cont I) c 4 4 iprop(Own I c ∗ Arg I c ∗ Q)) := by
  rw [k0_part42_eq_skeleton]; unfold k0_part42_skel
  exact Tri.bind (send_ml 1) fun _ => Tri.bind (send_ml 2) fun _ => Tri.bind (send_ml 3) fun _ => Tri.done

theorem part43 (w1 w2 : BitVec 32) :
    Tri (cont I) K c (Sb (cont I) c 4 4 iprop(Own I c ∗ Arg I c ∗ Q)) (on (k0_part43 (F := F)) c w1 w2)
      (fun _ => Sb (cont I) c 4 6 iprop(Own I c ∗ Arg I c ∗ Q)) := by
  rw [k0_part43_eq_skeleton]; unfold k0_part43_skel
  exact Tri.bind (send_ml 4) fun _ => Tri.bind (send_ml 5) fun _ => Tri.done

theorem part44 (w1 w2 w3 : BitVec 32) :
    Tri (cont I) K c (Sb (cont I) c 4 6 iprop(Own I c ∗ Arg I c ∗ Q)) (on (k0_part44 (F := F)) c w1 w2 w3)
      (fun _ => Sb (cont I) c 4 8 iprop(Own I c ∗ Arg I c ∗ Q)) := by
  rw [k0_part44_eq_skeleton]; unfold k0_part44_skel
  exact Tri.bind (send_ml 6) fun _ => Tri.bind (send_ml 7) fun _ => Tri.done

theorem part45 (w1 : BitVec 32) :
    Tri (cont I) K c (Sb (cont I) c 4 8 iprop(Own I c ∗ Arg I c ∗ Q)) (on (k0_part45 (F := F)) c w1)
      (fun _ => Sb (cont I) c 4 11 iprop(Own I c ∗ Arg I c ∗ Q)) := by
  rw [k0_part45_eq_skeleton]; unfold k0_part45_skel
  exact Tri.bind (send_ml 8) fun _ => Tri.bind (send_ml 9) fun _ => Tri.bind (send_ml 10) fun _ => Tri.done

theorem part46 (w1 : BitVec 32) :
    Tri (cont I) K c (Sb (cont I) c 4 11 iprop(Own I c ∗ Arg I c ∗ Q)) (on (k0_part46 (F := F)) c w1)
      (fun _ => Sb (cont I) c 4 13 iprop(Own I c ∗ Arg I c ∗ Q)) := by
  rw [k0_part46_eq_skeleton]; unfold k0_part46_skel
  exact Tri.bind (send_ml 11) fun _ => Tri.bind (send_ml 12) fun _ => Tri.done

theorem part47 (w1 w2 w3 : BitVec 32) :
    Tri (cont I) K c (Sb (cont I) c 4 13 iprop(Own I c ∗ Arg I c ∗ Q)) (on (k0_part47 (F := F)) c w1 w2 w3)
      (fun _ => Sb (cont I) c 4 15 iprop(Own I c ∗ Arg I c ∗ Q)) := by
  rw [k0_part47_eq_skeleton]; unfold k0_part47_skel
  exact Tri.bind (send_ml 13) fun _ => Tri.bind (send_ml 14) fun _ => Tri.done

end Cert.KernelIdeal.Mesh

end
-- ==== Proof.KernelIdeal.PartsOut.lean ====
/-
The parts of the kernel that merge, send the finished rows, and put the result together.
-/
module

public import proofs.«01_k».proof.Proof.KernelIdeal.PartsSend

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Dev nD → Ins F} {c : Dev nD} {Q R : sProp (MT nD τ sig Unit (Elt F) ℕ UU ℕ)} {K : Dev nD × KI → ℕ}

/-- The finished rows. -/
theorem part74 (w1 w2 : BitVec 32) (v1967 : Vec F S15x4x16x8 .f32) (v1970 v1986 : FVec F S4x16x8x128 .f32) (v1974 : Vec F S4x16x8 .f32) (v1980 : FVec F S15x4x16x8 .f32) (v1982 : FVec F S4x16x8 .f32) (v1987 : FVec F S4x16x8x1 .f32) (hs : k0_pay121 v1967 v1970 v1974 v1980 v1982 v1986 v1987 (I c).woL = finS I c) :
    Tri (cont I) K c (Mg I c iprop(FA c ∗ Q)) (on (k0_part74 (F := F)) c w1 w2 v1967 v1970 v1974 v1980 v1982 v1986 v1987)
      (fun r => iprop(⌜∃ w, r = ⟨k0_pay120 v1967 v1970 v1974 v1980 v1982 v1986 v1987 (I c).woL, w⟩⌝ ∗ Sb (cont I) c 5 0 iprop(Own I c ∗ Arg I c ∗ Rv (cont I) c 75 ∗ Frem I c ∗ Q))) := by
  rw [k0_part74_eq_skeleton]; unfold k0_part74_skel
  exact Tri.cut load_wo <| Tri.bind (look_fb) fun _ => Tri.bind (store_fb (hw := hs)) fun _ => Tri.fact ⟨_, rfl⟩

/-- The sends of the finished rows. -/
theorem part75 (w1 : BitVec 32) :
    Tri (cont I) K c (Sb (cont I) c 5 0 iprop(Own I c ∗ Arg I c ∗ Rv (cont I) c 75 ∗ Frem I c ∗ Q)) (on (k0_part75 (F := F)) c w1)
      (fun _ => Sb (cont I) c 5 3 iprop(Own I c ∗ Arg I c ∗ Rv (cont I) c 75 ∗ Frem I c ∗ Q)) := by
  rw [k0_part75_eq_skeleton]; unfold k0_part75_skel
  exact Tri.bind (send_fb 0) fun _ => Tri.bind (send_fb 1) fun _ => Tri.bind (send_fb 2) fun _ => Tri.done

theorem part76 (w1 : BitVec 32) :
    Tri (cont I) K c (Sb (cont I) c 5 3 iprop(Own I c ∗ Arg I c ∗ Rv (cont I) c 75 ∗ Frem I c ∗ Q)) (on (k0_part76 (F := F)) c w1)
      (fun _ => Sb (cont I) c 5 6 iprop(Own I c ∗ Arg I c ∗ Rv (cont I) c 75 ∗ Frem I c ∗ Q)) := by
  rw [k0_part76_eq_skeleton]; unfold k0_part76_skel
  exact Tri.bind (send_fb 3) fun _ => Tri.bind (send_fb 4) fun _ => Tri.bind (send_fb 5) fun _ => Tri.done

theorem part77 (w1 w2 : BitVec 32) :
    Tri (cont I) K c (Sb (cont I) c 5 6 iprop(Own I c ∗ Arg I c ∗ Rv (cont I) c 75 ∗ Frem I c ∗ Q)) (on (k0_part77 (F := F)) c w1 w2)
      (fun _ => Sb (cont I) c 5 9 iprop(Own I c ∗ Arg I c ∗ Rv (cont I) c 75 ∗ Frem I c ∗ Q)) := by
  rw [k0_part77_eq_skeleton]; unfold k0_part77_skel
  exact Tri.bind (send_fb 6) fun _ => Tri.bind (send_fb 7) fun _ => Tri.bind (send_fb 8) fun _ => Tri.done

theorem part78 (w1 w2 : BitVec 32) :
    Tri (cont I) K c (Sb (cont I) c 5 9 iprop(Own I c ∗ Arg I c ∗ Rv (cont I) c 75 ∗ Frem I c ∗ Q)) (on (k0_part78 (F := F)) c w1 w2)
      (fun _ => Sb (cont I) c 5 12 iprop(Own I c ∗ Arg I c ∗ Rv (cont I) c 75 ∗ Frem I c ∗ Q)) := by
  rw [k0_part78_eq_skeleton]; unfold k0_part78_skel
  exact Tri.bind (send_fb 9) fun _ => Tri.bind (send_fb 10) fun _ => Tri.bind (send_fb 11) fun _ => Tri.done

theorem part79 (w1 w2 : BitVec 32) :
    Tri (cont I) K c (Sb (cont I) c 5 12 iprop(Own I c ∗ Arg I c ∗ Rv (cont I) c 75 ∗ Frem I c ∗ Q)) (on (k0_part79 (F := F)) c w1 w2)
      (fun _ => Sb (cont I) c 5 14 iprop(Own I c ∗ Arg I c ∗ Rv (cont I) c 75 ∗ Frem I c ∗ Q)) := by
  rw [k0_part79_eq_skeleton]; unfold k0_part79_skel
  exact Tri.bind (send_fb 12) fun _ => Tri.bind (send_fb 13) fun _ => Tri.done

/-- The result, row block by row block. -/
theorem part80 (w1 w2 w3 w4 : BitVec 32) (v2018 : FVec F S4x16x1024 .f32) (hf : v2018 = fin I c) :
    Tri (cont I) K c (Sb (cont I) c 5 14 iprop(Own I c ∗ Arg I c ∗ Rv (cont I) c 75 ∗ Frem I c ∗ X0 c ∗ Q)) (on (k0_part80 (F := F)) c w1 w2 v2018 w3 w4)
      (fun _ => Rb (cont I) c 0 77 iprop(XS I c 1 ∗ Z I c Q)) := by
  rw [k0_part80_eq_skeleton]; unfold k0_part80_skel
  exact Tri.bind (send_fb 14) fun _ => Tri.pre own_begin <| Tri.bind (look_own) fun _ => Tri.bind (store_own (hw := hf)) fun _ =>
    Tri.bind (recv_fb 0) fun _ => Tri.cut (load_got 0) <| Tri.bind (look_got 0) fun _ => Tri.bind (store_got 0) fun _ =>
    Tri.bind (recv_fb 1) fun _ => Tri.done

theorem part81 (w1 w2 w3 w4 : BitVec 32) :
    Tri (cont I) K c (Rb (cont I) c 0 77 iprop(XS I c 1 ∗ R)) (on (k0_part81 (F := F)) c w1 w2 w3 w4)
      (fun _ => Rb (cont I) c 0 78 iprop(XS I c 3 ∗ R)) := by
  rw [k0_part81_eq_skeleton]; unfold k0_part81_skel
  exact Tri.cut (load_got 1) <| Tri.bind (look_got 1) fun _ => Tri.bind (store_got 1) fun _ => Tri.bind (recv_fb 2) fun _ =>
    Tri.cut (load_got 2) <| Tri.bind (look_got 2) fun _ => Tri.bind (store_got 2) fun _ => Tri.done

theorem part82 (w1 w2 : BitVec 32) :
    Tri (cont I) K c (Rb (cont I) c 0 78 iprop(XS I c 3 ∗ R)) (on (k0_part82 (F := F)) c w1 w2)
      (fun v => iprop(⌜v = k0_pay122 (finS I (peer c (rev 4)))⌝ ∗ Rb (cont I) c 0 80 iprop(XS I c 4 ∗ R))) := by
  rw [k0_part82_eq_skeleton]; unfold k0_part82_skel
  exact Tri.bind (recv_fb 3) fun _ => Tri.cut (load_got 3) <| Tri.bind (look_got 3) fun _ => Tri.bind (store_got 3) fun _ =>
    Tri.bind (recv_fb 4) fun _ => Tri.cut (load_got 4) <| Tri.bind (look_got 4) fun _ => Tri.value

theorem part83 (w1 w2 w3 : BitVec 32) (v2253 : FVec F S4x16x1024 .f32) (hv : v2253 = k0_pay122 (finS I (peer c (rev 4)))) :
    Tri (cont I) K c (Rb (cont I) c 0 80 iprop(XS I c 4 ∗ R)) (on (k0_part83 (F := F)) c w1 w2 w3 v2253)
      (fun _ => Rb (cont I) c 0 82 iprop(XS I c 6 ∗ R)) := by
  rw [k0_part83_eq_skeleton]; unfold k0_part83_skel
  exact Tri.bind (store_got 4 (hw := hv)) fun _ => Tri.bind (recv_fb 5) fun _ => Tri.cut (load_got 5) <| Tri.bind (look_got 5) fun _ =>
    Tri.bind (store_got 5) fun _ => Tri.bind (recv_fb 6) fun _ => Tri.done

theorem part84 (w1 w2 w3 w4 w5 : BitVec 32) :
    Tri (cont I) K c (Rb (cont I) c 0 82 iprop(XS I c 6 ∗ R)) (on (k0_part84 (F := F)) c w1 w2 w3 w4 w5)
      (fun _ => Rb (cont I) c 0 83 iprop(XS I c 8 ∗ R)) := by
  rw [k0_part84_eq_skeleton]; unfold k0_part84_skel
  exact Tri.cut (load_got 6) <| Tri.bind (look_got 6) fun _ => Tri.bind (store_got 6) fun _ => Tri.bind (recv_fb 7) fun _ =>
    Tri.cut (load_got 7) <| Tri.bind (look_got 7) fun _ => Tri.bind (store_got 7) fun _ => Tri.done

theorem part85 (w1 w2 w3 : BitVec 32) :
    Tri (cont I) K c (Rb (cont I) c 0 83 iprop(XS I c 8 ∗ R)) (on (k0_part85 (F := F)) c w1 w2 w3)
      (fun _ => Rb (cont I) c 0 85 iprop(XS I c 10 ∗ R)) := by
  rw [k0_part85_eq_skeleton]; unfold k0_part85_skel
  exact Tri.bind (recv_fb 8) fun _ => Tri.cut (load_got 8) <| Tri.bind (look_got 8) fun _ => Tri.bind (store_got 8) fun _ =>
    Tri.bind (recv_fb 9) fun _ => Tri.cut (load_got 9) <| Tri.bind (look_got 9) fun _ => Tri.bind (store_got 9) fun _ =>
    Tri.done

theorem part86 (w1 w2 w3 : BitVec 32) :
    Tri (cont I) K c (Rb (cont I) c 0 85 iprop(XS I c 10 ∗ R)) (on (k0_part86 (F := F)) c w1 w2 w3)
      (fun r => iprop(⌜∃ w, r = ⟨w, finS I (peer c (rev 11))⟩⌝ ∗ Rb (cont I) c 0 87 iprop(XS I c 11 ∗ R))) := by
  rw [k0_part86_eq_skeleton]; unfold k0_part86_skel
  exact Tri.bind (recv_fb 10) fun _ => Tri.cut (load_got 10) <| Tri.bind (look_got 10) fun _ => Tri.bind (store_got 10) fun _ =>
    Tri.bind (recv_fb 11) fun _ => Tri.cut (load_got 11) <| Tri.fact ⟨_, rfl⟩

theorem part87 (w1 w2 w3 w4 : BitVec 32) (v2364 : Vec F S4x16x1024 .bf16) (hv : v2364 = finS I (peer c (rev 11))) :
    Tri (cont I) K c (Rb (cont I) c 0 87 iprop(XS I c 11 ∗ R)) (on (k0_part87 (F := F)) c w1 w2 w3 w4 v2364)
      (fun _ => Rb (cont I) c 0 89 iprop(XS I c 13 ∗ R)) := by
  rw [k0_part87_eq_skeleton]; unfold k0_part87_skel
  exact Tri.bind (look_got 11) fun _ => Tri.bind (store_got 11 (hw := congrArg _ hv)) fun _ => Tri.bind (recv_fb 12) fun _ => Tri.cut (load_got 12) <|
    Tri.bind (look_got 12) fun _ => Tri.bind (store_got 12) fun _ => Tri.bind (recv_fb 13) fun _ => Tri.done

theorem part88 (w1 w2 w3 : BitVec 32) :
    Tri (cont I) K c (Rb (cont I) c 0 89 iprop(XS I c 13 ∗ R)) (on (k0_part88 (F := F)) c w1 w2 w3)
      (fun _ => Rb (cont I) c 0 90 iprop(XS I c 15 ∗ R)) := by
  rw [k0_part88_eq_skeleton]; unfold k0_part88_skel
  exact Tri.cut (load_got 13) <| Tri.bind (look_got 13) fun _ => Tri.bind (store_got 13) fun _ => Tri.bind (recv_fb 14) fun _ =>
    Tri.cut (load_got 14) <| Tri.bind (look_got 14) fun _ => Tri.bind (store_got 14) fun _ => Tri.done

end Cert.KernelIdeal.Mesh

end
-- ==== Proof.KernelIdeal.PartsRecv.lean ====
/-
The parts of the kernel that wait for the arrivals of partial outputs, maxima and sums, and load them.
-/
module

public import proofs.«01_k».proof.Proof.KernelIdeal.Merge

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Dev nD → Ins F} {c : Dev nD} {Q R : sProp (MT nD τ sig Unit (Elt F) ℕ UU ℕ)} {K : Dev nD × KI → ℕ}

theorem part48 (w1 w2 w3 : BitVec 32) :
    Tri (cont I) K c (Rb (cont I) c (owedX c 75) 0 R) (on (k0_part48 (F := F)) c w1 w2 w3)
      (fun _ => Rb (cont I) c (owedX c 75) 3 R) := by
  rw [k0_part48_eq_skeleton]; unfold k0_part48_skel
  exact Tri.bind (recv_o 0 0) fun _ => Tri.bind (recv_o 0 1) fun _ => Tri.bind (recv_o 0 2) fun _ => Tri.done

theorem part49 (w1 w2 w3 : BitVec 32) :
    Tri (cont I) K c (Rb (cont I) c (owedX c 75) 3 R) (on (k0_part49 (F := F)) c w1 w2 w3)
      (fun _ => Rb (cont I) c (owedX c 75) 6 R) := by
  rw [k0_part49_eq_skeleton]; unfold k0_part49_skel
  exact Tri.bind (recv_o 0 3) fun _ => Tri.bind (recv_o 0 4) fun _ => Tri.bind (recv_o 0 5) fun _ => Tri.done

theorem part50 (w1 w2 w3 : BitVec 32) :
    Tri (cont I) K c (Rb (cont I) c (owedX c 75) 6 R) (on (k0_part50 (F := F)) c w1 w2 w3)
      (fun _ => Rb (cont I) c (owedX c 75) 9 R) := by
  rw [k0_part50_eq_skeleton]; unfold k0_part50_skel
  exact Tri.bind (recv_o 0 6) fun _ => Tri.bind (recv_o 0 7) fun _ => Tri.bind (recv_o 0 8) fun _ => Tri.done

theorem part51 (w1 w2 w3 : BitVec 32) :
    Tri (cont I) K c (Rb (cont I) c (owedX c 75) 9 R) (on (k0_part51 (F := F)) c w1 w2 w3)
      (fun _ => Rb (cont I) c (owedX c 75) 12 R) := by
  rw [k0_part51_eq_skeleton]; unfold k0_part51_skel
  exact Tri.bind (recv_o 0 9) fun _ => Tri.bind (recv_o 0 10) fun _ => Tri.bind (recv_o 0 11) fun _ => Tri.done

theorem part52 (w1 w2 w3 : BitVec 32) :
    Tri (cont I) K c (Rb (cont I) c (owedX c 75) 12 R) (on (k0_part52 (F := F)) c w1 w2 w3)
      (fun _ => Rb (cont I) c (owedX c 75) 15 R) := by
  rw [k0_part52_eq_skeleton]; unfold k0_part52_skel
  exact Tri.bind (recv_o 0 12) fun _ => Tri.bind (recv_o 0 13) fun _ => Tri.bind (recv_o 0 14) fun _ => Tri.done

theorem part53 (w1 w2 w3 : BitVec 32) :
    Tri (cont I) K c (Rb (cont I) c (owedX c 75) 15 R) (on (k0_part53 (F := F)) c w1 w2 w3)
      (fun _ => Rb (cont I) c (owedX c 75) 17 R) := by
  rw [k0_part53_eq_skeleton]; unfold k0_part53_skel
  exact Tri.bind (recv_o 1 0) fun _ => Tri.bind (recv_o 1 1) fun _ => Tri.done

theorem part54 (w1 w2 w3 : BitVec 32) :
    Tri (cont I) K c (Rb (cont I) c (owedX c 75) 17 R) (on (k0_part54 (F := F)) c w1 w2 w3)
      (fun _ => Rb (cont I) c (owedX c 75) 20 R) := by
  rw [k0_part54_eq_skeleton]; unfold k0_part54_skel
  exact Tri.bind (recv_o 1 2) fun _ => Tri.bind (recv_o 1 3) fun _ => Tri.bind (recv_o 1 4) fun _ => Tri.done

theorem part55 (w1 w2 w3 : BitVec 32) :
    Tri (cont I) K c (Rb (cont I) c (owedX c 75) 20 R) (on (k0_part55 (F := F)) c w1 w2 w3)
      (fun _ => Rb (cont I) c (owedX c 75) 23 R) := by
  rw [k0_part55_eq_skeleton]; unfold k0_part55_skel
  exact Tri.bind (recv_o 1 5) fun _ => Tri.bind (recv_o 1 6) fun _ => Tri.bind (recv_o 1 7) fun _ => Tri.done

theorem part56 (w1 w2 w3 : BitVec 32) :
    Tri (cont I) K c (Rb (cont I) c (owedX c 75) 23 R) (on (k0_part56 (F := F)) c w1 w2 w3)
      (fun _ => Rb (cont I) c (owedX c 75) 26 R) := by
  rw [k0_part56_eq_skeleton]; unfold k0_part56_skel
  exact Tri.bind (recv_o 1 8) fun _ => Tri.bind (recv_o 1 9) fun _ => Tri.bind (recv_o 1 10) fun _ => Tri.done

theorem part57 (w1 w2 w3 : BitVec 32) :
    Tri (cont I) K c (Rb (cont I) c (owedX c 75) 26 R) (on (k0_part57 (F := F)) c w1 w2 w3)
      (fun _ => Rb (cont I) c (owedX c 75) 29 R) := by
  rw [k0_part57_eq_skeleton]; unfold k0_part57_skel
  exact Tri.bind (recv_o 1 11) fun _ => Tri.bind (recv_o 1 12) fun _ => Tri.bind (recv_o 1 13) fun _ => Tri.done

theorem part58 (w1 w2 w3 : BitVec 32) :
    Tri (cont I) K c (Rb (cont I) c (owedX c 75) 29 R) (on (k0_part58 (F := F)) c w1 w2 w3)
      (fun _ => Rb (cont I) c (owedX c 75) 32 R) := by
  rw [k0_part58_eq_skeleton]; unfold k0_part58_skel
  exact Tri.bind (recv_o 1 14) fun _ => Tri.bind (recv_o 2 0) fun _ => Tri.bind (recv_o 2 1) fun _ => Tri.done

theorem part59 (w1 w2 w3 : BitVec 32) :
    Tri (cont I) K c (Rb (cont I) c (owedX c 75) 32 R) (on (k0_part59 (F := F)) c w1 w2 w3)
      (fun _ => Rb (cont I) c (owedX c 75) 35 R) := by
  rw [k0_part59_eq_skeleton]; unfold k0_part59_skel
  exact Tri.bind (recv_o 2 2) fun _ => Tri.bind (recv_o 2 3) fun _ => Tri.bind (recv_o 2 4) fun _ => Tri.done

theorem part60 (w1 w2 w3 : BitVec 32) :
    Tri (cont I) K c (Rb (cont I) c (owedX c 75) 35 R) (on (k0_part60 (F := F)) c w1 w2 w3)
      (fun _ => Rb (cont I) c (owedX c 75) 37 R) := by
  rw [k0_part60_eq_skeleton]; unfold k0_part60_skel
  exact Tri.bind (recv_o 2 5) fun _ => Tri.bind (recv_o 2 6) fun _ => Tri.done

theorem part61 (w1 w2 w3 : BitVec 32) :
    Tri (cont I) K c (Rb (cont I) c (owedX c 75) 37 R) (on (k0_part61 (F := F)) c w1 w2 w3)
      (fun _ => Rb (cont I) c (owedX c 75) 40 R) := by
  rw [k0_part61_eq_skeleton]; unfold k0_part61_skel
  exact Tri.bind (recv_o 2 7) fun _ => Tri.bind (recv_o 2 8) fun _ => Tri.bind (recv_o 2 9) fun _ => Tri.done

theorem part62 (w1 w2 w3 : BitVec 32) :
    Tri (cont I) K c (Rb (cont I) c (owedX c 75) 40 R) (on (k0_part62 (F := F)) c w1 w2 w3)
      (fun _ => Rb (cont I) c (owedX c 75) 43 R) := by
  rw [k0_part62_eq_skeleton]; unfold k0_part62_skel
  exact Tri.bind (recv_o 2 10) fun _ => Tri.bind (recv_o 2 11) fun _ => Tri.bind (recv_o 2 12) fun _ => Tri.done

theorem part63 (w1 w2 w3 : BitVec 32) :
    Tri (cont I) K c (Rb (cont I) c (owedX c 75) 43 R) (on (k0_part63 (F := F)) c w1 w2 w3)
      (fun _ => Rb (cont I) c (owedX c 75) 46 R) := by
  rw [k0_part63_eq_skeleton]; unfold k0_part63_skel
  exact Tri.bind (recv_o 2 13) fun _ => Tri.bind (recv_o 2 14) fun _ => Tri.bind (recv_o 3 0) fun _ => Tri.done

theorem part64 (w1 w2 w3 : BitVec 32) :
    Tri (cont I) K c (Rb (cont I) c (owedX c 75) 46 R) (on (k0_part64 (F := F)) c w1 w2 w3)
      (fun _ => Rb (cont I) c (owedX c 75) 49 R) := by
  rw [k0_part64_eq_skeleton]; unfold k0_part64_skel
  exact Tri.bind (recv_o 3 1) fun _ => Tri.bind (recv_o 3 2) fun _ => Tri.bind (recv_o 3 3) fun _ => Tri.done

theorem part65 (w1 w2 w3 : BitVec 32) :
    Tri (cont I) K c (Rb (cont I) c (owedX c 75) 49 R) (on (k0_part65 (F := F)) c w1 w2 w3)
      (fun _ => Rb (cont I) c (owedX c 75) 52 R) := by
  rw [k0_part65_eq_skeleton]; unfold k0_part65_skel
  exact Tri.bind (recv_o 3 4) fun _ => Tri.bind (recv_o 3 5) fun _ => Tri.bind (recv_o 3 6) fun _ => Tri.done

theorem part66 (w1 w2 w3 : BitVec 32) :
    Tri (cont I) K c (Rb (cont I) c (owedX c 75) 52 R) (on (k0_part66 (F := F)) c w1 w2 w3)
      (fun _ => Rb (cont I) c (owedX c 75) 55 R) := by
  rw [k0_part66_eq_skeleton]; unfold k0_part66_skel
  exact Tri.bind (recv_o 3 7) fun _ => Tri.bind (recv_o 3 8) fun _ => Tri.bind (recv_o 3 9) fun _ => Tri.done

theorem part67 (w1 w2 w3 : BitVec 32) :
    Tri (cont I) K c (Rb (cont I) c (owedX c 75) 55 R) (on (k0_part67 (F := F)) c w1 w2 w3)
      (fun _ => Rb (cont I) c (owedX c 75) 57 R) := by
  rw [k0_part67_eq_skeleton]; unfold k0_part67_skel
  exact Tri.bind (recv_o 3 10) fun _ => Tri.bind (recv_o 3 11) fun _ => Tri.done

theorem part68 (w1 w2 w3 : BitVec 32) :
    Tri (cont I) K c (Rb (cont I) c (owedX c 75) 57 R) (on (k0_part68 (F := F)) c w1 w2 w3)
      (fun _ => Rb (cont I) c (owedX c 75) 60 R) := by
  rw [k0_part68_eq_skeleton]; unfold k0_part68_skel
  exact Tri.bind (recv_o 3 12) fun _ => Tri.bind (recv_o 3 13) fun _ => Tri.bind (recv_o 3 14) fun _ => Tri.done

theorem part69 (w1 w2 w3 : BitVec 32) :
    Tri (cont I) K c (Rb (cont I) c (owedX c 75) 60 R) (on (k0_part69 (F := F)) c w1 w2 w3)
      (fun _ => Rb (cont I) c (owedX c 75) 64 R) := by
  rw [k0_part69_eq_skeleton]; unfold k0_part69_skel
  exact Tri.bind (recv_ml 0) fun _ => Tri.bind (recv_ml 1) fun _ => Tri.bind (recv_ml 2) fun _ => Tri.bind (recv_ml 3) fun _ =>
    Tri.done

theorem part70 (w1 w2 w3 w4 w5 : BitVec 32) :
    Tri (cont I) K c (Rb (cont I) c (owedX c 75) 64 R) (on (k0_part70 (F := F)) c w1 w2 w3 w4 w5)
      (fun _ => Rb (cont I) c (owedX c 75) 67 R) := by
  rw [k0_part70_eq_skeleton]; unfold k0_part70_skel
  exact Tri.bind (recv_ml 4) fun _ => Tri.bind (recv_ml 5) fun _ => Tri.bind (recv_ml 6) fun _ => Tri.done

theorem part71 (w1 w2 w3 : BitVec 32) :
    Tri (cont I) K c (Rb (cont I) c (owedX c 75) 67 R) (on (k0_part71 (F := F)) c w1 w2 w3)
      (fun _ => Rb (cont I) c (owedX c 75) 70 R) := by
  rw [k0_part71_eq_skeleton]; unfold k0_part71_skel
  exact Tri.bind (recv_ml 7) fun _ => Tri.bind (recv_ml 8) fun _ => Tri.bind (recv_ml 9) fun _ => Tri.done

theorem part72 (w1 w2 w3 : BitVec 32) :
    Tri (cont I) K c (Rb (cont I) c (owedX c 75) 70 R) (on (k0_part72 (F := F)) c w1 w2 w3)
      (fun _ => Rb (cont I) c (owedX c 75) 74 R) := by
  rw [k0_part72_eq_skeleton]; unfold k0_part72_skel
  exact Tri.bind (recv_ml 10) fun _ => Tri.bind (recv_ml 11) fun _ => Tri.bind (recv_ml 12) fun _ => Tri.bind (recv_ml 13) fun _ =>
    Tri.done

theorem part73 (w1 w2 w3 : BitVec 32) :
    Tri (cont I) K c (Rb (cont I) c (owedX c 75) 74 iprop(Kc c ∗ Own I c ∗ Arg I c ∗ R)) (on (k0_part73 (F := F)) c w1 w2 w3)
      (fun r => iprop(⌜r = ⟨rlL' I c, k0_pay114 (ownO I c), ownL I c, k0_pay116 (rmL' I c) (ownM I c), k0_pay117 (rmL' I c) (ownM I c), k0_pay118 (roL' I c) (rmL' I c) (ownM I c), k0_pay119 (rmL' I c) (ownM I c)⟩⌝ ∗ Mg I c R)) := by
  rw [k0_part73_eq_skeleton]; unfold k0_part73_skel
  exact Tri.bind (recv_ml 14) fun _ => Tri.cut load_ro <| Tri.cut load_rm <| Tri.cut load_rl <|
    Tri.cut load_oo <| Tri.cut load_om <| Tri.cut load_ol <| Tri.value

end Cert.KernelIdeal.Mesh

end
-- ==== Proof.KernelIdeal.PartsSent.lean ====
/-
The parts of the kernel that wait for its sends.
-/
module

public import proofs.«01_k».proof.Proof.KernelIdeal.Merge

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Dev nD → Ins F} {c : Dev nD} {Q R : sProp (MT nD τ sig Unit (Elt F) ℕ UU ℕ)} {K : Dev nD × KI → ℕ}

theorem part89 :
    Tri (cont I) K c (Wb (cont I) c 0 R) (on (k0_part89 (F := F)) c)
      (fun _ => Wb (cont I) c 3 R) := by
  rw [k0_part89_eq_skeleton]; unfold k0_part89_skel
  exact Tri.bind (sent_o 0 0) fun _ => Tri.bind (sent_o 0 1) fun _ => Tri.bind (sent_o 0 2) fun _ => Tri.done

theorem part90 :
    Tri (cont I) K c (Wb (cont I) c 3 R) (on (k0_part90 (F := F)) c)
      (fun _ => Wb (cont I) c 7 R) := by
  rw [k0_part90_eq_skeleton]; unfold k0_part90_skel
  exact Tri.bind (sent_o 0 3) fun _ => Tri.bind (sent_o 0 4) fun _ => Tri.bind (sent_o 0 5) fun _ => Tri.bind (sent_o 0 6) fun _ =>
    Tri.done

theorem part91 :
    Tri (cont I) K c (Wb (cont I) c 7 R) (on (k0_part91 (F := F)) c)
      (fun _ => Wb (cont I) c 10 R) := by
  rw [k0_part91_eq_skeleton]; unfold k0_part91_skel
  exact Tri.bind (sent_o 0 7) fun _ => Tri.bind (sent_o 0 8) fun _ => Tri.bind (sent_o 0 9) fun _ => Tri.done

theorem part92 :
    Tri (cont I) K c (Wb (cont I) c 10 R) (on (k0_part92 (F := F)) c)
      (fun _ => Wb (cont I) c 13 R) := by
  rw [k0_part92_eq_skeleton]; unfold k0_part92_skel
  exact Tri.bind (sent_o 0 10) fun _ => Tri.bind (sent_o 0 11) fun _ => Tri.bind (sent_o 0 12) fun _ => Tri.done

theorem part93 :
    Tri (cont I) K c (Wb (cont I) c 13 R) (on (k0_part93 (F := F)) c)
      (fun _ => Wb (cont I) c 17 R) := by
  rw [k0_part93_eq_skeleton]; unfold k0_part93_skel
  exact Tri.bind (sent_o 0 13) fun _ => Tri.bind (sent_o 0 14) fun _ => Tri.bind (sent_o 1 0) fun _ => Tri.bind (sent_o 1 1) fun _ =>
    Tri.done

theorem part94 :
    Tri (cont I) K c (Wb (cont I) c 17 R) (on (k0_part94 (F := F)) c)
      (fun _ => Wb (cont I) c 20 R) := by
  rw [k0_part94_eq_skeleton]; unfold k0_part94_skel
  exact Tri.bind (sent_o 1 2) fun _ => Tri.bind (sent_o 1 3) fun _ => Tri.bind (sent_o 1 4) fun _ => Tri.done

theorem part95 :
    Tri (cont I) K c (Wb (cont I) c 20 R) (on (k0_part95 (F := F)) c)
      (fun _ => Wb (cont I) c 23 R) := by
  rw [k0_part95_eq_skeleton]; unfold k0_part95_skel
  exact Tri.bind (sent_o 1 5) fun _ => Tri.bind (sent_o 1 6) fun _ => Tri.bind (sent_o 1 7) fun _ => Tri.done

theorem part96 :
    Tri (cont I) K c (Wb (cont I) c 23 R) (on (k0_part96 (F := F)) c)
      (fun _ => Wb (cont I) c 27 R) := by
  rw [k0_part96_eq_skeleton]; unfold k0_part96_skel
  exact Tri.bind (sent_o 1 8) fun _ => Tri.bind (sent_o 1 9) fun _ => Tri.bind (sent_o 1 10) fun _ => Tri.bind (sent_o 1 11) fun _ =>
    Tri.done

theorem part97 :
    Tri (cont I) K c (Wb (cont I) c 27 R) (on (k0_part97 (F := F)) c)
      (fun _ => Wb (cont I) c 30 R) := by
  rw [k0_part97_eq_skeleton]; unfold k0_part97_skel
  exact Tri.bind (sent_o 1 12) fun _ => Tri.bind (sent_o 1 13) fun _ => Tri.bind (sent_o 1 14) fun _ => Tri.done

theorem part98 :
    Tri (cont I) K c (Wb (cont I) c 30 R) (on (k0_part98 (F := F)) c)
      (fun _ => Wb (cont I) c 33 R) := by
  rw [k0_part98_eq_skeleton]; unfold k0_part98_skel
  exact Tri.bind (sent_o 2 0) fun _ => Tri.bind (sent_o 2 1) fun _ => Tri.bind (sent_o 2 2) fun _ => Tri.done

theorem part99 :
    Tri (cont I) K c (Wb (cont I) c 33 R) (on (k0_part99 (F := F)) c)
      (fun _ => Wb (cont I) c 37 R) := by
  rw [k0_part99_eq_skeleton]; unfold k0_part99_skel
  exact Tri.bind (sent_o 2 3) fun _ => Tri.bind (sent_o 2 4) fun _ => Tri.bind (sent_o 2 5) fun _ => Tri.bind (sent_o 2 6) fun _ =>
    Tri.done

theorem part100 :
    Tri (cont I) K c (Wb (cont I) c 37 R) (on (k0_part100 (F := F)) c)
      (fun _ => Wb (cont I) c 40 R) := by
  rw [k0_part100_eq_skeleton]; unfold k0_part100_skel
  exact Tri.bind (sent_o 2 7) fun _ => Tri.bind (sent_o 2 8) fun _ => Tri.bind (sent_o 2 9) fun _ => Tri.done

theorem part101 :
    Tri (cont I) K c (Wb (cont I) c 40 R) (on (k0_part101 (F := F)) c)
      (fun _ => Wb (cont I) c 43 R) := by
  rw [k0_part101_eq_skeleton]; unfold k0_part101_skel
  exact Tri.bind (sent_o 2 10) fun _ => Tri.bind (sent_o 2 11) fun _ => Tri.bind (sent_o 2 12) fun _ => Tri.done

theorem part102 :
    Tri (cont I) K c (Wb (cont I) c 43 R) (on (k0_part102 (F := F)) c)
      (fun _ => Wb (cont I) c 47 R) := by
  rw [k0_part102_eq_skeleton]; unfold k0_part102_skel
  exact Tri.bind (sent_o 2 13) fun _ => Tri.bind (sent_o 2 14) fun _ => Tri.bind (sent_o 3 0) fun _ => Tri.bind (sent_o 3 1) fun _ =>
    Tri.done

theorem part103 :
    Tri (cont I) K c (Wb (cont I) c 47 R) (on (k0_part103 (F := F)) c)
      (fun _ => Wb (cont I) c 50 R) := by
  rw [k0_part103_eq_skeleton]; unfold k0_part103_skel
  exact Tri.bind (sent_o 3 2) fun _ => Tri.bind (sent_o 3 3) fun _ => Tri.bind (sent_o 3 4) fun _ => Tri.done

theorem part104 :
    Tri (cont I) K c (Wb (cont I) c 50 R) (on (k0_part104 (F := F)) c)
      (fun _ => Wb (cont I) c 53 R) := by
  rw [k0_part104_eq_skeleton]; unfold k0_part104_skel
  exact Tri.bind (sent_o 3 5) fun _ => Tri.bind (sent_o 3 6) fun _ => Tri.bind (sent_o 3 7) fun _ => Tri.done

theorem part105 :
    Tri (cont I) K c (Wb (cont I) c 53 R) (on (k0_part105 (F := F)) c)
      (fun _ => Wb (cont I) c 57 R) := by
  rw [k0_part105_eq_skeleton]; unfold k0_part105_skel
  exact Tri.bind (sent_o 3 8) fun _ => Tri.bind (sent_o 3 9) fun _ => Tri.bind (sent_o 3 10) fun _ => Tri.bind (sent_o 3 11) fun _ =>
    Tri.done

theorem part106 :
    Tri (cont I) K c (Wb (cont I) c 57 R) (on (k0_part106 (F := F)) c)
      (fun _ => Wb (cont I) c 60 R) := by
  rw [k0_part106_eq_skeleton]; unfold k0_part106_skel
  exact Tri.bind (sent_o 3 12) fun _ => Tri.bind (sent_o 3 13) fun _ => Tri.bind (sent_o 3 14) fun _ => Tri.done

theorem part107 :
    Tri (cont I) K c (Wb (cont I) c 60 R) (on (k0_part107 (F := F)) c)
      (fun _ => Wb (cont I) c 64 R) := by
  rw [k0_part107_eq_skeleton]; unfold k0_part107_skel
  exact Tri.bind (sent_ml 0) fun _ => Tri.bind (sent_ml 1) fun _ => Tri.bind (sent_ml 2) fun _ => Tri.bind (sent_ml 3) fun _ =>
    Tri.done

theorem part108 :
    Tri (cont I) K c (Wb (cont I) c 64 R) (on (k0_part108 (F := F)) c)
      (fun _ => Wb (cont I) c 68 R) := by
  rw [k0_part108_eq_skeleton]; unfold k0_part108_skel
  exact Tri.bind (sent_ml 4) fun _ => Tri.bind (sent_ml 5) fun _ => Tri.bind (sent_ml 6) fun _ => Tri.bind (sent_ml 7) fun _ =>
    Tri.done

theorem part109 :
    Tri (cont I) K c (Wb (cont I) c 68 R) (on (k0_part109 (F := F)) c)
      (fun _ => Wb (cont I) c 72 R) := by
  rw [k0_part109_eq_skeleton]; unfold k0_part109_skel
  exact Tri.bind (sent_ml 8) fun _ => Tri.bind (sent_ml 9) fun _ => Tri.bind (sent_ml 10) fun _ => Tri.bind (sent_ml 11) fun _ =>
    Tri.done

theorem part110 :
    Tri (cont I) K c (Wb (cont I) c 72 R) (on (k0_part110 (F := F)) c)
      (fun _ => Wb (cont I) c 77 R) := by
  rw [k0_part110_eq_skeleton]; unfold k0_part110_skel
  exact Tri.bind (sent_ml 12) fun _ => Tri.bind (sent_ml 13) fun _ => Tri.bind (sent_ml 14) fun _ => Tri.bind (sent_fb 0) fun _ =>
    Tri.bind (sent_fb 1) fun _ => Tri.done

theorem part111 :
    Tri (cont I) K c (Wb (cont I) c 77 R) (on (k0_part111 (F := F)) c)
      (fun _ => Wb (cont I) c 82 R) := by
  rw [k0_part111_eq_skeleton]; unfold k0_part111_skel
  exact Tri.bind (sent_fb 2) fun _ => Tri.bind (sent_fb 3) fun _ => Tri.bind (sent_fb 4) fun _ => Tri.bind (sent_fb 5) fun _ =>
    Tri.bind (sent_fb 6) fun _ => Tri.done

theorem part112 :
    Tri (cont I) K c (Wb (cont I) c 82 R) (on (k0_part112 (F := F)) c)
      (fun _ => Wb (cont I) c 87 R) := by
  rw [k0_part112_eq_skeleton]; unfold k0_part112_skel
  exact Tri.bind (sent_fb 7) fun _ => Tri.bind (sent_fb 8) fun _ => Tri.bind (sent_fb 9) fun _ => Tri.bind (sent_fb 10) fun _ =>
    Tri.bind (sent_fb 11) fun _ => Tri.done

end Cert.KernelIdeal.Mesh

end
-- ==== Proof.KernelIdeal.Body.lean ====
/-
The kernel's whole body on one device: its parts, one after the other.
-/
module

public import proofs.«01_k».proof.Proof.KernelIdeal.PartsOut
public import proofs.«01_k».proof.Proof.KernelIdeal.PartsRecv
public import proofs.«01_k».proof.Proof.KernelIdeal.PartsSent

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Dev nD → Ins F} {c : Dev nD} {Q R : sProp (MT nD τ sig Unit (Elt F) ℕ UU ℕ)} {K : Dev nD × KI → ℕ}

/-- What is kept through the sends for the phases after them. -/
def After (c : Dev nD) : sProp 𝕄 := iprop(FA c ∗ X0 c ∗ AtS c ∗ semVal (barCell c) 0)

/-- The barrier's counter, back with the device, set behind what the later phases take first. -/
theorem order_begin : St I c iprop(semVal (barCell c) 0 ∗ Rv (cont I) c 0 ∗ FA c ∗ X0 c ∗ AtS c) 0 ⊢ St I c iprop(Rv (cont I) c 0 ∗ After c) 0 := by
  unfold St After
  iintro ⟨H1, H2, H3, Hz, HR, HF, HX, HA⟩
  isplitl [H1]; · iexact H1
  isplitl [H2]; · iexact H2
  isplitl [H3]; · iexact H3
  isplitl [HR]; · iexact HR
  isplitl [HF]; · iexact HF
  isplitl [HX]; · iexact HX
  isplitl [HA]; · iexact HA
  iexact Hz

/-- The barrier, the batches and their sends, and the first of the waits. -/
theorem first_half :
    Tri (cont I) K c iprop(Sig c 0 ∗ Kept c ∗ Arg I c ∗ Todo I c 0 ∗ Rv (cont I) c 0 ∗ FA c ∗ X0 c ∗ AtS c) (on (k0_part113 (F := F)))
      (fun r => iprop(⌜r.1 = c⌝ ∗ Rb (cont I) c (owedX c 75) 37 iprop(Kc c ∗ Own I c ∗ Arg I c ∗ After c))) := by
  rw [k0_part113_eq_skeleton]; unfold k0_part113_skel
  refine Tri.known (part1) ?_
  rintro _ ⟨_, _, _, rfl⟩
  refine Tri.bind (part2 _ _ _) fun ⟨_, _⟩ => ?_
  refine Tri.known (part3 _ _ _) ?_
  rintro _ ⟨_, rfl⟩
  refine Tri.pre order_begin ?_
  refine Tri.cut (part4 _ _) ?_
  refine Tri.bind (part5 _ _ _ _ _ _ _ _ _ _ _ _ _ _ _ (ho := rfl) (hm := rfl)) fun _ => ?_
  refine Tri.bind (part6 _ _) fun ⟨_, _⟩ => ?_
  refine Tri.bind (part7 _ _) fun ⟨_, _⟩ => ?_
  refine Tri.bind (part8 _ _) fun ⟨_, _, _⟩ => ?_
  refine Tri.bind (part9 _ _) fun ⟨_, _⟩ => ?_
  refine Tri.bind (part10 _) fun ⟨_, _⟩ => ?_
  refine Tri.bind (part11 _) fun ⟨_, _⟩ => ?_
  refine Tri.bind (part12 _) fun ⟨_, _⟩ => ?_
  refine Tri.cut (part13 _) ?_
  refine Tri.cut (part14 _ _ _ _ _ _ _) ?_
  refine Tri.bind (part15 _ _ _ _ _ _ _ _ _ _ _ _ _ _ _ _ _ _ (ho := o_second _ _ _ _ _ _) (hm := ml_second _ _ _ _)) fun ⟨_, _⟩ => ?_
  refine Tri.bind (part16 _) fun ⟨_, _⟩ => ?_
  refine Tri.bind (part17 _) fun ⟨_, _⟩ => ?_
  refine Tri.bind (part18 _) fun ⟨_, _⟩ => ?_
  refine Tri.bind (part19 _) fun ⟨_, _⟩ => ?_
  refine Tri.bind (part20 _) fun ⟨_, _⟩ => ?_
  refine Tri.bind (part21 _) fun ⟨_, _⟩ => ?_
  refine Tri.known (part22 _ _) ?_
  rintro _ ⟨_, rfl⟩
  refine Tri.cut (part23 _ _ _) ?_
  refine Tri.bind (part24 _ _ _ _ _ _ _ _ _ _ _ _ _ _ _ _ _ (ho := o_third _ _ _ _ _ _) (hm := ml_third _ _ _ _)) fun _ => ?_
  refine Tri.bind (part25 _) fun ⟨_, _⟩ => ?_
  refine Tri.bind (part26 _) fun ⟨_, _⟩ => ?_
  refine Tri.bind (part27 _) fun ⟨_, _⟩ => ?_
  refine Tri.bind (part28 _) fun ⟨_, _, _⟩ => ?_
  refine Tri.bind (part29 _ _) fun ⟨_, _, _⟩ => ?_
  refine Tri.bind (part30 _ _) fun ⟨_, _⟩ => ?_
  refine Tri.known (part31 _ _ _) ?_
  rintro _ ⟨_, rfl⟩
  refine Tri.cut (part32 _ _) ?_
  refine Tri.bind (part33 _ _ _ _ _ _ _ _ _ _ _ _ _ _ (ho := o_fourth _ _ _ _ _ _) (hm := ml_fourth _ _ _ _)) fun _ => ?_
  refine Tri.bind (part34 _ _) fun ⟨_, _, _, _⟩ => ?_
  refine Tri.bind (part35 _ _ _) fun ⟨_, _, _, _⟩ => ?_
  refine Tri.bind (part36 _ _ _) fun ⟨_, _⟩ => ?_
  refine Tri.bind (part37 _ _) fun ⟨_, _⟩ => ?_
  refine Tri.bind (part38 _ _) fun ⟨_, _⟩ => ?_
  refine Tri.bind (part39 _ _) fun ⟨_, _, _⟩ => ?_
  refine Tri.bind (part40 _ _) fun ⟨_, _⟩ => ?_
  refine Tri.bind (part41 _) fun ⟨_, _⟩ => ?_
  refine Tri.bind (part42 _) fun ⟨_, _, _⟩ => ?_
  refine Tri.bind (part43 _ _) fun ⟨_, _, _, _⟩ => ?_
  refine Tri.bind (part44 _ _ _) fun ⟨_, _⟩ => ?_
  refine Tri.bind (part45 _) fun ⟨_, _⟩ => ?_
  refine Tri.bind (part46 _) fun ⟨_, _, _⟩ => ?_
  refine Tri.bind (part47 _ _ _) fun _ => ?_
  refine Tri.pre recv_begin ?_
  refine Tri.bind (part48 _ _ _) fun _ => ?_
  refine Tri.bind (part49 _ _ _) fun _ => ?_
  refine Tri.bind (part50 _ _ _) fun _ => ?_
  refine Tri.bind (part51 _ _ _) fun _ => ?_
  refine Tri.bind (part52 _ _ _) fun _ => ?_
  refine Tri.bind (part53 _ _ _) fun _ => ?_
  refine Tri.bind (part54 _ _ _) fun _ => ?_
  refine Tri.bind (part55 _ _ _) fun _ => ?_
  refine Tri.bind (part56 _ _ _) fun _ => ?_
  refine Tri.bind (part57 _ _ _) fun _ => ?_
  refine Tri.bind (part58 _ _ _) fun _ => ?_
  refine Tri.bind (part59 _ _ _) fun _ => ?_
  refine Tri.bind (part60 _ _ _) fun _ => ?_
  exact Tri.fact rfl

/-- The rest of the waits, the merge, the finished rows out and in, and most of the sends' ends. -/
theorem second_half (w1 w2 w3 w4 w5 w6 w7 w8 w9 w10 w11 w12 w13 w14 w15 w16 w17 w18 w19 w20 w21 w22 w23 w24 w25 w26 w27 w28 w29 w30 w31 w32 w33 w34 w35 w36 w37 w38 w39 : BitVec 32) :
    Tri (cont I) K c (Rb (cont I) c (owedX c 75) 37 iprop(Kc c ∗ Own I c ∗ Arg I c ∗ After c)) (on (k0_part114 (F := F)) c w1 w2 w3 w4 w5 w6 w7 w8 w9 w10 w11 w12 w13 w14 w15 w16 w17 w18 w19 w20 w21 w22 w23 w24 w25 w26 w27 w28 w29 w30 w31 w32 w33 w34 w35 w36 w37 w38 w39)
      (fun _ => Wb (cont I) c 87 (Ends I c (semVal (barCell c) 0))) := by
  rw [k0_part114_eq_skeleton]; unfold k0_part114_skel After
  refine Tri.bind (part61 _ _ _) fun _ => ?_
  refine Tri.bind (part62 _ _ _) fun _ => ?_
  refine Tri.bind (part63 _ _ _) fun _ => ?_
  refine Tri.bind (part64 _ _ _) fun _ => ?_
  refine Tri.bind (part65 _ _ _) fun _ => ?_
  refine Tri.bind (part66 _ _ _) fun _ => ?_
  refine Tri.bind (part67 _ _ _) fun _ => ?_
  refine Tri.bind (part68 _ _ _) fun _ => ?_
  refine Tri.bind (part69 _ _ _) fun _ => ?_
  refine Tri.bind (part70 _ _ _ _ _) fun _ => ?_
  refine Tri.bind (part71 _ _ _) fun _ => ?_
  refine Tri.bind (part72 _ _ _) fun _ => ?_
  refine Tri.cut (part73 _ _ _) ?_
  refine Tri.known (part74 _ _ _ _ _ _ _ _ _ (hs := rfl)) ?_
  rintro _ ⟨_, rfl⟩
  refine Tri.bind (part75 _) fun ⟨_, _, _⟩ => ?_
  refine Tri.bind (part76 _) fun ⟨_, _, _, _⟩ => ?_
  refine Tri.bind (part77 _ _) fun ⟨_, _, _⟩ => ?_
  refine Tri.bind (part78 _ _) fun ⟨_, _, _⟩ => ?_
  refine Tri.bind (part79 _ _) fun ⟨_, _, _⟩ => ?_
  refine Tri.bind (part80 _ _ _ _ _ (hf := rfl)) fun _ => ?_
  refine Tri.bind (part81 _ _ _ _) fun _ => ?_
  refine Tri.cut (part82 _ _) ?_
  refine Tri.bind (part83 _ _ _ _ (hv := rfl)) fun ⟨_, _⟩ => ?_
  refine Tri.bind (part84 _ _ _ _ _) fun _ => ?_
  refine Tri.bind (part85 _ _ _) fun _ => ?_
  refine Tri.known (part86 _ _ _) ?_
  rintro _ ⟨_, rfl⟩
  refine Tri.bind (part87 _ _ _ _ _ (hv := rfl)) fun _ => ?_
  refine Tri.bind (part88 _ _ _) fun _ => ?_
  refine Tri.pre sent_begin ?_
  refine Tri.bind (part89) fun _ => ?_
  refine Tri.bind (part90) fun _ => ?_
  refine Tri.bind (part91) fun _ => ?_
  refine Tri.bind (part92) fun _ => ?_
  refine Tri.bind (part93) fun _ => ?_
  refine Tri.bind (part94) fun _ => ?_
  refine Tri.bind (part95) fun _ => ?_
  refine Tri.bind (part96) fun _ => ?_
  refine Tri.bind (part97) fun _ => ?_
  refine Tri.bind (part98) fun _ => ?_
  refine Tri.bind (part99) fun _ => ?_
  refine Tri.bind (part100) fun _ => ?_
  refine Tri.bind (part101) fun _ => ?_
  refine Tri.bind (part102) fun _ => ?_
  refine Tri.bind (part103) fun _ => ?_
  refine Tri.bind (part104) fun _ => ?_
  refine Tri.bind (part105) fun _ => ?_
  refine Tri.bind (part106) fun _ => ?_
  refine Tri.bind (part107) fun _ => ?_
  refine Tri.bind (part108) fun _ => ?_
  refine Tri.bind (part109) fun _ => ?_
  refine Tri.bind (part110) fun _ => ?_
  refine Tri.bind (part111) fun _ => ?_
  refine Tri.bind (part112) fun _ => ?_
  exact Tri.done

/-- The body. -/
theorem body_tri :
    Tri (cont I) K c iprop(Sig c 0 ∗ Kept c ∗ Arg I c ∗ Todo I c 0 ∗ Rv (cont I) c 0 ∗ FA c ∗ X0 c ∗ AtS c) (on (cc0_body (F := F)))
      (fun _ => Wb (cont I) c 90 (Ends I c (semVal (barCell c) 0))) := by
  rw [cc0_body_eq_skeleton]; unfold cc0_body_skel
  refine Tri.known first_half ?_
  rintro ⟨d0, w1, w2, w3, w4, w5, w6, w7, w8, w9, w10, w11, w12, w13, w14, w15, w16, w17, w18, w19, w20, w21, w22, w23, w24, w25, w26, w27, w28, w29, w30, w31, w32, w33, w34, w35, w36, w37, w38, w39⟩ (h : d0 = c)
  subst h
  refine Tri.bind (second_half w1 w2 w3 w4 w5 w6 w7 w8 w9 w10 w11 w12 w13 w14 w15 w16 w17 w18 w19 w20 w21 w22 w23 w24 w25 w26 w27 w28 w29 w30 w31 w32 w33 w34 w35 w36 w37 w38 w39) fun _ => ?_
  exact Tri.bind (sent_fb 12) fun _ => Tri.bind (sent_fb 13) fun _ => Tri.bind (sent_fb 14) fun _ => Tri.done

end Cert.KernelIdeal.Mesh

end
-- ==== Proof.KernelIdeal.Edges.lean ====
/-
A device's memory before the kernel's body cut up into the pieces the body works on, and put together again after it.
-/
module

public import proofs.«01_k».proof.Proof.KernelIdeal.Merge

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (c : Dev nD) (Q : sProp (MT nD τ sig Unit (Elt F) ℕ UU ℕ))

/-! ## Conjunctions over the hops and over the cells -/

omit [FloatOps F] in
/-- The hops in either order. -/
theorem bigSep_rev (Φ : Fin 15 → sProp 𝕄) : (bigSep Finset.univ fun j => Φ (rev j)) = bigSep Finset.univ Φ :=
  (bigSep_univ_equiv revEquiv Φ).symm

omit [FloatOps F] in
/-- A device's cells: its barrier, its sending ones, its receiving ones. -/
theorem bigSep_KI (Φ : KI → sProp 𝕄) : bigSep Finset.univ Φ
    = iprop(Φ none ∗ (bigSep Finset.univ fun x => Φ (some (false, x))) ∗ bigSep Finset.univ fun x => Φ (some (true, x))) := by
  have h : (bigSep Finset.univ fun y : Bool × Item => Φ (some y))
      = iprop((bigSep Finset.univ fun x => Φ (some (false, x))) ∗ bigSep Finset.univ fun x => Φ (some (true, x))) := by
    rw [bigSep_univ_prod]
    exact bigSep_univ_eq_bigSepL [false, true] (by decide) (by decide) fun b => bigSep Finset.univ fun x : Item => Φ (some (b, x))
  rw [← h, show (Finset.univ : Finset KI) = insert none (Finset.univ.map Function.Embedding.some) from by
    ext k; cases k <;> simp]
  rw [bigSep_ins (by simp), bigSep_map]
  rfl

omit [FloatOps F] in
/-- All transfers: the batches', the maxima and sums', the finished rows'. -/
theorem bigSep_items (Φ : Item → sProp 𝕄) : bigSep Finset.univ Φ
    = iprop(((bigSep Finset.univ fun y : Fin 4 × Fin 15 => Φ (kb y.1, y.2)) ∗ bigSep Finset.univ fun j : Fin 15 => Φ (4, j))
      ∗ bigSep Finset.univ fun j : Fin 15 => Φ (5, j)) := by
  rw [← gone_all rk_lt Φ, gone_six, gone_five]

omit [FloatOps F] in
theorem all_ex {J : Type} [Fintype J] {α : Type} {Φ : J → α → sProp 𝕄} {f : α} : (bigSep Finset.univ fun j => Φ j f) ⊢ bigSep Finset.univ fun j => iprop(∃ f, Φ j f) := by
  refine bigSep_mono fun j _ => ?_
  show (_ : sProp 𝕄) ⊢ _
  iintro H
  iexists f
  iexact H

/-! ## Before -/

/-- The kernel's own buffers, each at some contents. -/
def Bufs : sProp 𝕄 := iprop((∃ f, oL c ↦[Finset.univ]{fullShare} f) ∗ (∃ f, mlL c ↦[Finset.univ]{fullShare} f) ∗ (∃ f, roL c ↦[Finset.univ]{fullShare} f)
  ∗ (∃ f, rmL c ↦[Finset.univ]{fullShare} f) ∗ (∃ f, fbL c ↦[Finset.univ]{fullShare} f))

omit [FloatOps F] in
theorem slots_o (f : Vec F S15x4x16x8x128 .bf16) : (roL c ↦[Finset.univ]{fullShare} f : sProp 𝕄) ⊢ bigSep Finset.univ fun y : Fin 4 × Fin 15 => slotAny c (kb y.1, y.2) := by
  rw [ro_all, bigSep_univ_equiv (Equiv.prodComm (Fin 4) (Fin 15))]
  refine bigSep_mono fun y _ => ?_
  unfold slotAny
  rw [if_pos y.1.isLt]
  show (_ : sProp 𝕄) ⊢ _
  iintro H; iexists f; iexact H

omit [FloatOps F] in
theorem slots_ml (f : Vec F S15x4x16x16 .f32) : (rmL c ↦[Finset.univ]{fullShare} f : sProp 𝕄) ⊢ bigSep Finset.univ fun j : Fin 15 => slotAny c (4, j) := by
  rw [rm_all]
  refine bigSep_mono fun y _ => ?_
  unfold slotAny
  rw [if_neg (by show ¬ (4 : ℕ) < 4; omega), if_pos (by show (4 : ℕ) = 4; omega)]
  show (_ : sProp 𝕄) ⊢ _
  iintro H; iexists f; iexact H

omit [FloatOps F] in
theorem slots_fb (f : Vec F S4x256x1024 .bf16) : (fbL c ↦[Finset.univ]{fullShare} f : sProp 𝕄) ⊢ iprop(FA c ∗ bigSep Finset.univ fun j : Fin 15 => slotAny c (5, j)) := by
  rw [fb_all, bigSep_dev c, ← bigSep_rev]
  refine BI.sep_mono ?_ (bigSep_mono fun y _ => ?_)
  · unfold FA
    show (_ : sProp 𝕄) ⊢ _
    iintro H; iexists f; iexact H
  · unfold slotAny
    rw [if_neg (by show ¬ (5 : ℕ) < 4; omega), if_neg (by show ¬ (5 : ℕ) = 4; omega)]
    show (_ : sProp 𝕄) ⊢ _
    iintro H; iexists f; iexact H

omit [FloatOps F] in
/-- The receiving buffers and the rows to be finished, cut into the landing places by hop. -/
theorem slots : iprop((∃ f, roL c ↦[Finset.univ]{fullShare} f) ∗ (∃ f, rmL c ↦[Finset.univ]{fullShare} f) ∗ (∃ f, fbL c ↦[Finset.univ]{fullShare} f))
    ⊢ (iprop(FA c ∗ bigSep Finset.univ fun j : Fin 15 => bigSep Finset.univ fun k : Fin 6 => slotAny c (k, rev j)) : sProp 𝕄) := by
  rw [bigSep_rev fun j => bigSep Finset.univ fun k : Fin 6 => slotAny c (k, j)]
  rw [show (bigSep Finset.univ fun j : Fin 15 => bigSep Finset.univ fun k : Fin 6 => (slotAny c (k, j) : sProp 𝕄)) = bigSep Finset.univ fun x : Item => slotAny c x from by
    rw [bigSep_univ_prod]; exact (bigSep_univ_comm _)]
  rw [bigSep_items]
  iintro ⟨⟨%f, Hf⟩, ⟨%g, Hg⟩, ⟨%h, Hh⟩⟩
  ihave Hf := (slots_o c f) $$ Hf
  ihave Hg := (slots_ml c g) $$ Hg
  ihave Hh := (slots_fb c h) $$ Hh
  icases Hh with ⟨HF, Hh⟩
  isplitl [HF]; · iexact HF
  isplitr [Hh]
  · isplitl [Hf]; · iexact Hf
    iexact Hg
  · iexact Hh

/-- The sending buffers, cut into the batches. -/
theorem todo_start : iprop((∃ f, oL c ↦[Finset.univ]{fullShare} f) ∗ (∃ f, mlL c ↦[Finset.univ]{fullShare} f)) ⊢ (Todo I c 0 : sProp 𝕄) := by
  unfold Todo
  rw [gone_zero, rest_zero]
  unfold OM
  rw [show (bigSep Finset.univ fun b : Fin 4 => (iprop((∃ f, oL c ↦[obSet b.val]{fullShare} f) ∗ (∃ f, mlL c ↦[mbSet b.val]{fullShare} f)) : sProp 𝕄))
    = iprop((bigSep Finset.univ fun b : Fin 4 => iprop(∃ f, oL c ↦[obSet b.val]{fullShare} f)) ∗ bigSep Finset.univ fun b : Fin 4 => iprop(∃ f, mlL c ↦[mbSet b.val]{fullShare} f)) from bigSep_sep _ _ _]
  iintro ⟨⟨%f, Hf⟩, ⟨%g, Hg⟩⟩
  ihave Hf := (Entails.of_eq (ob_all (F := F) c (q := fullShare) f)) $$ Hf
  ihave Hg := (Entails.of_eq (mb_all (F := F) c (q := fullShare) g)) $$ Hg
  isplitl
  · isplitl [Hf]
    · iapply (all_ex (Φ := fun (b : Fin 4) f => (oL c ↦[obSet b.val]{fullShare} f : sProp 𝕄)) (f := f)); iexact Hf
    · iapply (all_ex (Φ := fun (b : Fin 4) f => (mlL c ↦[mbSet b.val]{fullShare} f : sProp 𝕄)) (f := g)); iexact Hg
  · iempintro

omit [FloatOps F] in
/-- The result's rows by device. -/
theorem x_start (f : Vec F S4x256x1024 .f32) : (outL c ↦[Finset.univ]{fullShare} f : sProp 𝕄) ⊢ X0 c := by
  unfold X0 XA
  rw [out_all, bigSep_dev c, ← bigSep_rev]
  refine BI.sep_mono ?_ (bigSep_mono fun y _ => ?_)
  · show (_ : sProp 𝕄) ⊢ _
    iintro H; iexists f; iexact H
  · show (_ : sProp 𝕄) ⊢ _
    iintro H; iexists f; iexact H

/-- What a device is dealt for the whole kernel: its positions, the tokens of what it signals and sends, the credits it is
    launched with. -/
def Dealt : sProp 𝕄 := iprop((bigSep Finset.univ fun k : KI => atPos ER (kcell (c, k)) 0 ∅ 0)
  ∗ ((bigSep Finset.univ fun j : Fin 15 => dutyTok ER (barCell (peer c j)) 0 (rev j)) ∗ bigSep Finset.univ fun x => Tok c x)
  ∗ (cred (tallyAt (barCell c) () 15) ∗ bigSep Finset.univ fun x : Item => cred (tallyAt (rcvCell c x) () (NI x.1))))

/-- Everything the body starts from. -/
theorem body_start (f : Vec F S4x256x1024 .f32) :
    iprop(Owe c (O₀ c) ∗ Dealt c ∗ Bufs c ∗ Arg I c ∗ (outL c ↦[Finset.univ]{fullShare} f))
      ⊢ iprop(Sig c 0 ∗ Kept c ∗ Arg I c ∗ Todo I c 0 ∗ Rv (cont I) c 0 ∗ FA c ∗ X0 c ∗ AtS c) := by
  unfold Dealt Bufs
  iintro ⟨HO, ⟨Hat, ⟨Hbt, Htok⟩, Hcb, Hcr⟩, ⟨Ho, Hml, Hro, Hrm, Hfb⟩, HA, Hout⟩
  ihave Hat := (Entails.of_eq (bigSep_KI fun k : KI => (atPos ER (kcell (c, k)) 0 ∅ 0 : sProp 𝕄))) $$ Hat
  icases Hat with ⟨HatB, HatS, HatR⟩
  ihave Hsl := (slots (F := F) c) $$ [Hro Hrm Hfb]
  · isplitl [Hro]; · iexact Hro
    isplitl [Hrm]; · iexact Hrm
    iexact Hfb
  icases Hsl with ⟨HF, Hsl⟩
  ihave Htodo := (todo_start I c) $$ [Ho Hml]
  · isplitl [Ho]; · iexact Ho
    iexact Hml
  ihave HX := (x_start c f) $$ Hout
  isplitl [HO Hbt Hsl]
  · unfold Sig
    rw [rest_zero, show owedX c 0 + owedB c 0 = O₀ c from rfl]
    unfold Bt
    rw [show (bigSep Finset.univ fun j : Fin 15 => (iprop(dutyTok ER (barCell (peer c j)) 0 (rev j) ∗ bigSep Finset.univ fun k : Fin 6 => slotAny c (k, rev j)) : sProp 𝕄))
      = iprop((bigSep Finset.univ fun j : Fin 15 => dutyTok ER (barCell (peer c j)) 0 (rev j)) ∗ bigSep Finset.univ fun j : Fin 15 => bigSep Finset.univ fun k : Fin 6 => slotAny c (k, rev j)) from bigSep_sep _ _ _]
    isplitl [HO]; · iexact HO
    isplitl [Hbt]; · iexact Hbt
    iexact Hsl
  isplitl [Htok Hcb HatB]
  · unfold Kept
    isplitl [Htok]; · iexact Htok
    isplitl [Hcb]; · iexact Hcb
    iexact HatB
  isplitl [HA]; · iexact HA
  isplitl [Htodo]; · iexact Htodo
  isplitl [Hcr HatR]
  · unfold Rv
    rw [rest_zero, gone_zero]
    rw [show (bigSep Finset.univ fun x : Item => (iprop(cred (tallyAt (rcvCell c x) () (NI x.1)) ∗ atPos ER (rcvCell c x) 0 ∅ 0) : sProp 𝕄))
      = iprop((bigSep Finset.univ fun x : Item => cred (tallyAt (rcvCell c x) () (NI x.1))) ∗ bigSep Finset.univ fun x : Item => atPos ER (rcvCell c x) 0 ∅ 0) from bigSep_sep _ _ _]
    isplitl
    · isplitl [Hcr]; · iexact Hcr
      iexact HatR
    · iempintro
  isplitl [HF]; · iexact HF
  isplitl [HX]; · iexact HX
  unfold AtS; iexact HatS

/-! ## After -/

/-- The partial outputs' buffer, its rows back from the sends and its own. -/
theorem o_end : iprop((bigSep Finset.univ fun y : Fin 4 × Fin 15 => srcPts (cont I) c (kb y.1, y.2)) ∗ (oL c ↦[owSet c.val]{fullShare} obOf I c))
    ⊢ (oL c ↦[Finset.univ]{fullShare} obOf I c : sProp 𝕄) := by
  rw [ob_all, ow_batch, bigSep_univ_prod]
  rw [← show (bigSep Finset.univ fun b : Fin 4 => (iprop((bigSep Finset.univ fun j : Fin 15 => srcPts (cont I) c (kb b, j)) ∗ (oL c ↦[oSet b.val c.val]{fullShare} obOf I c)) : sProp 𝕄))
    = iprop((bigSep Finset.univ fun b : Fin 4 => bigSep Finset.univ fun j : Fin 15 => srcPts (cont I) c (kb b, j)) ∗ bigSep Finset.univ fun b : Fin 4 => (oL c ↦[oSet b.val c.val]{fullShare} obOf I c)) from bigSep_sep _ _ _]
  refine bigSep_mono fun b _ => ?_
  rw [ob_dev, bigSep_dev c]
  have h : (bigSep Finset.univ fun j : Fin 15 => srcPts (cont I) c (kb b, j)) = (bigSep Finset.univ fun j : Fin 15 => (oL c ↦[oSet b.val (peer c j).val]{fullShare} obOf I c : sProp 𝕄)) :=
    bigSep_congr fun j _ => by unfold srcPts; rw [if_pos b.isLt]; rfl
  rw [h]
  show (_ : sProp 𝕄) ⊢ _
  iintro ⟨H1, H2⟩
  isplitl [H2]; · iexact H2
  iexact H1

/-- The maxima and sums' likewise. -/
theorem ml_end : iprop((bigSep Finset.univ fun j : Fin 15 => srcPts (cont I) c (4, j)) ∗ (mlL c ↦[mlSet c.val]{fullShare} mlOf I c))
    ⊢ (mlL c ↦[Finset.univ]{fullShare} mlOf I c : sProp 𝕄) := by
  rw [ml_all, bigSep_dev c]
  have h : (bigSep Finset.univ fun j : Fin 15 => srcPts (cont I) c (4, j)) = (bigSep Finset.univ fun j : Fin 15 => (mlL c ↦[mlSet (peer c j).val]{fullShare} mlOf I c : sProp 𝕄)) :=
    bigSep_congr fun j _ => by unfold srcPts; rw [if_neg (by show ¬ (4 : ℕ) < 4; omega), if_pos (by show (4 : ℕ) = 4; omega)]; rfl
  rw [h]
  show (_ : sProp 𝕄) ⊢ _
  iintro ⟨H1, H2⟩
  isplitl [H2]; · iexact H2
  iexact H1

/-- The finished rows' buffer: the shares of its own rows, and the others' as received. -/
theorem fb_end : iprop((bigSep Finset.univ fun j : Fin 15 => srcPts (cont I) c (5, j)) ∗ Frem I c ∗ bigSep Finset.univ fun j : Fin 15 => landPts (cont I) c (5, j))
    ⊢ (fbL c ↦[Finset.univ]{fullShare} (cont I).fb : sProp 𝕄) := by
  rw [fb_all, bigSep_dev c, fb_shares, ← bigSep_rev fun j => (fbL c ↦[fbSet (peer c j).val]{fullShare} (cont I).fb : sProp 𝕄)]
  unfold Src
  rw [rest_zero]
  have h : (bigSep Finset.univ fun j : Fin 15 => landPts (cont I) c (5, j)) = (bigSep Finset.univ fun j : Fin 15 => (fbL c ↦[fbSet (peer c (rev j)).val]{fullShare} (cont I).fb : sProp 𝕄)) :=
    bigSep_congr fun j _ => by unfold landPts; rw [if_neg (by show ¬ (5 : ℕ) < 4; omega), if_neg (by show ¬ (5 : ℕ) = 4; omega)]
  rw [h]
  show (_ : sProp 𝕄) ⊢ _
  iintro ⟨H1, H2, H3⟩
  isplitr [H3]
  · isplitl [H2]; · iexact H2
    iexact H1
  · iexact H3

/-- The result's rows together. -/
theorem x_end : XS I c 15 ⊢ (outL c ↦[Finset.univ]{fullShare} outOf I c : sProp 𝕄) := by
  unfold XS
  rw [gone_all (fun j : Fin 15 => j.isLt), rest_none (fun j : Fin 15 => j.isLt), out_all, bigSep_dev c, bigSep_rev fun j => XD I c (peer c j)]
  unfold XD
  iintro ⟨H1, -, H2⟩
  isplitl [H1]; · iexact H1
  iexact H2

/-- Everything the body ends with. -/
theorem body_end : Wb (cont I) c 90 (Ends I c (semVal (barCell c) 0))
    ⊢ iprop(Owe c 0 ∗ Arg I c ∗ (outL c ↦[Finset.univ]{fullShare} outOf I c) ∗ Bufs c ∗ (bigSep Finset.univ fun k : KI => semVal (kcell (c, k)) 0)) := by
  unfold Wb Ends Sw Rv Own Bufs
  rw [rest_none rk_lt, rest_none rk_lt, gone_sep, gone_sep, gone_six, gone_five, gone_six (fun x => landPts (cont I) c x), arrived,
    gone_all rk_lt, gone_all rk_lt, bigSep_KI]
  iintro ⟨⟨HO, -, ⟨⟨Hs1, Hs2⟩, Hs3⟩, HvS⟩, ⟨-, ⟨⟨Hro, Hrm⟩, Hl3⟩, HvR⟩, HX, ⟨Ho, Hm⟩, HA, HF, HvB⟩
  isplitl [HO]; · iexact HO
  isplitl [HA]; · iexact HA
  isplitl [HX]; · iapply (x_end I c); iexact HX
  isplitr [HvS HvR HvB]
  · isplitl [Hs1 Ho]
    · iexists (obOf I c); iapply (o_end I c); isplitl [Hs1]; · iexact Hs1
      iexact Ho
    isplitl [Hs2 Hm]
    · iexists (mlOf I c); iapply (ml_end I c); isplitl [Hs2]; · iexact Hs2
      iexact Hm
    isplitl [Hro]; · iexists _; iexact Hro
    isplitl [Hrm]; · iexists _; iexact Hrm
    iexists (cont I).fb
    iapply (fb_end I c)
    isplitl [Hs3]; · iexact Hs3
    isplitl [HF]; · iexact HF
    iexact Hl3
  · isplitl [HvB]; · iexact HvB
    isplitl [HvS]; · iexact HvS
    iexact HvR

end Cert.KernelIdeal.Mesh

end
-- ==== Proof.KernelIdeal.Deal.lean ====
/-
What the launch makes of its ghost element and of the semaphores at zero: the cells' invariants, each device's places,
tokens and credits.
-/
module

public import proofs.«01_k».proof.Proof.KernelIdeal.Edges

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Γ : Cont F)

/-! ## What the launch mints -/

def meshCells : Finset (GSem nD τ sig) := Finset.univ.map ⟨kcell, kcell_inj⟩

/-- A token of every duty number at every cell: only some are used. -/
def tokOf (y : (Dev nD × KI) × Fin 15) : GSem nD τ sig × ℕ × Fin 15 := (kcell y.1, 0, y.2)
theorem tokOf_inj : Function.Injective tokOf := by
  rintro ⟨a, d⟩ ⟨a', d'⟩ h
  have h1 : kcell a = kcell a' := congrArg Prod.fst h
  have h2 : d = d' := congrArg (fun z : GSem nD τ sig × ℕ × Fin 15 => z.2.2) h
  rw [kcell_inj h1, h2]
def meshToks : Finset (GSem nD τ sig × ℕ × Fin 15) := Finset.univ.map ⟨tokOf, tokOf_inj⟩

def u₀ : UU := (initOf (Pipeline.cells cfgs cellOf_inj) (Pipeline.launchToks cfgs cellOf_inj), initOf meshCells meshToks)

/-- A device's own cells' tokens as minted; -/
def Minted (c : Dev nD) : sProp 𝕄 := bigSep Finset.univ fun k : KI => bigSep Finset.univ fun d : Fin 15 => dutyTok ER (kcell (c, k)) 0 d
/-- and the tokens a device pays with. -/
def Pays (c : Dev nD) : sProp 𝕄 :=
  iprop((bigSep Finset.univ fun j : Fin 15 => dutyTok ER (barCell (peer c j)) 0 (rev j)) ∗ bigSep Finset.univ fun x => Tok c x)

/-- A device's places in its cells. -/
def Places (c : Dev nD) : sProp 𝕄 := bigSep Finset.univ fun k : KI => atPos ER (kcell (c, k)) 0 ∅ 0
/-- Its cells opened for round 0. -/
def Opened (c : Dev nD) : sProp 𝕄 := bigSep Finset.univ fun k : KI => reached ER (kcell (c, k)) 0

/-- What the launch's element gives device `c`. -/
def G (c : Dev nD) : sProp 𝕄 :=
  iprop((bigSep Finset.univ fun k : KI => roundState ER (Rd Γ) (kcell (c, k)) 0) ∗ (Places c ∗ Opened c) ∗ Minted c)

omit [FloatOps F] in
theorem over_cells (Φ : GSem nD τ sig → sProp 𝕄) :
    bigSep meshCells Φ = bigSep Finset.univ fun c : Dev nD => bigSep Finset.univ fun k : KI => Φ (kcell (c, k)) := by
  unfold meshCells; rw [bigSep_map, bigSep_univ_prod]; rfl

omit [FloatOps F] in
theorem over_toks : bigSep meshToks (fun x => (dutyTok ER x.1 x.2.1 x.2.2 : sProp 𝕄)) = bigSep Finset.univ fun c : Dev nD => Minted c := by
  unfold meshToks; rw [bigSep_map, bigSep_univ_prod, bigSep_univ_prod]; rfl

omit [FloatOps F] in
/-- The mesh's half of the launch's element, device by device. -/
theorem fund_mesh : BI.own (ER (initOf meshCells meshToks)) ⊢ (|==> bigSep Finset.univ (G Γ) : sProp 𝕄) := by
  iintro HX
  imod (Rounds.fund ER (Rd Γ) meshCells meshToks) $$ HX with ⟨Hst, Hr, Hat, Htok⟩
  imodintro
  ihave Hst' := (Entails.of_eq (over_cells fun g => roundState ER (Rd Γ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat']
    · unfold Places; iexact Hat'
    · unfold Opened; iexact Hr'
  iexact Htok'

/-! ## The semaphores at zero -/

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem own_eq (c : Dev nD) : (Pipeline.ownSems0 (Ix := Unit) (Name := ℕ) (U := UU) (Lvl := ℕ) (Val := Elt F) (τ := τ) osem c : sProp 𝕄)
    = iprop((bigSep Finset.univ fun x => semVal (sndCell c x) 0) ∗ bigSep Finset.univ fun x => semVal (rcvCell c x) 0) := by
  unfold Pipeline.ownSems0
  rw [bigSep_univ_prod]
  exact bigSep_univ_eq_bigSepL [false, true] (by decide) (by decide) fun b => bigSep Finset.univ fun x : Item => semVal ((c : Thread nD τ), osem (b, x)) 0

omit [FloatOps F] in
theorem sems_eq (c : Dev nD) : (bigSep Finset.univ fun k : KI => (semVal (kcell (c, k)) 0 : sProp 𝕄))
    = iprop(unscopedSems0 c ∗ Pipeline.ownSems0 (Ix := Unit) (Name := ℕ) (U := UU) (Lvl := ℕ) (Val := Elt F) (τ := τ) osem c) := by
  rw [bigSep_KI, own_eq, unscoped_eq]; rfl

omit [FloatOps F] in
/-- A device's cells, allocated. -/
theorem alloc (c : Dev nD) :
    iprop(Pipeline.ownSems0 (Ix := Unit) (Name := ℕ) (U := UU) (Lvl := ℕ) (Val := Elt F) (τ := τ) osem c ∗ unscopedSems0 c ∗ G Γ c)
      ⊢ |={Set.univ}=> iprop((bigSep Finset.univ fun k => iprop(∃ κ : ℕ, cellInv ER (Rd Γ) κ (kcell (c, k)))) ∗ (Places c ∗ Opened c) ∗ Minted c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : KI => semVal (kcell (c, k)) 0) ∗ bigSep Finset.univ fun k : KI => roundState ER (Rd Γ) (kcell (c, k)) 0)
      ⊢ (|={Set.univ}=> bigSep Finset.univ fun k => iprop(∃ κ : ℕ, cellInv ER (Rd Γ) κ (kcell (c, k))) : sProp 𝕄) from by
        rw [← bigSep_sep']
        exact (bigSep_mono fun k _ => (Rounds.body_intro ER (Rd Γ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

omit [FloatOps F] in
theorem minted_used (c : Dev nD) : (Minted c : sProp 𝕄) ⊢ iprop((bigSep Finset.univ fun d : Fin 15 => dutyTok ER (barCell c) 0 d)
    ∗ (bigSep Finset.univ fun x : Item => dutyTok ER (sndCell c x) 0 0) ∗ bigSep Finset.univ fun x : Item => dutyTok ER (rcvCell c x) 0 0) := by
  unfold Minted
  rw [bigSep_KI]
  refine BI.sep_mono (Entails.refl _) (BI.sep_mono (bigSep_mono fun x _ => ?_) (bigSep_mono fun x _ => ?_))
  · exact bigSep_elim (Φ := fun d => dutyTok ER (sndCell c x) 0 d) (Finset.mem_univ (0 : Fin 15))
  · exact bigSep_elim (Φ := fun d => dutyTok ER (rcvCell c x) 0 d) (Finset.mem_univ (0 : Fin 15))

omit [FloatOps F] in
/-- A family over the devices and the hops, each device's taken to where the hop leads. -/
theorem around {J : Type} [Fintype J] (h : J → Fin 15) (Φ : Dev nD → J → sProp 𝕄) :
    (bigSep Finset.univ fun c => bigSep Finset.univ fun j => Φ c j) = bigSep Finset.univ fun c => bigSep Finset.univ fun j => Φ (peer c (h j)) j := by
  rw [BI.bigSep_univ_comm, BI.bigSep_univ_comm (fun c j => Φ (peer c (h j)) j)]
  exact bigSep_congr fun j _ => bigSep_univ_equiv (peerEquiv (h j)) fun c => Φ c j

omit [FloatOps F] in
theorem pays_all : (bigSep Finset.univ fun c : Dev nD => (Minted c : sProp 𝕄)) ⊢ bigSep Finset.univ fun c : Dev nD => Pays c := by
  refine (bigSep_mono fun c _ => minted_used c).trans ?_
  unfold Pays Tok
  simp only [bigSep_sep']
  rw [← around (fun j : Fin 15 => j) fun c j => dutyTok ER (barCell c) 0 (rev j), ← around (fun x : Item => x.2) fun c x => dutyTok ER (rcvCell c x) 0 0]
  rw [show (bigSep Finset.univ fun c : Dev nD => bigSep Finset.univ fun j : Fin 15 => (dutyTok ER (barCell c) 0 (rev j) : sProp 𝕄))
    = bigSep Finset.univ fun c : Dev nD => bigSep Finset.univ fun d : Fin 15 => dutyTok ER (barCell c) 0 d from
      bigSep_congr fun c _ => bigSep_rev fun d => dutyTok ER (barCell c) 0 d]
  exact Entails.refl _

/-! ## Everything a device's body starts from -/

/-- The cells' invariants and openings, all devices'. -/
def Cells (K : Dev nD × KI → ℕ) : sProp 𝕄 :=
  iprop((bigSep Finset.univ fun ck => cellInv ER (Rd Γ) (K ck) (kcell ck)) ∗ bigSep Finset.univ fun ck => reached ER (kcell ck) 0)

instance cells_persistent (K : Dev nD × KI → ℕ) : BI.Persistent (Cells Γ K) := by unfold Cells; infer_instance

/-- What the launch's step leaves device `c`. -/
def G' (c : Dev nD) : sProp 𝕄 := iprop((∃ K, Cells Γ K) ∗ Places c ∗ Pays c)

omit [FloatOps F] in
theorem share_out {R : sProp 𝕄} [BI.Persistent R] (Φ : Dev nD → sProp 𝕄) :
    iprop(R ∗ bigSep Finset.univ Φ) ⊢ bigSep Finset.univ fun c => iprop(R ∗ Φ c) :=
  (sep_mono_left (BI.bigSep_of_persistent Finset.univ R)).trans (Entails.of_eq (bigSep_sep' _ _ _).symm)

omit [FloatOps F] in
theorem regroup :
    (bigSep Finset.univ fun c : Dev nD => iprop((bigSep Finset.univ fun k => iprop(∃ κ : ℕ, cellInv ER (Rd Γ) κ (kcell (c, k)))) ∗ (Places c ∗ Opened c) ∗ Minted c) : sProp 𝕄)
      ⊢ bigSep Finset.univ (G' Γ) := by
  rw [bigSep_sep', bigSep_sep', bigSep_sep', ← bigSep_univ_prod (fun ck : Dev nD × KI => iprop(∃ κ : ℕ, cellInv ER (Rd Γ) κ (kcell ck)))]
  unfold Opened
  rw [← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd Γ) κ (kcell ck) : sProp 𝕄))) $$ HI
  icases HK with ⟨%K, #HI⟩
  ihave Htk := (pays_all (F := F)) $$ Htok
  ihave H2 := (Entails.of_eq (bigSep_sep' Finset.univ (fun c : Dev nD => (Places c : sProp 𝕄)) (fun c => Pays c)).symm) $$ [Hat Htk]
  · isplitl [Hat] <;> iassumption
  ihave H3 := (share_out (R := Cells Γ K) (fun c : Dev nD => iprop(Places c ∗ Pays c))) $$ [H2]
  · isplitr
    · unfold Cells; isplitl; · iexact HI
      iexact HR
    · iexact H2
  iapply (show (bigSep Finset.univ fun c : Dev nD => (iprop(Cells Γ K ∗ Places c ∗ Pays c) : sProp 𝕄)) ⊢ bigSep Finset.univ (G' Γ) from
    bigSep_mono fun c _ => by
      show (_ : sProp 𝕄) ⊢ _
      unfold G'
      iintro ⟨H1, H2⟩
      isplitl [H1]
      · iexists K; iexact H1
      · iexact H2)
  iexact H3

omit [FloatOps F] in
/-- The launch's one step over all devices. -/
theorem glob : (bigSep Finset.univ fun c => iprop(Pipeline.ownSems0 (Ix := Unit) (Name := ℕ) (U := UU) (Lvl := ℕ) (Val := Elt F) (τ := τ) osem c ∗ unscopedSems0 c ∗ G Γ c) : sProp 𝕄)
    ⊢ |={Set.univ}=> bigSep Finset.univ (G' Γ) :=
  ((bigSep_mono fun c _ => alloc Γ c).trans (bigSep_fupd _ _)).trans (BI.fupd_mono (regroup Γ))

/-! ## The credits -/

theorem bar_iff {a b : Dev nD} : barCell a = barCell b ↔ a = b :=
  ⟨fun h => congrArg Prod.fst (kcell_inj (a₁ := (a, none)) (a₂ := (b, none)) h), fun h => h ▸ rfl⟩
theorem rcv_iff {a b : Dev nD} {x y : Item} : rcvCell a x = rcvCell b y ↔ a = b ∧ x = y :=
  ⟨fun h => by
    have := kcell_inj (a₁ := (a, some (true, x))) (a₂ := (b, some (true, y))) h
    exact ⟨congrArg Prod.fst this, by have h2 := congrArg Prod.snd this; cases h2; rfl⟩, fun h => by rw [h.1, h.2]⟩
theorem bar_ne_rcv {a b : Dev nD} {x : Item} : barCell a ≠ rcvCell b x := fun h => by
  have := kcell_inj (a₁ := (a, none)) (a₂ := (b, some (true, x))) h
  cases congrArg Prod.snd this

theorem tally_sum {J : Type} [Fintype J] (t : J → CellTallies nD τ sig Unit) (r : J → ℕ) (g : GSem nD τ sig) :
    owing (r := r) 0 t g () = ∑ x, t x g () := by
  unfold owing
  rw [Finset.filter_true_of_mem fun x _ => Nat.zero_le _, Finset.sum_apply, Finsupp.finset_sum_apply]

theorem owed_at_bar (d c : Dev nD) : O₀ d (barCell c) () = ∑ j : Fin 15, if peer d j = c then 1 else 0 := by
  unfold O₀ owedX owedB
  rw [Pi.add_apply, Finsupp.add_apply, tally_sum, tally_sum, Finset.sum_eq_zero fun x _ => ?_, Nat.zero_add]
  · refine Finset.sum_congr rfl fun j _ => ?_
    rw [tallyAt_apply]
    by_cases h : peer d j = c
    · rw [if_pos ⟨(bar_iff.mpr h).symm, rfl⟩, if_pos h]
    · rw [if_neg (fun h' => h (bar_iff.mp h'.1).symm), if_neg h]
  · rw [tallyAt_apply, if_neg fun h => bar_ne_rcv h.1]

theorem owed_at_rcv (d c : Dev nD) (x : Item) : O₀ d (rcvCell c x) () = if peer d x.2 = c then NI x.1 else 0 := by
  unfold O₀ owedX owedB
  rw [Pi.add_apply, Finsupp.add_apply, tally_sum, tally_sum, Finset.sum_eq_zero (s := (Finset.univ : Finset (Fin 15))) fun j _ => ?_, Nat.add_zero]
  · rw [Finset.sum_eq_single x]
    · rw [tallyAt_apply]
      by_cases h : peer d x.2 = c
      · rw [if_pos ⟨by rw [h], rfl⟩, if_pos h]
      · rw [if_neg (fun h' => h (rcv_iff.mp h'.1).1.symm), if_neg h]
    · intro y _ hy
      rw [tallyAt_apply, if_neg fun h' => hy (rcv_iff.mp h'.1).2.symm]
    · exact fun h => absurd (Finset.mem_univ _) h
  · rw [tallyAt_apply, if_neg fun h => bar_ne_rcv h.1.symm]

/-- Exactly one device lies `j + 1` places behind. -/
theorem one_behind (c : Dev nD) (j : Fin 15) (n : ℕ) : (∑ d : Dev nD, if peer d j = c then n else 0) = n := by
  rw [Finset.sum_eq_single (peer c (rev j))]
  · rw [if_pos (peer_rev' c j)]
  · intro d _ hd
    exact if_neg fun h => hd (by rw [← h]; exact (peer_rev d j).symm)
  · exact fun h => absurd (Finset.mem_univ _) h

theorem credit_bar (c : Dev nD) : tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_at_bar d c, Finset.sum_comm,
    Finset.sum_congr rfl fun j _ => one_behind c j 1, Finset.sum_const, Finset.card_univ, Fintype.card_fin, smul_eq_mul]

theorem credit_rcv (c : Dev nD) (x : Item) :
    tallyOn (rcvCell c x) (launchCredit (Pipeline.owing O₀) 0 (rcvCell c x)) = (tallyAt (rcvCell c x) () (NI x.1) : CellTallies nD τ sig Unit) := by
  unfold tallyAt; refine congrArg _ (Finsupp.ext fun u => ?_); cases u
  rw [Pipeline.launchCredit_owing, Finsupp.single_eq_same, Finset.sum_congr rfl fun d _ => owed_at_rcv d c x, one_behind c x.2 (NI x.1)]

omit [FloatOps F] in
/-- A device's launch credits: its barrier's fifteen units and its receiving cells' sizes. -/
theorem credits (c : Dev nD) : (Pipeline.launchCred O₀ c : sProp 𝕄)
    ⊢ iprop(cred (tallyAt (barCell c) () 15) ∗ bigSep Finset.univ fun x : Item => cred (tallyAt (rcvCell c x) () (NI x.1))) := by
  unfold Pipeline.launchCred
  refine (BI.bigSep_subset (Finset.subset_univ (Finset.univ.map ⟨csem, csem_inj⟩))).trans ?_
  rw [bigSep_map, bigSep_KI]
  refine BI.sep_mono (Entails.of_eq (congrArg cred (credit_bar c))) ?_
  refine BI.Entails.trans ?_ (bigSep_mono fun x _ => Entails.of_eq (congrArg cred (credit_rcv c x)))
  show (_ : sProp 𝕄) ⊢ _
  iintro ⟨-, H⟩
  iexact H

end Cert.KernelIdeal.Mesh

end
-- ==== Proof.KernelIdeal.Run.lean ====
/-
The launch: the pipeline's data, its body obligation from the body's triple, and the run of the whole program.
-/
module

public import proofs.«01_k».proof.Proof.KernelIdeal.Body
public import proofs.«01_k».proof.Proof.KernelIdeal.Deal
public import proofs.«01_k».proof.Proof.Gen.KernelIdeal.Frame
public import Idealize.ShloMosaic.Lib.Pipeline.CollectiveSegs

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem one_point : cfg0.N = 1 := by decide
def tp : Fin cfg0.N := ⟨0, by rw [one_point]; decide⟩
theorem at_tp (t : Fin cfg0.N) : t = tp := by
  obtain ⟨t, ht⟩ := t; have := one_point; exact Fin.ext (by simp only [tp]; omega)

/-- What device `c`'s staged argument blocks hold. -/
def ins (c : Dev nD) : Ins F where
  x := iblk m c 0 tp
  wq := iblk m c 1 tp
  wo := iblk m c 2 tp
  k := iblk m c 3 tp
  v := iblk m c 4 tp

/-- Before the body. -/
def Φ₀ (c : Dev nD) : sProp 𝕄 := iprop((∃ K, records (cont (ins m)) K) ∗ Dealt c ∗ Bufs c)
/-- After it: the buffers and every own and barrier counter at zero. -/
def Φ₁ (c : Dev nD) : sProp 𝕄 := iprop(Bufs c ∗ bigSep Finset.univ fun k : KI => semVal (kcell (c, k)) 0)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-! ## The body obligation -/

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def Pre (c : Dev nD) : sProp 𝕄 :=
  iprop(Φ₀ m c ∗ (dats m ρ 0 c).owesAt () tp.castSucc
    ∗ (∃ d, stg c cc0_stg0_0 ((dats m ρ 0 c).before (0 : Fin 6) tp d)) ∗ (∃ d, stg c cc0_stg1_0 ((dats m ρ 0 c).before (1 : Fin 6) tp d))
    ∗ (∃ d, stg c cc0_stg2_0 ((dats m ρ 0 c).before (2 : Fin 6) tp d)) ∗ (∃ d, stg c cc0_stg3_0 ((dats m ρ 0 c).before (3 : Fin 6) tp d))
    ∗ (∃ d, stg c cc0_stg4_0 ((dats m ρ 0 c).before (4 : Fin 6) tp d)) ∗ (∃ d, stg c cc0_stg5_0 ((dats m ρ 0 c).before (5 : Fin 6) tp d)))
def Post (c : Dev nD) : sProp 𝕄 :=
  iprop(Φ₁ c ∗ (dats m ρ 0 c).owesAt () tp.succ
    ∗ stg c cc0_stg0_0 (ins m c).x ∗ stg c cc0_stg1_0 (ins m c).wq ∗ stg c cc0_stg2_0 (ins m c).wo ∗ stg c cc0_stg3_0 (ins m c).k
    ∗ stg c cc0_stg4_0 (ins m c).v ∗ stg c cc0_stg5_0 (outOf (ins m) c))

theorem before_0 (c : Dev nD) (d) : (dats m ρ 0 c).before (0 : Fin 6) tp d = (ins m c).x := by unfold Dat.before; rw [if_pos (fetch0_0 tp)]; rfl
theorem before_1 (c : Dev nD) (d) : (dats m ρ 0 c).before (1 : Fin 6) tp d = (ins m c).wq := by unfold Dat.before; rw [if_pos (fetch0_1 tp)]; rfl
theorem before_2 (c : Dev nD) (d) : (dats m ρ 0 c).before (2 : Fin 6) tp d = (ins m c).wo := by unfold Dat.before; rw [if_pos (fetch0_2 tp)]; rfl
theorem before_3 (c : Dev nD) (d) : (dats m ρ 0 c).before (3 : Fin 6) tp d = (ins m c).k := by unfold Dat.before; rw [if_pos (fetch0_3 tp)]; rfl
theorem before_4 (c : Dev nD) (d) : (dats m ρ 0 c).before (4 : Fin 6) tp d = (ins m c).v := by unfold Dat.before; rw [if_pos (fetch0_4 tp)]; rfl

theorem pre_start (c : Dev nD) : Pre m ρ c ⊢ iprop((∃ K, records (cont (ins m)) K)
    ∗ ∃ f, Owe c (O₀ c) ∗ Dealt c ∗ Bufs c ∗ Arg (ins m) c ∗ (outL c ↦[Finset.univ]{fullShare} f)) := by
  unfold Pre Φ₀ Dat.owesAt Pipeline.owesWithin
  simp only [before_0, before_1, before_2, before_3, before_4]
  rw [show (dats m ρ 0 c).owed tp.castSucc = O₀ c from rfl]
  unfold Arg Owe
  iintro ⟨⟨HK, HD, HB⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  isplitl [HK]; · iexact HK
  iexists g5
  isplitl [HO]; · iexists W; iexact HO
  isplitl [HD]; · iexact HD
  isplitl [HB]; · iexact HB
  isplitr [H5]
  · isplitl [H0]; · iexact H0
    isplitl [H1]; · iexact H1
    isplitl [H2]; · iexact H2
    isplitl [H3] <;> iassumption
  · iexact H5

theorem post_end (c : Dev nD) : iprop(Owe c 0 ∗ Arg (ins m) c ∗ (outL c ↦[Finset.univ]{fullShare} outOf (ins m) c) ∗ Bufs c
    ∗ bigSep Finset.univ fun k : KI => semVal (kcell (c, k)) 0) ⊢ Post m ρ c := by
  unfold Post Φ₁ Dat.owesAt Pipeline.owesWithin Arg Owe
  rw [show (dats m ρ 0 c).owed tp.succ = 0 from rfl]
  iintro ⟨⟨%W, HO⟩, ⟨H0, H1, H2, H3, H4⟩, H5, HB, HZ⟩
  isplitl [HB HZ]
  · isplitl [HB] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- The body on device `c`, from the pipeline's holdings to the pipeline's holdings. -/
theorem body_holds (c : Dev nD) : Pre m ρ c ⊢ wp frame (wpE (defs₀ (F := F)) 𝒱₀ c none) Set.univ (on (cc0_body (F := F))) (fun _ => Post m ρ c) := by
  refine (pre_start m ρ c).trans ?_
  iintro ⟨⟨%K, #HR⟩, ⟨%f, H⟩⟩
  iapply (show iprop(records (cont (ins m)) K ∗ (Owe c (O₀ c) ∗ Dealt c ∗ Bufs c ∗ Arg (ins m) c ∗ (outL c ↦[Finset.univ]{fullShare} f)))
      ⊢ wp frame (wpE (defs₀ (F := F)) 𝒱₀ (c : Thread nD τ) none) Set.univ (on (cc0_body (F := F))) (fun _ => Post m ρ c) from
    Tri.post (Tri.pre (body_start (ins m) c f) body_tri) fun _ => (body_end (ins m) c).trans (post_end m ρ c))
  isplitr; · iexact HR
  iexact H

/-- The body as the pipeline calls it. -/
theorem called : defs₀ (F := F) Proc.tc 0 (tp, cfg0.slots tp) = on (cc0_body (F := F)) := by
  have h : defs₀ (F := F) Proc.tc 0 (tp, cfg0.slots tp) = bodyAt0 tp := by with_unfolding_all rfl
  rw [h]

theorem body_called (c : Dev nD) {P Q : sProp 𝕄} (hP : P ⊢ Pre m ρ c) (hQ : Post m ρ c ⊢ Q) :
    P ⊢ wp frame (wpE (defs₀ (F := F)) 𝒱₀ c none) Set.univ (defs₀ (F := F) Proc.tc 0 (tp, cfg0.slots tp)) (fun _ => Q) := by
  rw [called]
  have h := hP.trans ((body_holds m ρ c).trans (wp_mono _ _ _ fun _ => hQ))
  with_reducible exact h

set_option maxRecDepth 20000 in
theorem body_obligation (c : Dev nD) : BodyObligation (dats (F := F) m ρ 0 c) (defs₀ (F := F)) 𝒱₀ () Set.univ := fun t => by
  rw [at_tp t]
  rw [show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0,
    show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0]
  simp only [owns_whole]
  with_reducible refine body_called m ρ c ?_ ?_
  · unfold Pre; exact BI.Entails.refl _
  · unfold Post; exact BI.Entails.refl _

/-! ## The launch's side conditions -/

theorem own_val (k : Bool × Item) : ∃ q : DmaSem sig, osem k = SemLoc.dma q ∧ 6 ≤ (q : Fin 186).val := by
  rcases k with ⟨_ | _, x⟩
  · exact ⟨sndS x, rfl, by rw [snd_val]; split_ifs <;> omega⟩
  · exact ⟨rcvS x, rfl, by rw [rcv_val]; split_ifs <;> omega⟩

theorem stage_low (w : Fin cfg0.W) (s) : (((cfg0.spec w).sem s : DmaSem sig) : Fin 186).val < 6 := by
  revert s; revert w; decide

theorem dma_scoped (q : DmaSem sig) : (SemLoc.dma q : SemLoc sig).isScoped .tc = true := by
  revert q; decide

theorem ownSemFacts : Pipeline.OwnSemFacts cfg0.spec osem where
  isScoped k := by obtain ⟨q, h, hq⟩ := own_val k; rw [h]; exact dma_scoped q
  inj := fun k k' h => Option.some.inj (csem_inj h)
  disj k w s h := by
    obtain ⟨q, hq, h6⟩ := own_val k
    rw [hq] at h
    have e : q = (cfg0.spec w).sem s := by cases h; rfl
    have := stage_low w s
    rw [← e] at this
    omega

theorem stage_none (w : Fin cfg0.W) (s) : dec (.dma ((cfg0.spec w).sem s)) = none := by
  rcases h : dec (.dma ((cfg0.spec w).sem s)) with _ | k
  · rfl
  · have h' := dec_some h
    rcases k with _ | k
    · cases h'
    · exact absurd h'.symm (ownSemFacts.disj k w s)

theorem share_eq (c : Dev nD) (w : Fin cfg0.W) : (dats m ρ 0 c).share w = fullShare := by unfold Dat.share; split <;> rfl

/-- What a device's body starts from, but for the buffers. -/
def Begin (c : Dev nD) : sProp 𝕄 := iprop((∃ K, records (cont (ins m)) K) ∗ Dealt c)

theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (cont (ins m)) c)
      ⊢ |={Set.univ}=> iprop(Begin m c ∗ emp) := by
  iintro ⟨-, #Hlev, Hcr, -, HG⟩
  ihave Hc := (credits (F := F) c) $$ Hcr
  imodintro
  unfold G' Begin Dealt Places Pays Cells records
  icases HG with ⟨⟨%K, #HI, #HR⟩, Hat, Hpay⟩
  isplitl
  · isplitr
    · iexists K
      isplitr; · iexact HI
      isplitr; · iexact HR
      iexact Hlev
    isplitl [Hat]; · iexact Hat
    isplitl [Hpay]; · iexact Hpay
    iexact Hc
  · iempintro

theorem bufs_eq (c : Dev nD) : (Pipeline.scopedRest cfg0.spec c : sProp 𝕄) = Bufs c := scopedRest0_eq c

theorem first_intro (c : Dev nD) :
    iprop(Begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀ Begin
  iintro ⟨⟨HK, HD⟩, -, HB⟩
  isplitl [HK]; · iexact HK
  isplitl [HD] <;> iassumption

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq]
  unfold Φ₁
  rw [sems_eq]
  iintro ⟨HB, HU, HO⟩
  isplitl [HU]; · iexact HU
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_none w s) _ (by
      rcases t with ⟨_ | _, ht⟩
      · exact Or.inl rfl
      · exact Or.inr rfl)

/-! ## The run -/

/-- What window `w`'s array on device `c` ends holding. -/
def endA (c : Dev nD) (w : Fin cfg0.W) : Buf (Elt F) ((cfg0.win w).arr.view.loc (c : Thread nD τ)) := (dats m ρ 0 c).arrAt w cfg0.N

set_option maxRecDepth 40000 in
/-- From any memory with zero counters every execution of the program on the sixteen devices terminates, every array of
    a window ends as computed, and every semaphore counter is zero again. -/
theorem run_all : θ_run defs (onTc (τ := τ) (main (F := F))) (s₀ m ρ)
    (fun r => (∀ c : Dev nD, ∀ w : Fin cfg0.W, r.2.mem ((cfg0.win w).arr.view.loc (c : Thread nD τ)) = endA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (cont (ins m))) (G' := G' (cont (ins m))) (u₀ := u₀)
    (hu₀ := by
      unfold u₀
      iintro Hu
      ihave H := (ownU_pair _ _) $$ Hu
      icases H with ⟨HP, HX⟩
      imod (fund_mesh (cont (ins m))) $$ HX with HG
      imodintro
      isplitl [HP] <;> iassumption)
    (hglob := glob (cont (ins m)))
    (hA := fun _ _ => rfl) (hpf := fun _ k => k.elim0)
    (X := Begin m) (Y := fun c => unscopedSems0 c) (Z := fun _ => iprop(emp))
    (hX := begin_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mesh

end
-- ==== Proof.KernelIdeal.Ends.lean ====
/-
What the arrays end holding: the arguments as launched, the result as computed on each device.
-/
module

public import proofs.«01_k».proof.Proof.KernelIdeal.Run

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A window's one block is its array -/

theorem emb_0 (i : S4x256x1024.Idx) : ((cfg0.win 0).blk tp).view.emb i = i :=
  funext fun a => Fin.ext (by show 0 * _ + 1 * (i a).val = (i a).val; omega)
theorem emb_1 (i : S1024x1024.Idx) : ((cfg0.win 1).blk tp).view.emb i = i :=
  funext fun a => Fin.ext (by show 0 * _ + 1 * (i a).val = (i a).val; omega)
theorem emb_2 (i : S1024x1024.Idx) : ((cfg0.win 2).blk tp).view.emb i = i :=
  funext fun a => Fin.ext (by show 0 * _ + 1 * (i a).val = (i a).val; omega)
theorem emb_3 (i : S4x1024x2x128.Idx) : ((cfg0.win 3).blk tp).view.emb i = i :=
  funext fun a => Fin.ext (by show 0 * _ + 1 * (i a).val = (i a).val; omega)
theorem emb_4 (i : S4x1024x2x128.Idx) : ((cfg0.win 4).blk tp).view.emb i = i :=
  funext fun a => Fin.ext (by show 0 * _ + 1 * (i a).val = (i a).val; omega)
theorem emb_5 (i : S4x256x1024.Idx) : ((cfg0.win 5).blk tp).view.emb i = i :=
  funext fun a => Fin.ext (by show 0 * _ + 1 * (i a).val = (i a).val; omega)

/-- So what a device's staged arguments hold is what the arguments hold. -/
theorem ins_x (c : Dev nD) : (ins m c).x = m ((c : Thread nD τ).loc main_arg0) :=
  funext fun i => congrArg (m ((c : Thread nD τ).loc main_arg0)) (emb_0 i)
theorem ins_wq (c : Dev nD) : (ins m c).wq = m ((c : Thread nD τ).loc main_arg1) :=
  funext fun i => congrArg (m ((c : Thread nD τ).loc main_arg1)) (emb_1 i)
theorem ins_wo (c : Dev nD) : (ins m c).wo = m ((c : Thread nD τ).loc main_arg2) :=
  funext fun i => congrArg (m ((c : Thread nD τ).loc main_arg2)) (emb_2 i)
theorem ins_k (c : Dev nD) : (ins m c).k = m ((c : Thread nD τ).loc main_arg3) :=
  funext fun i => congrArg (m ((c : Thread nD τ).loc main_arg3)) (emb_3 i)
theorem ins_v (c : Dev nD) : (ins m c).v = m ((c : Thread nD τ).loc main_arg4) :=
  funext fun i => congrArg (m ((c : Thread nD τ).loc main_arg4)) (emb_4 i)

/-! ## The end -/

theorem end_out (c : Dev nD) : endA m ρ c (5 : Fin 6) = outOf (ins m) c :=
  (dats m ρ 0 c).arrAt_eq_of_cover (5 : Fin 6) (outOf (ins m) c)
    (fun t _ => by
      rw [at_tp t]
      exact funext fun i => (congrArg (outOf (ins m) c) (emb_5 i)).symm)
    (fun i => ⟨tp, flush0_5 tp, by
      have h := ((cfg0.win 5).blk tp).view.emb_mem_set i
      rw [emb_5] at h; exact h⟩)

/-- The program's run: every device's result as computed, the arguments unchanged, every counter at zero. -/
theorem run_main : θ_run defs (onTc (τ := τ) (main (F := F))) ⟨m, fun _ => 0, ρ⟩ (fun r => (∀ c : Dev nD,
      r.2.mem ((c.tc : Thread nD τ).loc main_v1) = outOf (ins m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 5).trans (end_out m ρ c),
      (h.1 c 0).trans ((dats m ρ 0 c).arrAt_in (0 : Fin 6) rfl _), (h.1 c 1).trans ((dats m ρ 0 c).arrAt_in (1 : Fin 6) rfl _),
      (h.1 c 2).trans ((dats m ρ 0 c).arrAt_in (2 : Fin 6) rfl _), (h.1 c 3).trans ((dats m ρ 0 c).arrAt_in (3 : Fin 6) rfl _),
      (h.1 c 4).trans ((dats m ρ 0 c).arrAt_in (4 : Fin 6) rfl _)⟩, h.2⟩) (run_all m ρ)

end Cert.KernelIdeal.Mesh

end
-- ==== Proof.Value.Softmax.lean ====
/-
The softmax of a row whose scores lie in several blocks: the blocks' own maxima, sums and weighted sums, each scaled by the
exponential of its maximum's distance from the whole maximum, add up to the whole row's. Over the extended reals, with no
condition on the scores.
-/
module

public import Idealize.ShloMosaic.PureOps.Ideal
public import Mathlib.Data.EReal.Inv
public import Mathlib.Data.EReal.Operations
public import Mathlib.Algebra.BigOperators.Fin

@[expose] public section

noncomputable section

namespace Cert.Attn

open Idealize.ShloMosaic

/-- The greatest of a block's scores, from minus infinity up. -/
def peak {ι : Type} [Fintype ι] (s : ι → EReal) : EReal := Finset.univ.fold max ⊥ s

theorem peak_eq {ι : Type} [Fintype ι] (s : ι → EReal) : peak s = Finset.univ.sup s := rfl

theorem le_peak {ι : Type} [Fintype ι] (s : ι → EReal) (k : ι) : s k ≤ peak s := Finset.le_sup (f := s) (Finset.mem_univ k)

/-- The exponential is nowhere negative. -/
theorem exp_nonneg (x : EReal) : 0 ≤ Ideal.exp x := by
  induction x with
  | bot => exact le_refl _
  | top => exact le_top
  | coe r => exact EReal.coe_nonneg.mpr (Real.exp_pos r).le

/-- The exponential of a score's distance below a greater one is finite. -/
theorem exp_sub_ne_top {a b : EReal} (h : a ≤ b) : Ideal.exp (a - b) ≠ ⊤ := by
  induction b with
  | bot => rw [le_bot_iff.mp h]; exact EReal.zero_ne_top
  | top =>
    rw [show a - ⊤ = ⊥ from by rw [sub_eq_add_neg, EReal.neg_top, EReal.add_bot]]
    exact EReal.zero_ne_top
  | coe b =>
    induction a with
    | bot => exact EReal.zero_ne_top
    | top => exact absurd (top_le_iff.mp h) (EReal.coe_ne_top b)
    | coe a => exact EReal.coe_ne_top _

/-- A weight relative to its block's maximum, scaled, is the weight relative to the whole maximum. -/
theorem exp_step {s m M : EReal} (h : s ≤ m) (h' : m ≤ M) : Ideal.exp (s - m) * Ideal.exp (m - M) = Ideal.exp (s - M) := by
  induction M with
  | bot =>
    obtain rfl := le_bot_iff.mp h'
    obtain rfl := le_bot_iff.mp h
    exact mul_zero _
  | top =>
    rw [show m - ⊤ = ⊥ from by rw [sub_eq_add_neg, EReal.neg_top, EReal.add_bot],
      show s - ⊤ = ⊥ from by rw [sub_eq_add_neg, EReal.neg_top, EReal.add_bot]]
    exact mul_zero _
  | coe M =>
    induction m with
    | bot =>
      obtain rfl := le_bot_iff.mp h
      exact zero_mul _
    | top => exact absurd (top_le_iff.mp h') (EReal.coe_ne_top M)
    | coe m =>
      induction s with
      | bot => exact zero_mul _
      | top => exact absurd (top_le_iff.mp h) (EReal.coe_ne_top m)
      | coe s =>
        show ((Real.exp (s - m) : ℝ) : EReal) * ((Real.exp (m - M) : ℝ) : EReal) = ((Real.exp (s - M) : ℝ) : EReal)
        rw [← EReal.coe_mul, ← Real.exp_add]
        congr 2
        ring

/-- A finite factor that is not negative distributes over a sum. -/
theorem sum_mul_of {ι : Type} [Fintype ι] (f : ι → EReal) {w : EReal} (h : 0 ≤ w) (h' : w ≠ ⊤) : (∑ k, f k) * w = ∑ k, f k * w := by
  classical
  refine Finset.induction_on (motive := fun t => (∑ k ∈ t, f k) * w = ∑ k ∈ t, f k * w) Finset.univ ?_ ?_
  · rw [Finset.sum_empty, Finset.sum_empty, zero_mul]
  · intro a t ha ih
    rw [Finset.sum_insert ha, Finset.sum_insert ha, EReal.right_distrib_of_nonneg_of_ne_top h h', ih]

section
variable {ι κ : Type} [Fintype ι] [Fintype κ] (s v : ι → κ → EReal)

/-- The whole row's maximum, as the greatest of the blocks'. -/
def peaks : EReal := peak fun c => peak (s c)

theorem peak_le_peaks (c : ι) : peak (s c) ≤ peaks s := le_peak (fun c => peak (s c)) c

/-- A block's sum of weights, scaled, is the sum of its weights relative to the whole maximum. -/
theorem sum_step (c : ι) : (∑ k, Ideal.exp (s c k - peak (s c))) * Ideal.exp (peak (s c) - peaks s) = ∑ k, Ideal.exp (s c k - peaks s) := by
  rw [sum_mul_of _ (exp_nonneg _) (exp_sub_ne_top (peak_le_peaks s c))]
  exact Finset.sum_congr rfl fun k _ => exp_step (le_peak (s c) k) (peak_le_peaks s c)

/-- So with a block's weighted sum. -/
theorem wsum_step (c : ι) : (∑ k, Ideal.exp (s c k - peak (s c)) * v c k) * Ideal.exp (peak (s c) - peaks s)
    = ∑ k, Ideal.exp (s c k - peaks s) * v c k := by
  rw [sum_mul_of _ (exp_nonneg _) (exp_sub_ne_top (peak_le_peaks s c))]
  refine Finset.sum_congr rfl fun k _ => ?_
  rw [mul_right_comm, exp_step (le_peak (s c) k) (peak_le_peaks s c)]

end

/-! ## Keys in blocks -/

/-- Key `k` of block `c`, among all keys. -/
def key (c : Fin 16) (k : Fin 1024) : Fin 16384 := ⟨c.val * 1024 + k.val, by have := c.isLt; have := k.isLt; omega⟩

/-- All keys, as the keys of all blocks. -/
def keys : Fin 16 × Fin 1024 ≃ Fin 16384 where
  toFun p := key p.1 p.2
  invFun j := (⟨j.val / 1024, by have := j.isLt; omega⟩, ⟨j.val % 1024, Nat.mod_lt _ (by omega)⟩)
  left_inv p := by
    have := p.2.isLt
    refine Prod.ext (Fin.ext ?_) (Fin.ext ?_)
    · show (p.1.val * 1024 + p.2.val) / 1024 = p.1.val; omega
    · show (p.1.val * 1024 + p.2.val) % 1024 = p.2.val; omega
  right_inv j := Fin.ext (by show j.val / 1024 * 1024 + j.val % 1024 = j.val; omega)

theorem sum_keys (f : Fin 16384 → EReal) : ∑ j, f j = ∑ c : Fin 16, ∑ k : Fin 1024, f (key c k) := by
  rw [← Fintype.sum_prod_type' (fun c k => f (key c k))]
  exact (Fintype.sum_equiv keys (fun p => f (key p.1 p.2)) f fun _ => rfl).symm

theorem peak_keys (f : Fin 16384 → EReal) : peak f = peaks fun c k => f (key c k) := by
  refine le_antisymm (Finset.sup_le fun j _ => ?_) (Finset.sup_le fun c _ => Finset.sup_le fun k _ => le_peak f _)
  rw [show j = key (keys.symm j).1 (keys.symm j).2 from (keys.apply_symm_apply j).symm]
  exact (le_peak (fun k => f (key (keys.symm j).1 k)) _).trans (peak_le_peaks (fun c k => f (key c k)) _)

/-! ## Devices, as one and the fifteen others -/

/-- The device `n + 1` places before `c`. -/
def back (c : Fin 16) (n : Fin 15) : Fin 16 := ⟨(c.val + 15 - n.val) % 16, Nat.mod_lt _ (by omega)⟩

/-- All devices: device `c` and those before it. -/
def others (c : Fin 16) : Option (Fin 15) ≃ Fin 16 where
  toFun o := o.elim c (back c)
  invFun d := if h : d = c then none else some ⟨(c.val + 15 - d.val) % 16, by
    have := c.isLt; have := d.isLt; have : d.val ≠ c.val := fun e => h (Fin.ext e); omega⟩
  left_inv o := by
    cases o with
    | none => exact dif_pos rfl
    | some n =>
      have hc := c.isLt
      have hn := n.isLt
      have hne : back c n ≠ c := fun e => by
        have : (c.val + 15 - n.val) % 16 = c.val := congrArg Fin.val e
        omega
      refine (dif_neg hne).trans (congrArg some (Fin.ext ?_))
      show (c.val + 15 - (c.val + 15 - n.val) % 16) % 16 = n.val
      omega
  right_inv d := by
    have hc := c.isLt
    have hd := d.isLt
    by_cases h : d = c
    · show Option.elim (if h : d = c then _ else _) c (back c) = d
      rw [dif_pos h]; exact h.symm
    · have : d.val ≠ c.val := fun e => h (Fin.ext e)
      show Option.elim (if h : d = c then _ else _) c (back c) = d
      rw [dif_neg h]
      refine Fin.ext ?_
      show (c.val + 15 - (c.val + 15 - d.val) % 16) % 16 = d.val
      omega

theorem sum_others (c : Fin 16) (f : Fin 16 → EReal) : (∑ n, f (back c n)) + f c = ∑ d, f d := by
  rw [← Fintype.sum_equiv (others c) (fun o => f (others c o)) f fun _ => rfl, Fintype.sum_option, add_comm]
  rfl

theorem peak_others (c : Fin 16) (f : Fin 16 → EReal) : max (peak fun n => f (back c n)) (f c) = peak f := by
  refine le_antisymm (max_le (Finset.sup_le fun n _ => le_peak f _) (le_peak f c)) (Finset.sup_le fun d _ => ?_)
  rw [← (others c).apply_symm_apply d]
  cases (others c).symm d with
  | none => exact le_max_right _ _
  | some n => exact le_max_of_le_left (le_peak (fun n => f (back c n)) n)

end Cert.Attn

end
-- ==== Proof.Value.Block.lean ====
/-
What one device computes of one batch, entry by entry: each head's partial outputs, its maximum and its sum.
-/
module

public import proofs.«01_k».proof.Proof.KernelIdeal.Contents
public import proofs.«01_k».proof.Proof.Value.Softmax
public import Idealize.ShloMosaic.Lib.Pointwise

@[expose] public section

noncomputable section

namespace Cert.Attn

open Idealize.ShloMosaic
open Cert.KernelIdeal Cert.KernelIdeal.Gen Cert.KernelIdeal.Mesh

/-- The scale of the scores. -/
def scale : EReal := Ideal.ofBits .f32 0x3DB504F3#32

/-- The pattern the kernel starts a maximum with is minus infinity. -/
theorem ofBits_bot : Ideal.ofBits .f32 0xFF800000#32 = ⊥ := by simp [Ideal.ofBits, Ideal.ieee]

variable (wq : Vec Ideal S1024x1024 .bf16) (x : Vec Ideal S1x256x1024 .bf16)
variable (q : FVec Ideal S1024x128 .bf16) (s : FVec Ideal S1024x1024 .f32) (k v : Vec Ideal S1x1024x1x128 .bf16)

/-! ## One group's stacked heads -/

theorem pay4_at (r j : Fin 1024) : k0_pay4 (F := Ideal) q k (ix2 r j) = (∑ d : Fin 128, q (ix2 r d) * k (ix4 0 j 0 d)) * scale := by
  pointwise [k0_pay4, scale]

theorem pay5_at (r : Fin 1024) : k0_pay5 (F := Ideal) q k (ix2 r 0) = peak fun j : Fin 1024 => k0_pay4 (F := Ideal) q k (ix2 r j) := by
  pointwise [k0_pay5]
  rw [ofBits_bot]
  rfl

theorem pay7_at (r : Fin 1024) : k0_pay7 (F := Ideal) q k (ix2 r 0)
    = ∑ j : Fin 1024, Ideal.exp (k0_pay4 (F := Ideal) q k (ix2 r j) - k0_pay5 (F := Ideal) q k (ix2 r 0)) := by
  pointwise [k0_pay7, k0_pay6]

theorem pay8_at (r : Fin 1024) (d : Fin 128) : k0_pay8 (F := Ideal) q k v (ix2 r d)
    = ∑ j : Fin 1024, Ideal.exp (k0_pay4 (F := Ideal) q k (ix2 r j) - k0_pay5 (F := Ideal) q k (ix2 r 0)) * v (ix4 0 j 0 d) := by
  pointwise [k0_pay8, k0_pay6]

theorem pay24_at (r : Fin 1024) : k0_pay24 (F := Ideal) s (ix2 r 0) = peak fun j : Fin 1024 => s (ix2 r j) * scale := by
  pointwise [k0_pay24, k0_pay23, scale]
  rw [ofBits_bot]
  rfl

theorem pay25_at (r j : Fin 1024) : k0_pay25 (F := Ideal) s (ix2 r j) = Ideal.exp (s (ix2 r j) * scale - k0_pay24 (F := Ideal) s (ix2 r 0)) := by
  pointwise [k0_pay25, k0_pay23, scale]

/-! ## One head -/

/-- Head `h`'s entries of a query. -/
def col (h : Fin 8) (d : Fin 128) : Fin 1024 := ⟨h.val * 128 + d.val, by omega⟩

/-- The group of a head. -/
def grp (h : Fin 8) : Fin 2 := ⟨h.val / 4, by omega⟩

/-- The queries of one batch. -/
def qry (r : Fin 256) (n : Fin 1024) : EReal := ∑ i : Fin 1024, x (ix3 0 r i) * wq (ix2 i n)

/-- A head's scores against its group's keys. -/
def sc (h : Fin 8) (r : Fin 256) (j : Fin 1024) : EReal := (∑ d : Fin 128, qry wq x r (col h d) * k (ix4 0 j 0 d)) * scale

theorem pay2_at (r : Fin 256) (n : Fin 1024) : k0_pay2 (F := Ideal) wq x (ix2 r n) = qry wq x r n := by
  pointwise [k0_pay2, k0_pay1, qry]

/-- Row `R` of the stacked heads is row `r` of head `h`: the first group's -/
theorem pay3_at (h : Fin 4) (r : Fin 256) (R : Fin 1024) (hR : R.val = h.val * 256 + r.val) (d : Fin 128) :
    k0_pay3 (F := Ideal) wq x (ix2 R d) = qry wq x r (col ⟨h.val, by omega⟩ d) := by
  rw [← pay2_at]
  have hr := r.isLt
  pointwise [k0_pay3]
  fin_vals h with hk <;> simp only [hk] at hR ⊢ <;> (repeat' split) <;>
    first | omega | (refine congrArg (k0_pay2 (F := Ideal) wq x) (congrArg₂ ix2 (Fin.ext ?_) (Fin.ext ?_)) <;> simp only [col, hk] <;> omega)

/-- and the second's. -/
theorem pay22_at (h : Fin 4) (r : Fin 256) (R : Fin 1024) (hR : R.val = h.val * 256 + r.val) (j : Fin 1024) :
    k0_pay22 (F := Ideal) (k0_pay2 wq x) k (ix2 R j) * scale = sc wq x k ⟨4 + h.val, by omega⟩ r j := by
  have hr := r.isLt
  simp only [sc, ← pay2_at]
  pointwise [k0_pay22]
  fin_vals h with hk <;> simp only [hk] at hR ⊢ <;> (repeat' split) <;>
    first | omega | (refine congrArg (· * scale) (Finset.sum_congr rfl fun d _ => congrArg (· * _) (congrArg (k0_pay2 (F := Ideal) wq x) (congrArg₂ ix2 (Fin.ext ?_) (Fin.ext ?_)))) <;> simp only [col, hk] <;> omega)

/-- A head's maximum, its sum of weights, its weighted sums of the values. -/
def bMax (h : Fin 8) (r : Fin 256) : EReal := peak (sc wq x k h r)
def bSum (h : Fin 8) (r : Fin 256) : EReal := ∑ j, Ideal.exp (sc wq x k h r j - bMax wq x k h r)
def bOut (h : Fin 8) (r : Fin 256) (d : Fin 128) : EReal := ∑ j, Ideal.exp (sc wq x k h r j - bMax wq x k h r) * v (ix4 0 j 0 d)

section
variable (h : Fin 4) (r : Fin 256) (R : Fin 1024) (hR : R.val = h.val * 256 + r.val)
include hR

theorem first_sc (j : Fin 1024) : k0_pay4 (F := Ideal) (k0_pay3 wq x) k (ix2 R j) = sc wq x k ⟨h.val, by omega⟩ r j := by
  rw [pay4_at]
  simp only [pay3_at wq x h r R hR]
  rfl

theorem first_max : k0_pay5 (F := Ideal) (k0_pay3 wq x) k (ix2 R 0) = bMax wq x k ⟨h.val, by omega⟩ r := by
  rw [pay5_at]
  simp only [first_sc wq x k h r R hR]
  rfl

theorem first_sum : k0_pay7 (F := Ideal) (k0_pay3 wq x) k (ix2 R 0) = bSum wq x k ⟨h.val, by omega⟩ r := by
  rw [pay7_at]
  simp only [first_sc wq x k h r R hR, first_max wq x k h r R hR]
  rfl

theorem first_out (d : Fin 128) : k0_pay8 (F := Ideal) (k0_pay3 wq x) k v (ix2 R d) = bOut wq x k v ⟨h.val, by omega⟩ r d := by
  rw [pay8_at]
  simp only [first_sc wq x k h r R hR, first_max wq x k h r R hR]
  rfl

theorem second_max : k0_pay24 (F := Ideal) (k0_pay22 (k0_pay2 wq x) k) (ix2 R 0) = bMax wq x k ⟨4 + h.val, by omega⟩ r := by
  rw [pay24_at]
  simp only [pay22_at wq x k h r R hR]
  rfl

theorem second_exp (j : Fin 1024) : k0_pay25 (F := Ideal) (k0_pay22 (k0_pay2 wq x) k) (ix2 R j)
    = Ideal.exp (sc wq x k ⟨4 + h.val, by omega⟩ r j - bMax wq x k ⟨4 + h.val, by omega⟩ r) := by
  rw [pay25_at, pay22_at wq x k h r R hR, second_max wq x k h r R hR]

end

/-! ## All heads -/

section
variable (kk vv : Fin 2 → Vec Ideal S1x1024x1x128 .bf16) (r : Fin 256)

/-- The partial outputs of one batch. -/
theorem oBlk_at (h : Fin 8) (d : Fin 128) : oBlk (F := Ideal) wq x (kk 0) (vv 0) (kk 1) (vv 1) (ix4 0 r h d)
    = bOut wq x (kk (grp h)) (vv (grp h)) h r d := by
  have hr := r.isLt
  pointwise [oBlk, k0_pay26, k0_pay9, k0_pay12, k0_pay15, k0_pay18, k0_pay21]
  fin_cases h <;> simp only [Nat.reduceSub, Nat.reduceLT, ↓reduceDIte, Nat.one_lt_ofNat, lt_self_iff_false, zero_lt_one]
  · exact first_out wq x (kk 0) (vv 0) 0 r _ (by simp) d
  · exact first_out wq x (kk 0) (vv 0) 1 r _ (by simp) d
  · exact first_out wq x (kk 0) (vv 0) 2 r _ (by simp) d
  · exact first_out wq x (kk 0) (vv 0) 3 r _ (by simp) d
  · exact Finset.sum_congr rfl fun j _ => congrArg (· * vv 1 (ix4 0 j 0 d)) (second_exp wq x (kk 1) 0 r _ (by simp) j)
  · exact Finset.sum_congr rfl fun j _ => congrArg (· * vv 1 (ix4 0 j 0 d)) (second_exp wq x (kk 1) 1 r _ (by simp) j)
  · exact Finset.sum_congr rfl fun j _ => congrArg (· * vv 1 (ix4 0 j 0 d)) (second_exp wq x (kk 1) 2 r _ (by simp) j)
  · exact Finset.sum_congr rfl fun j _ => congrArg (· * vv 1 (ix4 0 j 0 d)) (second_exp wq x (kk 1) 3 r _ (by simp) j)

/-- Sixteen columns side by side, read in one of them. -/
theorem cols_at (f : Fin 16 → FVec Ideal S256x1 .f32) (h) (c : Fin 16) :
    concatenate S256x16 1 [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩, ⟨S256x1, f 8⟩, ⟨S256x1, f 9⟩, ⟨S256x1, f 10⟩, ⟨S256x1, f 11⟩, ⟨S256x1, f 12⟩, ⟨S256x1, f 13⟩, ⟨S256x1, f 14⟩, ⟨S256x1, f 15⟩] h (ix2 r c) = f c (ix2 r 0) := by
  refine (concatenate_ofFn_unit_apply' (t := S256x16) (s₁ := S256x1) 1 f h rfl (ix2 r c)).trans ?_
  refine congrArg (f c) ?_
  exact (Shape.Idx.norm2 _).trans (congrArg₂ ix2 (Fin.ext rfl) (Subsingleton.elim _ _))

/-- The sums of the second group's weights. -/
theorem second_sum (h : Fin 4) (R : Fin 1024) (hR : R.val = h.val * 256 + r.val) :
    (∑ j : Fin 1024, k0_pay25 (F := Ideal) (k0_pay22 (k0_pay2 wq x) k) (ix2 R j)) = bSum wq x k ⟨4 + h.val, by omega⟩ r :=
  Finset.sum_congr rfl fun j _ => second_exp wq x k h r R hR j

/-- The sums of a group's weights, as a column. -/
def sumCol : FVec Ideal S1024x1 .f32 :=
  shapeCast S1024x1 (multiReduction .add [1] S1024 (k0_pay25 s) 0x00000000#32 reduces_S1024x1024_S1024 (.inl rfl) rfl) shapeCasts_S1024_S1024x1

theorem sumCol_at (R : Fin 1024) : sumCol s (ix2 R 0) = ∑ j : Fin 1024, k0_pay25 (F := Ideal) s (ix2 R j) := by
  pointwise [sumCol]

/-- A head's rows of a group's column. -/
def cut0 (y : FVec Ideal S1024x1 .f32) : FVec Ideal S256x1 .f32 := extractStridedSlice S256x1 ![0, 0] y slices_S1024x1_o0_0_S256x1
def cut1 (y : FVec Ideal S1024x1 .f32) : FVec Ideal S256x1 .f32 := extractStridedSlice S256x1 ![256, 0] y slices_S1024x1_o256_0_S256x1
def cut2 (y : FVec Ideal S1024x1 .f32) : FVec Ideal S256x1 .f32 := extractStridedSlice S256x1 ![512, 0] y slices_S1024x1_o512_0_S256x1
def cut3 (y : FVec Ideal S1024x1 .f32) : FVec Ideal S256x1 .f32 := extractStridedSlice S256x1 ![768, 0] y slices_S1024x1_o768_0_S256x1

/-- The sixteen columns, of the two groups' maxima `a`, `b` and sums `c`, `d`. -/
def cols (a b c d : FVec Ideal S1024x1 .f32) : Fin 16 → FVec Ideal S256x1 .f32 :=
  ![cut0 a, cut1 a, cut2 a, cut3 a, cut0 b, cut1 b, cut2 b, cut3 b, cut0 c, cut1 c, cut2 c, cut3 c, cut0 d, cut1 d, cut2 d, cut3 d]

/-- A head's row of one group's column. -/
theorem cut_at (y : FVec Ideal S1024x1 .f32) (h : Fin 4) :
    (![cut0 y, cut1 y, cut2 y, cut3 y] : Fin 4 → FVec Ideal S256x1 .f32) h (ix2 r 0) = y (ix2 ⟨h.val * 256 + r.val, by omega⟩ 0) := by
  have hr := r.isLt
  have e0 : cut0 y (ix2 r 0) = y (ix2 ⟨0 * 256 + r.val, by omega⟩ 0) := by pointwise [cut0, Nat.zero_mul, Nat.zero_add]
  have e1 : cut1 y (ix2 r 0) = y (ix2 ⟨1 * 256 + r.val, by omega⟩ 0) := by pointwise [cut1]
  have e2 : cut2 y (ix2 r 0) = y (ix2 ⟨2 * 256 + r.val, by omega⟩ 0) := by pointwise [cut2]
  have e3 : cut3 y (ix2 r 0) = y (ix2 ⟨3 * 256 + r.val, by omega⟩ 0) := by pointwise [cut3]
  match h with
  | ⟨0, _⟩ => exact e0
  | ⟨1, _⟩ => exact e1
  | ⟨2, _⟩ => exact e2
  | ⟨3, _⟩ => exact e3

theorem cols_cut (a b c d : FVec Ideal S1024x1 .f32) (h : Fin 4) :
    cols a b c d ⟨h.val, by omega⟩ = (![cut0 a, cut1 a, cut2 a, cut3 a] : Fin 4 → FVec Ideal S256x1 .f32) h
    ∧ cols a b c d ⟨4 + h.val, by omega⟩ = (![cut0 b, cut1 b, cut2 b, cut3 b] : Fin 4 → FVec Ideal S256x1 .f32) h
    ∧ cols a b c d ⟨8 + h.val, by omega⟩ = (![cut0 c, cut1 c, cut2 c, cut3 c] : Fin 4 → FVec Ideal S256x1 .f32) h
    ∧ cols a b c d ⟨8 + (4 + h.val), by omega⟩ = (![cut0 d, cut1 d, cut2 d, cut3 d] : Fin 4 → FVec Ideal S256x1 .f32) h := by
  match h with
  | ⟨0, _⟩ => exact ⟨rfl, rfl, rfl, rfl⟩
  | ⟨1, _⟩ => exact ⟨rfl, rfl, rfl, rfl⟩
  | ⟨2, _⟩ => exact ⟨rfl, rfl, rfl, rfl⟩
  | ⟨3, _⟩ => exact ⟨rfl, rfl, rfl, rfl⟩

theorem cast_at (M : FVec Ideal S256x16 .f32) (c : Fin 16) : shapeCast S1x256x16 M shapeCasts_S256x16_S1x256x16 (ix3 0 r c) = M (ix2 r c) := by
  pointwise

theorem cols_at' (a0 a1 a2 a3 a4 a5 a6 a7 a8 a9 a10 a11 a12 a13 a14 a15 : FVec Ideal S256x1 .f32) (h) (c : Fin 16) :
    concatenate S256x16 1 [⟨S256x1, a0⟩, ⟨S256x1, a1⟩, ⟨S256x1, a2⟩, ⟨S256x1, a3⟩, ⟨S256x1, a4⟩, ⟨S256x1, a5⟩, ⟨S256x1, a6⟩, ⟨S256x1, a7⟩, ⟨S256x1, a8⟩, ⟨S256x1, a9⟩, ⟨S256x1, a10⟩, ⟨S256x1, a11⟩, ⟨S256x1, a12⟩, ⟨S256x1, a13⟩, ⟨S256x1, a14⟩, ⟨S256x1, a15⟩] h (ix2 r c)
      = (![a0, a1, a2, a3, a4, a5, a6, a7, a8, a9, a10, a11, a12, a13, a14, a15] : Fin 16 → FVec Ideal S256x1 .f32) c (ix2 r 0) := cols_at r ![a0, a1, a2, a3, a4, a5, a6, a7, a8, a9, a10, a11, a12, a13, a14, a15] h c

/-- The block of maxima and sums, column by column. -/
theorem pay27_at (v93 v94 v96 v97 v99 v100 v102 v103 : FVec Ideal S256x1 .f32) (c : Fin 16) :
    k0_pay27 (F := Ideal) v93 v94 v96 v97 v99 v100 v102 v103 s (ix3 0 r c) = (![v93, v96, v99, v102, cut0 (k0_pay24 s), cut1 (k0_pay24 s), cut2 (k0_pay24 s), cut3 (k0_pay24 s),
      v94, v97, v100, v103, cut0 (sumCol s), cut1 (sumCol s), cut2 (sumCol s), cut3 (sumCol s)] : Fin 16 → FVec Ideal S256x1 .f32) c (ix2 r 0) := by
  unfold k0_pay27
  dsimp only
  refine (cast_at r _ c).trans ((cols_at' r _ _ _ _ _ _ _ _ _ _ _ _ _ _ _ _ _ c).trans ?_)
  rfl

theorem mlBlk_col (c : Fin 16) : mlBlk (F := Ideal) wq x (kk 0) (kk 1) (ix3 0 r c)
    = cols (k0_pay5 (k0_pay3 wq x) (kk 0)) (k0_pay24 (k0_pay22 (k0_pay2 wq x) (kk 1))) (k0_pay7 (k0_pay3 wq x) (kk 0))
      (sumCol (k0_pay22 (k0_pay2 wq x) (kk 1))) c (ix2 r 0) :=
  pay27_at _ r _ _ _ _ _ _ _ _ c

/-- A head is one of the first group's or one of the second's. -/
theorem head_cases {P : Fin 8 → Prop} (h₁ : ∀ h : Fin 4, P ⟨h.val, by omega⟩) (h₂ : ∀ h : Fin 4, P ⟨4 + h.val, by omega⟩) (h : Fin 8) : P h := by
  rcases Nat.lt_or_ge h.val 4 with hh | hh
  · exact h₁ ⟨h.val, hh⟩
  · have := h₂ ⟨h.val - 4, by have := h.isLt; omega⟩
    rwa [show (⟨4 + (h.val - 4), by omega⟩ : Fin 8) = h from Fin.ext (by show 4 + (h.val - 4) = h.val; omega)] at this

theorem grp_first (h : Fin 4) : grp ⟨h.val, by omega⟩ = 0 := Fin.ext (by show h.val / 4 = 0; omega)
theorem grp_second (h : Fin 4) : grp ⟨4 + h.val, by omega⟩ = 1 := Fin.ext (by show (4 + h.val) / 4 = 1; omega)

/-- The maxima of one batch. -/
theorem mlBlk_max (h : Fin 8) : mlBlk (F := Ideal) wq x (kk 0) (kk 1) (ix3 0 r ⟨h.val, by omega⟩) = bMax wq x (kk (grp h)) h r := by
  rw [mlBlk_col]
  revert h
  refine head_cases (fun h => ?_) fun h => ?_
  · rw [grp_first, (cols_cut _ _ _ _ h).1, cut_at]
    exact first_max wq x (kk 0) h r _ rfl
  · rw [grp_second, (cols_cut _ _ _ _ h).2.1, cut_at]
    exact second_max wq x (kk 1) h r _ rfl

/-- The sums of one batch. -/
theorem mlBlk_sum (h : Fin 8) : mlBlk (F := Ideal) wq x (kk 0) (kk 1) (ix3 0 r ⟨8 + h.val, by omega⟩) = bSum wq x (kk (grp h)) h r := by
  rw [mlBlk_col]
  revert h
  refine head_cases (fun h => ?_) fun h => ?_
  · rw [grp_first, (cols_cut _ _ _ _ h).2.2.1, cut_at]
    exact first_sum wq x (kk 0) h r _ rfl
  · rw [grp_second, (cols_cut _ _ _ _ h).2.2.2, cut_at, sumCol_at]
    exact second_sum wq x (kk 1) r h _ rfl

end

end Cert.Attn

end
-- ==== Proof.Value.Merge.lean ====
/-
What a device makes of the rows it has received and its own: the merge of the sixteen partial softmaxes and the product with
the last weight, entry by entry.
-/
module

public import proofs.«01_k».proof.Proof.Value.Block

@[expose] public section

noncomputable section

namespace Cert.Attn

open Idealize.ShloMosaic
open Cert.KernelIdeal Cert.KernelIdeal.Gen Cert.KernelIdeal.Mesh

variable (ro : Vec Ideal S15x4x16x8x128 .bf16) (rm rl : Vec Ideal S15x4x16x8 .f32) (o : Vec Ideal S4x16x8x128 .bf16) (m l : Vec Ideal S4x16x8 .f32)
  (wo : Vec Ideal S1024x1024 .bf16)

/-- The head and the place in it of a column. -/
def hd (i : Fin 1024) : Fin 8 := ⟨i.val / 128, by omega⟩
def pos (i : Fin 1024) : Fin 128 := ⟨i.val % 128, by omega⟩

section
variable (b : Fin 4) (r : Fin 16) (h : Fin 8) (d : Fin 128)

/-- The whole maximum; -/
def mTop : EReal := max (peak fun t : Fin 15 => rm (ix4 t b r h)) (m (ix3 b r h))
/-- the whole weighted sum; -/
def mOut : EReal := (∑ t : Fin 15, ro (ix5 t b r h d) * Ideal.exp (rm (ix4 t b r h) - mTop rm m b r h))
  + o (ix4 b r h d) * Ideal.exp (m (ix3 b r h) - mTop rm m b r h)
/-- the whole sum of weights. -/
def mSum : EReal := (∑ t : Fin 15, rl (ix4 t b r h) * Ideal.exp (rm (ix4 t b r h) - mTop rm m b r h))
  + l (ix3 b r h) * Ideal.exp (m (ix3 b r h) - mTop rm m b r h)

theorem pay115_at : k0_pay115 (F := Ideal) rm m (ix3 b r h) = mTop rm m b r h := by
  pointwise [k0_pay115, mTop]
  rw [ofBits_bot]
  rfl

end

/-- A finished row, before it is sent. -/
theorem finOf_at (b : Fin 4) (r : Fin 16) (n : Fin 1024) : finOf (F := Ideal) ro rm rl o m l wo (ix3 b r n)
    = ∑ i : Fin 1024, Ideal.div (mOut ro rm o m b r (hd i) (pos i)) (mSum rm rl m l b r (hd i)) * wo (ix2 i n) := by
  pointwise [finOf, k0_pay120, k0_pay119, k0_pay118, k0_pay117, k0_pay116, k0_pay114]
  simp only [pay115_at]
  fin_cases b <;> simp only [Nat.reduceSub, Nat.reduceLT, ↓reduceDIte, Nat.one_lt_ofNat, lt_self_iff_false, zero_lt_one] <;> rfl

/-- As sent, the same. -/
theorem finB_at (b : Fin 4) (r : Fin 16) (n : Fin 1024) : finB (F := Ideal) ro rm rl o m l wo (ix3 b r n) = finOf (F := Ideal) ro rm rl o m l wo (ix3 b r n) := by
  pointwise [finB, k0_pay121, finOf]

/-- As received and cast back, too. -/
theorem pay122_at (y : Vec Ideal S4x16x1024 .bf16) (b : Fin 4) (r : Fin 16) (n : Fin 1024) : k0_pay122 (F := Ideal) y (ix3 b r n) = y (ix3 b r n) := by
  pointwise [k0_pay122]

end Cert.Attn

end
-- ==== Proof.Value.Whole.lean ====
/-
What every device's result holds: for each row, every head's softmax over all devices' keys, weighted by all devices' values,
then the product with the last weight.
-/
module

public import proofs.«01_k».proof.Proof.Value.Merge
public import Idealize.ShloMosaic.Lib.Pointwise.IndexBridge
public import Idealize.ShloMosaic.Lib.VecWindow

@[expose] public section

noncomputable section

namespace Cert.Attn

open Idealize.ShloMosaic
open Cert.KernelIdeal Cert.KernelIdeal.Gen Cert.KernelIdeal.Mesh

/-! ## What is loaded -/

/-- The index a window of unit stride reads at: its offset and the index within. -/
theorem unit_idx {s : Shape} {off size : Fin s.rank → ℕ} {inb : ∀ a, off a + size a ≤ s.size a} (y : (Rect.unit off size inb).toLoadRect.shape.Idx)
    {i : s.Idx} (h : ∀ a, off a + (y a).val = (i a).val) : (Rect.unit off size inb).toLoadRect.idx y = i :=
  funext fun a => Fin.ext (show off a + 1 * (y a).val = (i a).val by rw [Nat.one_mul]; exact h a)

section
variable (X : Ins Ideal)

/-- A weight as loaded is the weight; -/
theorem wqL_at (i n : Fin 1024) : X.wqL (ix2 i n) = X.wq (ix2 i n) :=
  congrArg X.wq (unit_idx (s := S1024x1024) _ fun a => by match a with | 0 => exact Nat.zero_add _ | 1 => exact Nat.zero_add _)

theorem woL_at (i n : Fin 1024) : X.woL (ix2 i n) = X.wo (ix2 i n) :=
  congrArg X.wo (unit_idx (s := S1024x1024) _ fun a => by match a with | 0 => exact Nat.zero_add _ | 1 => exact Nat.zero_add _)

/-- a batch's rows, that batch's; -/
theorem xL_at (b : Fin 4) (r : Fin 256) (i : Fin 1024) : X.xL b (ix3 0 r i) = X.x (ix3 b r i) :=
  congrArg X.x (unit_idx (s := S4x256x1024) _ fun a => by
    match a with | 0 => exact Nat.add_zero _ | 1 => exact Nat.zero_add _ | 2 => exact Nat.zero_add _)

/-- its keys and its values of a group, those. -/
theorem kL_at (b : Fin 4) (g : Fin 2) (j : Fin 1024) (d : Fin 128) : X.kL b g (ix4 0 j 0 d) = X.k (ix4 b j g d) :=
  congrArg X.k (unit_idx (s := S4x1024x2x128) _ fun a => by
    match a with | 0 => exact Nat.add_zero _ | 1 => exact Nat.zero_add _ | 2 => exact Nat.add_zero _ | 3 => exact Nat.zero_add _)

theorem vL_at (b : Fin 4) (g : Fin 2) (j : Fin 1024) (d : Fin 128) : X.vL b g (ix4 0 j 0 d) = X.v (ix4 b j g d) :=
  congrArg X.v (unit_idx (s := S4x1024x2x128) _ fun a => by
    match a with | 0 => exact Nat.add_zero _ | 1 => exact Nat.zero_add _ | 2 => exact Nat.add_zero _ | 3 => exact Nat.zero_add _)

/-- The score of a row and a device's key, from the argument blocks. -/
def dsc (b : Fin 4) (h : Fin 8) (r : Fin 256) (j : Fin 1024) : EReal :=
  (∑ d : Fin 128, (∑ i : Fin 1024, X.x (ix3 b r i) * X.wq (ix2 i (col h d))) * X.k (ix4 b j (grp h) d)) * scale

theorem sc_eq (b : Fin 4) (h : Fin 8) (r : Fin 256) (j : Fin 1024) : sc X.wqL (X.xL b) (X.kL b (grp h)) h r j = dsc X b h r j := by
  simp only [sc, qry, dsc, wqL_at, xL_at, kL_at]

/-- One batch's partial outputs, maxima and sums, from the argument blocks. -/
theorem o_at (b : Fin 4) (r : Fin 256) (h : Fin 8) (d : Fin 128) :
    X.o b (ix4 0 r h d) = ∑ j, Ideal.exp (dsc X b h r j - peak (dsc X b h r)) * X.v (ix4 b j (grp h) d) := by
  rw [Ins.o, oBlk_at]
  simp only [bOut, bMax, sc_eq, vL_at, funext (sc_eq X b h r)]

theorem ml_max_at (b : Fin 4) (r : Fin 256) (h : Fin 8) : X.ml b (ix3 0 r ⟨h.val, by omega⟩) = peak (dsc X b h r) := by
  rw [Ins.ml, mlBlk_max]
  simp only [bMax, funext (sc_eq X b h r)]

theorem ml_sum_at (b : Fin 4) (r : Fin 256) (h : Fin 8) :
    X.ml b (ix3 0 r ⟨8 + h.val, by omega⟩) = ∑ j, Ideal.exp (dsc X b h r j - peak (dsc X b h r)) := by
  rw [Ins.ml, mlBlk_sum]
  simp only [bSum, bMax, sc_eq, funext (sc_eq X b h r)]

end

/-! ## What is merged -/

section
variable (I : Dev nD → Ins Ideal) (c : Dev nD)

/-- The sender of a slot is the device so many places back. -/
theorem peer_rev (t : Fin 15) : peer c (rev t) = back c t :=
  Fin.ext (by show (c.val + (1 + (14 - t.val))) % 16 = (c.val + 15 - t.val) % 16; congr 1; omega)

theorem obOf_at (b : Fin 4) (r : Fin 256) (h : Fin 8) (d : Fin 128) : obOf I c (ix4 b r h d) = (I c).o b (ix4 0 r h d) :=
  congrArg ((I c).o b) (ix4_eq_valueIdx 0 r h d).symm

theorem mlOf_at (b : Fin 4) (r : Fin 256) (h : Fin 16) : mlOf I c (ix3 b r h) = (I c).ml b (ix3 0 r h) :=
  congrArg ((I c).ml b) (ix3_eq_valueIdx 0 r h).symm

/-- What a slot of the receive buffers holds: the sender's rows. -/
theorem ro_at (t : Fin 15) (b : Fin 4) (r : Fin 16) (h : Fin 8) (d : Fin 128) :
    (pre I).ro c (ix5 t b r h d) = (I (back c t)).o b (ix4 0 (row c r) h d) := by
  rw [← peer_rev, ← obOf_at, ix4_eq_valueIdx]
  rfl

theorem rm_at (t : Fin 15) (b : Fin 4) (r : Fin 16) (h : Fin 16) :
    (pre I).rm c (ix4 t b r h) = (I (back c t)).ml b (ix3 0 (row c r) h) := by
  rw [← peer_rev, ← mlOf_at, ix3_eq_valueIdx]
  rfl

/-- The received partial outputs, maxima and sums, as loaded; -/
theorem roL_at (t : Fin 15) (b : Fin 4) (r : Fin 16) (h : Fin 8) (d : Fin 128) :
    roL' I c (ix5 t b r h d) = (I (back c t)).o b (ix4 0 (row c r) h d) := by
  rw [← ro_at]
  unfold roL'
  generalize (pre I).ro c = f
  exact congrArg f (unit_idx (s := S15x4x16x8x128) (i := ix5 t b r h d) _ fun a => by
    match a with | 0 => exact Nat.zero_add _ | 1 => exact Nat.zero_add _ | 2 => exact Nat.zero_add _ | 3 => exact Nat.zero_add _ | 4 => exact Nat.zero_add _)

theorem rmL_at (t : Fin 15) (b : Fin 4) (r : Fin 16) (h : Fin 8) :
    rmL' I c (ix4 t b r h) = (I (back c t)).ml b (ix3 0 (row c r) ⟨h.val, by omega⟩) := by
  rw [← rm_at]
  unfold rmL'
  generalize (pre I).rm c = f
  exact congrArg f (unit_idx (s := S15x4x16x16) (i := ix4 t b r ⟨h.val, by omega⟩) _ fun a => by
    match a with | 0 => exact Nat.zero_add _ | 1 => exact Nat.zero_add _ | 2 => exact Nat.zero_add _ | 3 => exact Nat.zero_add _)

theorem rlL_at (t : Fin 15) (b : Fin 4) (r : Fin 16) (h : Fin 8) :
    rlL' I c (ix4 t b r h) = (I (back c t)).ml b (ix3 0 (row c r) ⟨8 + h.val, by omega⟩) := by
  rw [← rm_at]
  unfold rlL'
  generalize (pre I).rm c = f
  exact congrArg f (unit_idx (s := S15x4x16x16) (i := ix4 t b r ⟨8 + h.val, by omega⟩) _ fun a => by
    match a with | 0 => exact Nat.zero_add _ | 1 => exact Nat.zero_add _ | 2 => exact Nat.zero_add _ | 3 => rfl)

/-- the device's own. -/
theorem ownO_at (b : Fin 4) (r : Fin 16) (h : Fin 8) (d : Fin 128) : ownO I c (ix4 b r h d) = (I c).o b (ix4 0 (row c r) h d) := by
  rw [← obOf_at]
  refine congrArg (obOf I c) (unit_idx (s := S4x256x8x128) (i := ix4 b (row c r) h d) _ fun a => ?_)
  refine (congrArg (· + (ix4 b r h d a).val) (congrFun (k0_off6_eq c) a)).trans ?_
  match a with | 0 => exact Nat.zero_add _ | 1 => rfl | 2 => exact Nat.zero_add _ | 3 => exact Nat.zero_add _

theorem ownM_at (b : Fin 4) (r : Fin 16) (h : Fin 8) : ownM I c (ix3 b r h) = (I c).ml b (ix3 0 (row c r) ⟨h.val, by omega⟩) := by
  rw [← mlOf_at]
  refine congrArg (mlOf I c) (unit_idx (s := S4x256x16) (i := ix3 b (row c r) ⟨h.val, by omega⟩) _ fun a => ?_)
  refine (congrArg (· + (ix3 b r h a).val) (congrFun (k0_off7_eq c) a)).trans ?_
  match a with | 0 => exact Nat.zero_add _ | 1 => rfl | 2 => exact Nat.zero_add _

theorem ownL_at (b : Fin 4) (r : Fin 16) (h : Fin 8) : ownL I c (ix3 b r h) = (I c).ml b (ix3 0 (row c r) ⟨8 + h.val, by omega⟩) := by
  rw [← mlOf_at]
  refine congrArg (mlOf I c) (unit_idx (s := S4x256x16) (i := ix3 b (row c r) ⟨8 + h.val, by omega⟩) _ fun a => ?_)
  refine (congrArg (· + (ix3 b r h a).val) (congrFun (k0_off8_eq c) a)).trans ?_
  match a with | 0 => exact Nat.zero_add _ | 1 => rfl | 2 => rfl

/-- All devices' scores of a row. -/
def gsc (b : Fin 4) (h : Fin 8) (r : Fin 256) : Fin 16 → Fin 1024 → EReal := fun e => dsc (I e) b h r

variable (b : Fin 4) (r : Fin 16) (h : Fin 8) (d : Fin 128)

/-- The merged maximum is the maximum over all devices' keys; -/
theorem top_eq : mTop (rmL' I c) (ownM I c) b r h = peaks (gsc I b h (row c r)) := by
  simp only [mTop, rmL_at, ownM_at, ml_max_at]
  exact peak_others c fun e => peak (dsc (I e) b h (row c r))

/-- the merged sum of weights, the sum over all of them; -/
theorem mSum_eq : mSum (rmL' I c) (rlL' I c) (ownM I c) (ownL I c) b r h
    = ∑ e, ∑ j, Ideal.exp (gsc I b h (row c r) e j - peaks (gsc I b h (row c r))) := by
  simp only [mSum, top_eq, rmL_at, rlL_at, ownM_at, ownL_at, ml_max_at, ml_sum_at]
  exact (sum_others c fun e => (∑ j, Ideal.exp (gsc I b h (row c r) e j - peak (gsc I b h (row c r) e)))
      * Ideal.exp (peak (gsc I b h (row c r) e) - peaks (gsc I b h (row c r)))).trans (Finset.sum_congr rfl fun e _ => sum_step _ e)

/-- the merged weighted sum, the weighted sum of all their values. -/
theorem mOut_eq : mOut (roL' I c) (rmL' I c) (ownO I c) (ownM I c) b r h d
    = ∑ e, ∑ j, Ideal.exp (gsc I b h (row c r) e j - peaks (gsc I b h (row c r))) * (I e).v (ix4 b j (grp h) d) := by
  simp only [mOut, top_eq, rmL_at, roL_at, ownM_at, ownO_at, ml_max_at, o_at]
  exact (sum_others c fun e => (∑ j, Ideal.exp (gsc I b h (row c r) e j - peak (gsc I b h (row c r) e)) * (I e).v (ix4 b j (grp h) d))
      * Ideal.exp (peak (gsc I b h (row c r) e) - peaks (gsc I b h (row c r)))).trans
    (Finset.sum_congr rfl fun e _ => wsum_step _ (fun e j => (I e).v (ix4 b j (grp h) d)) e)

end

/-! ## The result -/

section
variable (I : Dev nD → Ins Ideal) (wo : Vec Ideal S1024x1024 .bf16) (hwo : ∀ c, (I c).wo = wo)

/-- One entry of a row's attention: the weighted mean of all values. -/
def mean (b : Fin 4) (R : Fin 256) (h : Fin 8) (d : Fin 128) : EReal :=
  Ideal.div (∑ e, ∑ j, Ideal.exp (gsc I b h R e j - peaks (gsc I b h R)) * (I e).v (ix4 b j (grp h) d))
    (∑ e, ∑ j, Ideal.exp (gsc I b h R e j - peaks (gsc I b h R)))

include hwo in
theorem fin_at (c : Dev nD) (b : Fin 4) (r : Fin 16) (n : Fin 1024) :
    fin I c (ix3 b r n) = ∑ i, mean I b (row c r) (hd i) (pos i) * wo (ix2 i n) := by
  rw [fin, finOf_at]
  simp only [mOut_eq, mSum_eq, woL_at, hwo, mean]

theorem row_dev (R : Fin 256) : row (rowDev R) (rowIn R) = R :=
  Fin.ext (by show 16 * (R.val / 16) + R.val % 16 = R.val; omega)

include hwo in
/-- What every device's result holds. -/
theorem outOf_at (c : Dev nD) (b : Fin 4) (R : Fin 256) (n : Fin 1024) :
    outOf I c (ix3 b R n) = ∑ i, mean I b R (hd i) (pos i) * wo (ix2 i n) := by
  have key : fin I (rowDev R) (ix3 b (rowIn R) n) = ∑ i, mean I b R (hd i) (pos i) * wo (ix2 i n) := by
    rw [fin_at I wo hwo, row_dev]
  show (if R.val / 16 = c.val then fin I (rowDev R) (ValueIdx.ix3 b (rowIn R) n)
    else k0_pay122 (finS I (rowDev R)) (ValueIdx.ix3 b (rowIn R) n)) = _
  rw [← ix3_eq_valueIdx]
  split
  · exact key
  · refine (pay122_at _ b (rowIn R) n).trans ?_
    exact (finB_at _ _ _ _ _ _ _ b (rowIn R) n).trans key

end

end Cert.Attn

end
-- ==== Proof.Value.Reference.lean ====
/-
What the reference's result holds: the same softmax over all keys at once, entry by entry.
-/
module

public import proofs.«01_k».proof.Proof.Value.Merge
public import proofs.«01_k».proof.Proof.Gen.ReferenceIdeal.Run
public import Idealize.ShloMosaic.Lib.Pointwise

@[expose] public section

noncomputable section

namespace Cert.Attn.Ref

open Idealize.ShloMosaic Idealize.ShloMosaic.TcCoe
open Cert.ReferenceIdeal Cert.ReferenceIdeal.Gen

/-! ## The stages -/

section
variable (x : FVec Ideal S4x256x1024 .bf16) (wq wo : FVec Ideal S1024x1024 .bf16) (k v : FVec Ideal S4x16384x2x128 .bf16)

/-- The queries, cut into heads. -/
def qs : FVec Ideal S4x256x8x128 .f32 :=
  shapeCast _ (extf .f32 (truncf .bf16 (Host.dotGeneral dot_S4x256x1024_S1024x1024_S4x256x1024_2_0_01_1_n_n none (extf .f32 x bitsLt_bf16_f32) (extf .f32 wq bitsLt_bf16_f32)) bitsLt_bf16_f32) bitsLt_bf16_f32) shapeCasts_S4x256x1024_S4x256x8x128
/-- The keys, or the values, repeated over the heads of a group. -/
def rep : FVec Ideal S4x16384x8x128 .f32 :=
  shapeCast _ (broadcastInDim S4x16384x2x4x128 ![0, 1, 2, 4] bcast_S4x16384x2x128_S4x16384x2x4x128_0_1_2_4 (extf .f32 k bitsLt_bf16_f32)) shapeCasts_S4x16384x2x4x128_S4x16384x8x128
/-- The scaled scores. -/
def scores (q : FVec Ideal S4x256x8x128 .f32) (kr : FVec Ideal S4x16384x8x128 .f32) : FVec Ideal S4x8x256x16384 .f32 :=
  mulf (extf .f32 (truncf .bf16 (Host.dotGeneral dot_S4x256x8x128_S4x16384x8x128_S4x8x256x16384_3_3_1_1_02_02 none q kr) bitsLt_bf16_f32) bitsLt_bf16_f32)
    (broadcastInDim S4x8x256x16384 ![] bcast_S_S4x8x256x16384 (constant S_ .f32 0x3DB504F3#32))
/-- The rows' maxima. -/
def tops (s : FVec Ideal S4x8x256x16384 .f32) : FVec Ideal S4x8x256 .f32 :=
  Host.reduce FloatOps.maximumf s (constant S_ .f32 0xFF800000#32) reducesTo_S4x8x256x16384_S4x8x256_d3 h_S_
/-- The weights. -/
def wts (s : FVec Ideal S4x8x256x16384 .f32) (t : FVec Ideal S4x8x256 .f32) : FVec Ideal S4x8x256x16384 .f32 :=
  Host.exp (subf s (broadcastInDim S4x8x256x16384 ![0, 1, 2, 3] bcast_S4x8x256x1_S4x8x256x16384_0_1_2_3 (broadcastInDim S4x8x256x1 ![0, 1, 2] bcast_S4x8x256_S4x8x256x1_0_1_2 t)))
/-- The rows' sums. -/
def tots (p : FVec Ideal S4x8x256x16384 .f32) : FVec Ideal S4x8x256 .f32 :=
  Host.reduceAdd p (constant S_ .f32 0x00000000#32) reducesTo_S4x8x256x16384_S4x8x256_d3 h_S_
/-- The weighted sums of the values. -/
def wsum (vr : FVec Ideal S4x16384x8x128 .f32) (p : FVec Ideal S4x8x256x16384 .f32) : FVec Ideal S4x8x128x256 .f32 :=
  Host.dotGeneral dot_S4x16384x8x128_S4x8x256x16384_S4x8x128x256_1_3_3_2_02_01 none vr p
/-- The quotients. -/
def quot (o : FVec Ideal S4x8x128x256 .f32) (l : FVec Ideal S4x8x256 .f32) : FVec Ideal S4x256x8x128 .f32 :=
  Host.divf (transpose S4x256x8x128 [0, 3, 1, 2] o transposes_S4x8x128x256_S4x256x8x128_0_3_1_2)
    (broadcastInDim S4x256x8x128 ![0, 1, 2, 3] bcast_S4x256x8x1_S4x256x8x128_0_1_2_3 (transpose S4x256x8x1 [0, 2, 1, 3] (broadcastInDim S4x8x256x1 ![0, 1, 2] bcast_S4x8x256_S4x8x256x1_0_1_2 l) transposes_S4x8x256x1_S4x256x8x1_0_2_1_3))
/-- The last product. -/
def last (a : FVec Ideal S4x256x8x128 .f32) : FVec Ideal S4x256x1024 .f32 :=
  Host.dotGeneral dot_S4x256x1024_S1024x1024_S4x256x1024_2_0_01_1_n_n none (shapeCast _ a shapeCasts_S4x256x8x128_S4x256x1024) (extf .f32 wo bitsLt_bf16_f32)

/-- The whole. -/
def whole : FVec Ideal S4x256x1024 .f32 :=
  last wo (quot (wsum (rep v) (wts (scores (qs x wq) (rep k)) (tops (scores (qs x wq) (rep k))))) (tots (wts (scores (qs x wq) (rep k)) (tops (scores (qs x wq) (rep k))))))

end

/-- The program's result is that composition. -/
theorem res_eq (m : (ℓ : Loc nD τ sig) → Buf (Elt Ideal) ℓ) (c : Dev nD) :
    Value.res_main_v31 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v31
  rfl

/-! ## Entry by entry -/

section
variable (x : FVec Ideal S4x256x1024 .bf16) (wq wo : FVec Ideal S1024x1024 .bf16) (k : FVec Ideal S4x16384x2x128 .bf16)
  (q : FVec Ideal S4x256x8x128 .f32) (kr : FVec Ideal S4x16384x8x128 .f32) (s : FVec Ideal S4x8x256x16384 .f32) (t : FVec Ideal S4x8x256 .f32)
  (o : FVec Ideal S4x8x128x256 .f32) (a : FVec Ideal S4x256x8x128 .f32)
  (b : Fin 4) (r : Fin 256) (h : Fin 8) (d : Fin 128) (j : Fin 16384) (n : Fin 1024)

/-- Each stage, entry by entry. -/
theorem qs_at : qs x wq (ix4 b r h d) = ∑ i : Fin 1024, x (ix3 b r i) * wq (ix2 i ⟨h.val * 128 + d.val, by omega⟩) := by
  pointwise [qs]

theorem rep_at : rep k (ix4 b j h d) = k (ix4 b j ⟨h.val / 4, by omega⟩ d) := by
  pointwise [rep]

theorem scores_at : scores q kr (ix4 b h r j) = (∑ d : Fin 128, q (ix4 b r h d) * kr (ix4 b j h d)) * Ideal.ofBits .f32 0x3DB504F3#32 := by
  pointwise [scores]

theorem tops_at : tops s (ix3 b h r) = peak fun j => s (ix4 b h r j) := by
  pointwise [tops]
  rw [ofBits_bot]
  rfl

theorem wts_at : wts s t (ix4 b h r j) = Ideal.exp (s (ix4 b h r j) - t (ix3 b h r)) := by
  pointwise [wts]

theorem tots_at : tots s (ix3 b h r) = ∑ j, s (ix4 b h r j) := by
  pointwise [tots]

theorem wsum_at : wsum kr s (ix4 b h d r) = ∑ j, kr (ix4 b j h d) * s (ix4 b h r j) := by
  pointwise [wsum]

theorem quot_at : quot o t (ix4 b r h d) = Ideal.div (o (ix4 b h d r)) (t (ix3 b h r)) := by
  pointwise [quot]

theorem last_at : last wo a (ix3 b r n) = ∑ i : Fin 1024, a (ix4 b r ⟨i.val / 128, by omega⟩ ⟨i.val % 128, by omega⟩) * wo (ix2 i n) := by
  pointwise [last]

end

section
variable (x : FVec Ideal S4x256x1024 .bf16) (wq wo : FVec Ideal S1024x1024 .bf16) (k v : FVec Ideal S4x16384x2x128 .bf16)
  (b : Fin 4) (r : Fin 256) (h : Fin 8) (j : Fin 16384) (n : Fin 1024)

/-- The score of a row and a key. -/
def rsc : EReal :=
  (∑ d : Fin 128, (∑ i : Fin 1024, x (ix3 b r i) * wq (ix2 i (col h d))) * k (ix4 b j (grp h) d)) * scale

theorem scores_eq : scores (qs x wq) (rep k) (ix4 b h r j) = rsc x wq k b r h j := by
  rw [scores_at]
  simp only [qs_at, rep_at]
  rfl

theorem tops_eq : tops (scores (qs x wq) (rep k)) (ix3 b h r) = peak (rsc x wq k b r h) := by
  rw [tops_at]
  exact congrArg peak (funext (scores_eq x wq k b r h))

theorem wts_eq : wts (scores (qs x wq) (rep k)) (tops (scores (qs x wq) (rep k))) (ix4 b h r j)
    = Ideal.exp (rsc x wq k b r h j - peak (rsc x wq k b r h)) := by
  rw [wts_at, scores_eq, tops_eq]

theorem rep_eq (d : Fin 128) : rep v (ix4 b j h d) = v (ix4 b j (grp h) d) := rep_at v b h d j

theorem last_eq (a : FVec Ideal S4x256x8x128 .f32) : last wo a (ix3 b r n) = ∑ i : Fin 1024, a (ix4 b r (hd i) (pos i)) * wo (ix2 i n) :=
  last_at wo a b r n

/-- What the result holds. -/
theorem whole_at : whole x wq wo k v (ix3 b r n) = ∑ i : Fin 1024,
    Ideal.div (∑ j, Ideal.exp (rsc x wq k b r (hd i) j - peak (rsc x wq k b r (hd i))) * v (ix4 b j (grp (hd i)) (pos i)))
      (∑ j, Ideal.exp (rsc x wq k b r (hd i) j - peak (rsc x wq k b r (hd i)))) * wo (ix2 i n) := by
  rw [whole, last_eq]
  refine Finset.sum_congr rfl fun i _ => congrArg (· * wo (ix2 i n)) ?_
  rw [quot_at, wsum_at, tots_at]
  refine congrArg₂ Ideal.div (Finset.sum_congr rfl fun j _ => ?_) (Finset.sum_congr rfl fun j _ => wts_eq x wq k b r (hd i) j)
  rw [wts_eq, rep_eq, mul_comm]

end

end Cert.Attn.Ref

end
-- ==== Proof.Value.Equation.lean ====
/-
The two results are one array: the softmax over all keys at once is the softmax over each device's keys, merged.
-/
module

public import proofs.«01_k».proof.Proof.Value.Whole
public import proofs.«01_k».proof.Proof.Value.Reference

@[expose] public section

noncomputable section

namespace Cert.Attn

open Idealize.ShloMosaic
open Cert.KernelIdeal Cert.KernelIdeal.Mesh

/-- The keys, and the values, are sixteen blocks along the sequence. -/
theorem tiles : Layout.Tiles ⟨4, ![4, 1024, 2, 128]⟩ ⟨4, ![4, 16384, 2, 128]⟩ 1 16 := by decide

/-- Where a device's block of the keys or values lies in the whole. -/
theorem block_at (w : (⟨4, ![4, 16384, 2, 128]⟩ : Shape).Idx → EReal) (h : Layout.Tiles ⟨4, ![4, 1024, 2, 128]⟩ ⟨4, ![4, 16384, 2, 128]⟩ 1 16)
    (c : Fin 16) (b : Fin 4) (j : Fin 1024) (g : Fin 2) (d : Fin 128) :
    Layout.block ⟨4, ![4, 1024, 2, 128]⟩ ⟨4, ![4, 16384, 2, 128]⟩ 1 16 c w h (ix4 b j g d) = w (ix4 b (key c j) g d) :=
  congrArg w (funext fun a => Fin.ext (by match a with | 0 => rfl | 1 => rfl | 2 => rfl | 3 => rfl))

variable (I : Dev nD → Ins Ideal) (x : Vec Ideal S4x256x1024 .bf16) (wq wo : Vec Ideal S1024x1024 .bf16)
  (k v : (⟨4, ![4, 16384, 2, 128]⟩ : Shape).Idx → EReal)
  (hx : ∀ c, (I c).x = x) (hwq : ∀ c, (I c).wq = wq) (hwo : ∀ c, (I c).wo = wo)
  (hk : ∀ c, (I c).k = Layout.block ⟨4, ![4, 1024, 2, 128]⟩ ⟨4, ![4, 16384, 2, 128]⟩ 1 16 c k tiles)
  (hv : ∀ c, (I c).v = Layout.block ⟨4, ![4, 1024, 2, 128]⟩ ⟨4, ![4, 16384, 2, 128]⟩ 1 16 c v tiles)

include hx hwq hk in
/-- A device's score of one of its keys is the reference's score of that key. -/
theorem gsc_eq (b : Fin 4) (h : Fin 8) (r : Fin 256) : gsc I b h r = fun e j => Ref.rsc x wq k b r h (key e j) := by
  funext e j
  simp only [gsc, dsc, Ref.rsc, hx, hwq, hk, block_at]

include hx hwq hk hv in
/-- So is the weighted mean of the values. -/
theorem mean_eq (b : Fin 4) (r : Fin 256) (h : Fin 8) (d : Fin 128) : mean I b r h d
    = Ideal.div (∑ j, Ideal.exp (Ref.rsc x wq k b r h j - peak (Ref.rsc x wq k b r h)) * v (ix4 b j (grp h) d))
      (∑ j, Ideal.exp (Ref.rsc x wq k b r h j - peak (Ref.rsc x wq k b r h))) := by
  rw [sum_keys, sum_keys, peak_keys]
  simp only [mean, gsc_eq I x wq k hx hwq hk, hv, block_at]

include hx hwq hwo hk hv in
theorem out_at (c : Dev nD) (b : Fin 4) (r : Fin 256) (n : Fin 1024) : outOf I c (ix3 b r n) = Ref.whole x wq wo k v (ix3 b r n) := by
  rw [outOf_at I wo hwo, Ref.whole_at]
  exact Finset.sum_congr rfl fun i _ => congrArg (· * wo (ix2 i n)) (mean_eq I x wq k v hx hwq hk hv b r (hd i) (pos i))

include hx hwq hwo hk hv in
/-- Every device's result is the reference's. -/
theorem out_eq (c : Dev nD) : outOf I c = Ref.whole x wq wo k v := by
  funext i
  obtain ⟨b, r, n, rfl⟩ : ∃ (b : Fin 4) (r : Fin 256) (n : Fin 1024), i = ix3 b r n := ⟨i 0, i 1, i 2, eq_ix3 i⟩
  exact out_at I x wq wo k v hx hwq hwo hk hv c b r n

end Cert.Attn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Ends
public import proofs.«01_k».proof.Proof.KernelIdeal.Ends
public import proofs.«01_k».proof.Proof.Value.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem frame_kernel : Cert.quiescent_Kernel := fun m g _ =>
  (θ_run Cert.Kernel.defs _ _).mono (fun _ h => ⟨fun c => (h.1 c).2, h.2⟩) (Cert.Kernel.Mesh.run_main m g)

theorem frame_kernelIdeal : Cert.quiescent_KernelIdeal := fun m g _ =>
  (θ_run Cert.KernelIdeal.defs _ _).mono (fun _ h => ⟨fun c => (h.1 c).2, h.2⟩) (Cert.KernelIdeal.Mesh.run_main m g)

theorem frame_referenceIdeal : Cert.quiescent_ReferenceIdeal := fun m g _ =>
  (θ_run Cert.ReferenceIdeal.defs _ _).mono (fun r h => ⟨fun c => (h c).2, sem_eq_zero_of_no_sems rfl r.2⟩) (Cert.ReferenceIdeal.Value.run m g)

/-- The idealized kernel's result on every device is the idealized reference's. -/
theorem algebraic : Cert.algebraic_KernelIdeal_ReferenceIdeal := fun m g m' g' _ hargs =>
  have out (c : Dev Cert.KernelIdeal.nD) : Cert.KernelIdeal.Mesh.outOf (Cert.KernelIdeal.Mesh.ins m) c = Cert.ReferenceIdeal.Value.res_main_v31 m' 0 :=
    (Cert.Attn.out_eq _ _ _ _ _ _ (fun d => (Cert.KernelIdeal.Mesh.ins_x m d).trans (hargs d).1)
      (fun d => (Cert.KernelIdeal.Mesh.ins_wq m d).trans (hargs d).2.1) (fun d => (Cert.KernelIdeal.Mesh.ins_wo m d).trans (hargs d).2.2.1)
      (fun d => (Cert.KernelIdeal.Mesh.ins_k m d).trans (hargs d).2.2.2.1) (fun d => (Cert.KernelIdeal.Mesh.ins_v m d).trans (hargs d).2.2.2.2) c).trans
      (Cert.Attn.Ref.res_eq m' 0).symm
  ⟨Cert.ReferenceIdeal.Value.res_main_v31 m' 0,
    (θ_run Cert.KernelIdeal.defs _ _).mono (fun _ h c => ⟨(h.1 c).1.trans (out c), (h.1 c).2⟩) (Cert.KernelIdeal.Mesh.run_main m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
